-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Experts [hPre_rows_routed : Cert.Pre_rows_routed.Facts] (m : (ℓ : Loc Cert.Experts.nD Cert.Experts.τ Cert.Experts.sig) → Buf (Elt Bits) ℓ) : Prop :=
  ∀ c : Dev Cert.Experts.nD,
    (Cert.Pre_rows_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_rows_routed : Cert.Pre_rows_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_rows_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_rows_routed [hPre_rows_routed : Cert.Pre_rows_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_rows_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectIdeal_finite_weights [hPre_finite_weights : Cert.Pre_finite_weights.Facts] (m : (ℓ : Loc Cert.ProjectIdeal.nD Cert.ProjectIdeal.τ Cert.ProjectIdeal.sig) → Buf (Elt Ideal) ℓ) : Prop :=
  ∀ c : Dev Cert.ProjectIdeal.nD,
    (Cert.Pre_finite_weights.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5)) (m ((c.tc : Thread Cert.ProjectIdeal.nD Cert.ProjectIdeal.τ).loc Cert.ProjectIdeal.main_arg6))) = (fun _ => 1#1)

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectReferenceIdeal_finite_weights [hPre_finite_weights : Cert.Pre_finite_weights.Facts] (m : (ℓ : Loc Cert.ProjectReferenceIdeal.nD Cert.ProjectReferenceIdeal.τ Cert.ProjectReferenceIdeal.sig) → Buf (Elt Ideal) ℓ) : Prop :=
  ∀ c : Dev Cert.ProjectReferenceIdeal.nD,
    (Cert.Pre_finite_weights.fn (F := Ideal) (m ((c.tc : Thread Cert.ProjectReferenceIdeal.nD Cert.ProjectReferenceIdeal.τ).loc Cert.ProjectReferenceIdeal.main_arg0)) (m ((c.tc : Thread Cert.ProjectReferenceIdeal.nD Cert.ProjectReferenceIdeal.τ).loc Cert.ProjectReferenceIdeal.main_arg1)) (m ((c.tc : Thread Cert.ProjectReferenceIdeal.nD Cert.ProjectReferenceIdeal.τ).loc Cert.ProjectReferenceIdeal.main_arg2)) (m ((c.tc : Thread Cert.ProjectReferenceIdeal.nD Cert.ProjectReferenceIdeal.τ).loc Cert.ProjectReferenceIdeal.main_arg3)) (m ((c.tc : Thread Cert.ProjectReferenceIdeal.nD Cert.ProjectReferenceIdeal.τ).loc Cert.ProjectReferenceIdeal.main_arg4)) (m ((c.tc : Thread Cert.ProjectReferenceIdeal.nD Cert.ProjectReferenceIdeal.τ).loc Cert.ProjectReferenceIdeal.main_arg5)) (m ((c.tc : Thread Cert.ProjectReferenceIdeal.nD Cert.ProjectReferenceIdeal.τ).loc Cert.ProjectReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_rows_routed : Cert.Pre_rows_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_rows_routed : Cert.Pre_rows_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_rows_routed [hExpertsReferenceIdeal : Cert.ExpertsReferenceIdeal.Facts] [hPre_rows_routed : Cert.Pre_rows_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_rows_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectIdeal_pre_finite_weights [hProjectIdeal : Cert.ProjectIdeal.Facts] [hPre_finite_weights : Cert.Pre_finite_weights.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal_finite_weights m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6))
      ∧ r.2.sem = fun _ => 0)

def quiescent_ProjectReferenceIdeal_pre_finite_weights [hProjectReferenceIdeal : Cert.ProjectReferenceIdeal.Facts] [hPre_finite_weights : Cert.Pre_finite_weights.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal_finite_weights m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_rows_routed : Cert.Pre_rows_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v37)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v37) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v58) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Project_ProjectIdeal : Prop :=
  True

def algebraic_ProjectIdeal_ProjectReferenceIdeal_pre_finite_weights [hProjectIdeal : Cert.ProjectIdeal.Facts] [hProjectReferenceIdeal : Cert.ProjectReferenceIdeal.Facts] [hPre_finite_weights : Cert.Pre_finite_weights.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal_finite_weights m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)) →
    ∃ (v0 : (c : Dev Cert.ProjectIdeal.nD) → Buf (Elt Ideal) ((c.tc : Thread Cert.ProjectIdeal.nD Cert.ProjectIdeal.τ).loc Cert.ProjectIdeal.main_v41_0)) (v1 : (c : Dev Cert.ProjectIdeal.nD) → Buf (Elt Ideal) ((c.tc : Thread Cert.ProjectIdeal.nD Cert.ProjectIdeal.τ).loc Cert.ProjectIdeal.main_v41_1)) (v2 : (c : Dev Cert.ProjectIdeal.nD) → Buf (Elt Ideal) ((c.tc : Thread Cert.ProjectIdeal.nD Cert.ProjectIdeal.τ).loc Cert.ProjectIdeal.main_v41_2)) (v3 : (c : Dev Cert.ProjectIdeal.nD) → Buf (Elt Ideal) ((c.tc : Thread Cert.ProjectIdeal.nD Cert.ProjectIdeal.τ).loc Cert.ProjectIdeal.main_v41_3)) (v4 : (c : Dev Cert.ProjectIdeal.nD) → Buf (Elt Ideal) ((c.tc : Thread Cert.ProjectIdeal.nD Cert.ProjectIdeal.τ).loc Cert.ProjectIdeal.main_v41_4)) (v5 : (c : Dev Cert.ProjectIdeal.nD) → Buf (Elt Ideal) ((c.tc : Thread Cert.ProjectIdeal.nD Cert.ProjectIdeal.τ).loc Cert.ProjectIdeal.main_v41_5)) (v6 : (c : Dev Cert.ProjectIdeal.nD) → Buf (Elt Ideal) ((c.tc : Thread Cert.ProjectIdeal.nD Cert.ProjectIdeal.τ).loc Cert.ProjectIdeal.main_v41_6)) (v7 : (c : Dev Cert.ProjectIdeal.nD) → Buf (Elt Ideal) ((c.tc : Thread Cert.ProjectIdeal.nD Cert.ProjectIdeal.τ).loc Cert.ProjectIdeal.main_v41_7)) (v8 : (c : Dev Cert.ProjectIdeal.nD) → Buf (Elt Ideal) ((c.tc : Thread Cert.ProjectIdeal.nD Cert.ProjectIdeal.τ).loc Cert.ProjectIdeal.main_v41_8)) (v9 : (c : Dev Cert.ProjectIdeal.nD) → Buf (Elt Ideal) ((c.tc : Thread Cert.ProjectIdeal.nD Cert.ProjectIdeal.τ).loc Cert.ProjectIdeal.main_v41_9)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v41_0) = v0 c
          ∧ r.2.mem ((c.tc : Thread Cert.ProjectIdeal.nD Cert.ProjectIdeal.τ).loc Cert.ProjectIdeal.main_v41_1) = v1 c
          ∧ r.2.mem ((c.tc : Thread Cert.ProjectIdeal.nD Cert.ProjectIdeal.τ).loc Cert.ProjectIdeal.main_v41_2) = v2 c
          ∧ r.2.mem ((c.tc : Thread Cert.ProjectIdeal.nD Cert.ProjectIdeal.τ).loc Cert.ProjectIdeal.main_v41_3) = v3 c
          ∧ r.2.mem ((c.tc : Thread Cert.ProjectIdeal.nD Cert.ProjectIdeal.τ).loc Cert.ProjectIdeal.main_v41_4) = v4 c
          ∧ r.2.mem ((c.tc : Thread Cert.ProjectIdeal.nD Cert.ProjectIdeal.τ).loc Cert.ProjectIdeal.main_v41_5) = v5 c
          ∧ r.2.mem ((c.tc : Thread Cert.ProjectIdeal.nD Cert.ProjectIdeal.τ).loc Cert.ProjectIdeal.main_v41_6) = v6 c
          ∧ r.2.mem ((c.tc : Thread Cert.ProjectIdeal.nD Cert.ProjectIdeal.τ).loc Cert.ProjectIdeal.main_v41_7) = v7 c
          ∧ r.2.mem ((c.tc : Thread Cert.ProjectIdeal.nD Cert.ProjectIdeal.τ).loc Cert.ProjectIdeal.main_v41_8) = v8 c
          ∧ r.2.mem ((c.tc : Thread Cert.ProjectIdeal.nD Cert.ProjectIdeal.τ).loc Cert.ProjectIdeal.main_v41_9) = v9 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v91) = v0 c
          ∧ r.2.mem ((c.tc : Thread Cert.ProjectReferenceIdeal.nD Cert.ProjectReferenceIdeal.τ).loc Cert.ProjectReferenceIdeal.main_v97) = v1 c
          ∧ r.2.mem ((c.tc : Thread Cert.ProjectReferenceIdeal.nD Cert.ProjectReferenceIdeal.τ).loc Cert.ProjectReferenceIdeal.main_v103) = v2 c
          ∧ r.2.mem ((c.tc : Thread Cert.ProjectReferenceIdeal.nD Cert.ProjectReferenceIdeal.τ).loc Cert.ProjectReferenceIdeal.main_v104) = v3 c
          ∧ r.2.mem ((c.tc : Thread Cert.ProjectReferenceIdeal.nD Cert.ProjectReferenceIdeal.τ).loc Cert.ProjectReferenceIdeal.main_v105) = v4 c
          ∧ r.2.mem ((c.tc : Thread Cert.ProjectReferenceIdeal.nD Cert.ProjectReferenceIdeal.τ).loc Cert.ProjectReferenceIdeal.main_v106) = v5 c
          ∧ r.2.mem ((c.tc : Thread Cert.ProjectReferenceIdeal.nD Cert.ProjectReferenceIdeal.τ).loc Cert.ProjectReferenceIdeal.main_v108) = v6 c
          ∧ r.2.mem ((c.tc : Thread Cert.ProjectReferenceIdeal.nD Cert.ProjectReferenceIdeal.τ).loc Cert.ProjectReferenceIdeal.main_v36) = v7 c
          ∧ r.2.mem ((c.tc : Thread Cert.ProjectReferenceIdeal.nD Cert.ProjectReferenceIdeal.τ).loc Cert.ProjectReferenceIdeal.main_v109) = v8 c
          ∧ r.2.mem ((c.tc : Thread Cert.ProjectReferenceIdeal.nD Cert.ProjectReferenceIdeal.τ).loc Cert.ProjectReferenceIdeal.main_v38) = v9 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hProject : Cert.Project.Facts) (hProjectIdeal : Cert.ProjectIdeal.Facts) (hProjectReferenceIdeal : Cert.ProjectReferenceIdeal.Facts) (hPre_finite : Cert.Pre_finite.Facts) (hPre_rows_routed : Cert.Pre_rows_routed.Facts) (hPre_finite_weights : Cert.Pre_finite_weights.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_rows_routed := hPre_rows_routed)
    ∧ quiescent_ExpertsIdeal (hExpertsIdeal := hExpertsIdeal) (hPre_rows_routed := hPre_rows_routed)
    ∧ quiescent_ExpertsReferenceIdeal (hExpertsReferenceIdeal := hExpertsReferenceIdeal)
    ∧ quiescent_ExpertsReferenceIdeal_pre_rows_routed (hExpertsReferenceIdeal := hExpertsReferenceIdeal) (hPre_rows_routed := hPre_rows_routed)
    ∧ quiescent_Project (hProject := hProject)
    ∧ quiescent_ProjectIdeal (hProjectIdeal := hProjectIdeal)
    ∧ quiescent_ProjectIdeal_pre_finite_weights (hProjectIdeal := hProjectIdeal) (hPre_finite_weights := hPre_finite_weights)
    ∧ quiescent_ProjectReferenceIdeal (hProjectReferenceIdeal := hProjectReferenceIdeal)
    ∧ quiescent_ProjectReferenceIdeal_pre_finite_weights (hProjectReferenceIdeal := hProjectReferenceIdeal) (hPre_finite_weights := hPre_finite_weights)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_rows_routed := hPre_rows_routed)
    ∧ preserves_Project_ProjectIdeal
    ∧ algebraic_ProjectIdeal_ProjectReferenceIdeal_pre_finite_weights (hProjectIdeal := hProjectIdeal) (hProjectReferenceIdeal := hProjectReferenceIdeal) (hPre_finite_weights := hPre_finite_weights)
-- ==== Pre_finite.lean ====
abbrev S16896x512 : Shape := ⟨2, ![16896, 512]⟩
abbrev S1x8x257 : Shape := ⟨3, ![1, 8, 257]⟩
abbrev S1x8x192 : Shape := ⟨3, ![1, 8, 192]⟩
abbrev S16384x512 : Shape := ⟨2, ![16384, 512]⟩
abbrev S_ : Shape := ⟨0, ![]⟩

class Facts : Prop where
  slices_S1x8x257_S1x8x192_0_0_65 : S1x8x257.Slices ![0, 0, 65] S1x8x192
  slices_S16896x512_S16384x512_0_0 : S16896x512.Slices ![0, 0] S16384x512
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1x8x192 : S_.BroadcastsInDim S1x8x192 (![] : Fin 0 → Fin S1x8x192.rank)
  reducesTo_S1x8x192_S_d0_1_2 : S1x8x192.ReducesTo [0, 1, 2] S_

variable [Facts]

def fn {F : FTy → Type} [FloatOps F] (main_arg0 : FVec F S16896x512 .f32) (main_arg1 : FVec F S16896x512 .f32) (main_arg2 : FVec F S16896x512 .f32) (main_arg3 : FVec F S1x8x257 .f32) : IVec S_ 1 :=
  let main_v0 : FVec F S1x8x192 .f32 := (extractStridedSlice S1x8x192 ![0, 0, 65] · slices_S1x8x257_S1x8x192_0_0_65) main_arg3
  let main_v1 : FVec F S16384x512 .f32 := (extractStridedSlice S16384x512 ![0, 0] · slices_S16896x512_S16384x512_0_0) main_arg0
  let main_v2 : FVec F S16384x512 .f32 := Host.absf main_v1
  let main_cst : FVec F S_ .f32 := constant S_ .f32 0x7F800000#32
  let main_v3 : FVec F S16384x512 .f32 := broadcastInDim S16384x512 ![] bcast_S_S16384x512 main_cst
  let main_v4 : IVec S16384x512 1 := cmpf .olt main_v2 main_v3
  let main_c : IVec S_ 1 := constantI S_ 1 1#1
  let main_v5 : IVec S_ 1 := (fun x v => Host.reduce IntOp.andi x v reducesTo_S16384x512_S_d0_1 h_S_) main_v4 main_c
  let main_v6 : FVec F S16384x512 .f32 := (extractStridedSlice S16384x512 ![0, 0] · slices_S16896x512_S16384x512_0_0) main_arg1
  let main_v7 : FVec F S16384x512 .f32 := Host.absf main_v6
  let main_cst_0 : FVec F S_ .f32 := constant S_ .f32 0x7F800000#32
  let main_v8 : FVec F S16384x512 .f32 := broadcastInDim S16384x512 ![] bcast_S_S16384x512 main_cst_0
  let main_v9 : IVec S16384x512 1 := cmpf .olt main_v7 main_v8
  let main_c_1 : IVec S_ 1 := constantI S_ 1 1#1
  let main_v10 : IVec S_ 1 := (fun x v => Host.reduce IntOp.andi x v reducesTo_S16384x512_S_d0_1 h_S_) main_v9 main_c_1
  let main_v11 : IVec S_ 1 := andi main_v5 main_v10
  let main_v12 : FVec F S1x8x192 .f32 := Host.absf main_v0
  let main_cst_2 : FVec F S_ .f32 := constant S_ .f32 0x7F800000#32
  let main_v13 : FVec F S1x8x192 .f32 := broadcastInDim S1x8x192 ![] bcast_S_S1x8x192 main_cst_2
  let main_v14 : IVec S1x8x192 1 := cmpf .olt main_v12 main_v13
  let main_c_3 : IVec S_ 1 := constantI S_ 1 1#1
  let main_v15 : IVec S_ 1 := (fun x v => Host.reduce IntOp.andi x v reducesTo_S1x8x192_S_d0_1_2 h_S_) main_v14 main_c_3
  let main_v16 : IVec S_ 1 := andi main_v11 main_v15
  main_v16
-- ==== Pre_finite_weights.lean ====
abbrev S4x4096x1024 : Shape := ⟨3, ![4, 4096, 1024]⟩
abbrev S16x32x1024 : Shape := ⟨3, ![16, 32, 1024]⟩
abbrev S2x1024 : Shape := ⟨2, ![2, 1024]⟩
abbrev S1x1024x3584 : Shape := ⟨3, ![1, 1024, 3584]⟩
abbrev S1x64 : Shape := ⟨2, ![1, 64]⟩
abbrev S2x512 : Shape := ⟨2, ![2, 512]⟩
abbrev S1x1024 : Shape := ⟨2, ![1, 1024]⟩
abbrev S1024 : Shape := ⟨1, ![1024]⟩
abbrev S_ : Shape := ⟨0, ![]⟩
abbrev S1x1024x1024 : Shape := ⟨3, ![1, 1024, 1024]⟩
abbrev S1024x1024 : Shape := ⟨2, ![1024, 1024]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  slices_S1x1024x3584_S1x1024x1024_0_0_0 : S1x1024x3584.Slices ![0, 0, 0] S1x1024x1024
  shapeCasts_S1x1024x1024_S1024x1024 : S1x1024x1024.ShapeCasts S1024x1024
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x4096x1024 .f32) (main_arg1 : FVec F S16x32x1024 .f32) (main_arg2 : FVec F S2x1024 .f32) (main_arg3 : FVec F S1x1024x3584 .f32) (main_arg4 : FVec F S1x64 .f32) (main_arg5 : FVec F S1x64 .f32) (main_arg6 : FVec F S2x512 .f32) : IVec S_ 1 :=
  let main_v0 : FVec F S1x1024 .f32 := (extractStridedSlice S1x1024 ![0, 0] · slices_S2x1024_S1x1024_0_0) main_arg2
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1x1024x1024 .f32 := (extractStridedSlice S1x1024x1024 ![0, 0, 0] · slices_S1x1024x3584_S1x1024x1024_0_0_0) main_arg3
  let main_v7 : FVec F S1024x1024 .f32 := shapeCast S1024x1024 main_v6 shapeCasts_S1x1024x1024_S1024x1024
  let main_v8 : FVec F S1024x1024 .f32 := Host.absf main_v7
  let main_cst_0 : FVec F S_ .f32 := constant S_ .f32 0x7F800000#32
  let main_v9 : FVec F S1024x1024 .f32 := broadcastInDim S1024x1024 ![] bcast_S_S1024x1024 main_cst_0
  let main_v10 : IVec S1024x1024 1 := cmpf .olt main_v8 main_v9
  let main_c_1 : IVec S_ 1 := constantI S_ 1 1#1
  let main_v11 : IVec S_ 1 := (fun x v => Host.reduce IntOp.andi x v reducesTo_S1024x1024_S_d0_1 h_S_) main_v10 main_c_1
  let main_v12 : IVec S_ 1 := andi main_v5 main_v11
  main_v12
-- ==== Pre_rows_routed.lean ====
abbrev S1 : Shape := ⟨1, ![1]⟩
abbrev S1x128 : Shape := ⟨2, ![1, 128]⟩
abbrev S335872x128 : Shape := ⟨2, ![335872, 128]⟩
abbrev S2x32x1024x256 : Shape := ⟨4, ![2, 32, 1024, 256]⟩
abbrev S2x32x256x1024 : Shape := ⟨4, ![2, 32, 256, 1024]⟩
abbrev S1x32 : Shape := ⟨2, ![1, 32]⟩
abbrev S32 : Shape := ⟨1, ![32]⟩
abbrev S_ : Shape := ⟨0, ![]⟩

class Facts : Prop where
  slices_S1x128_S1x32_0_0 : S1x128.Slices ![0, 0] S1x32
  shapeCasts_S1x32_S32 : S1x32.ShapeCasts S32
  shapeCasts_S1_S_ : S1.ShapeCasts S_
  bcast_S_S32 : S_.BroadcastsInDim S32 (![] : Fin 0 → Fin S32.rank)
  reducesTo_S32_S_d0 : S32.ReducesTo [0] S_
  h_S_ : 0 < S_.numel

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_part1 {F : FTy → Type} [FloatOps F] (main_v7 : IVec S_ 1) (main_v15 : IVec S_ 32) (main_c_6 : IVec S_ 32) : IVec S_ 1 :=
  let main_v16 : IVec S_ 1 := cmpi .sgt main_v15 main_c_6
  let main_v17 : IVec S_ 1 := andi main_v7 main_v16
  main_v17

def fn {F : FTy → Type} [FloatOps F] (main_arg0 : IVec S1 32) (main_arg1 : FVec F S1x128 .f32) (main_arg2 : FVec F S335872x128 .f32) (main_arg3 : FVec F S2x32x1024x256 .f32) (main_arg4 : FVec F S2x32x1024x256 .f32) (main_arg5 : FVec F S2x32x256x1024 .f32) : IVec S_ 1 :=
  let main_v0 : FVec F S1x32 .f32 := (extractStridedSlice S1x32 ![0, 0] · slices_S1x128_S1x32_0_0) main_arg1
  let main_v1 : FVec F S32 .f32 := shapeCast S32 main_v0 shapeCasts_S1x32_S32
  let main_v2 : IVec S32 32 := fptosi 32 main_v1
  let main_v3 : IVec S_ 32 := shapeCast S_ main_arg0 shapeCasts_S1_S_
  let main_c : IVec S_ 32 := constantI S_ 32 0#32
  let main_v4 : IVec S_ 1 := cmpi .sge main_v3 main_c
  let main_v5 : IVec S_ 32 := shapeCast S_ main_arg0 shapeCasts_S1_S_
  let main_c_0 : IVec S_ 32 := constantI S_ 32 2#32
  let main_v6 : IVec S_ 1 := cmpi .slt main_v5 main_c_0
  let main_v7 : IVec S_ 1 := andi main_v4 main_v6
  let main_c_1 : IVec S_ 32 := constantI S_ 32 256#32
  let main_v8 : IVec S32 32 := broadcastInDim S32 ![] bcast_S_S32 main_c_1
  let main_v9 : IVec S32 32 := addi main_v2 main_v8
  let main_c_2 : IVec S_ 32 := constantI S_ 32 1#32
  let main_v10 : IVec S32 32 := broadcastInDim S32 ![] bcast_S_S32 main_c_2
  let main_v11 : IVec S32 32 := subi main_v9 main_v10
  let main_c_3 : IVec S_ 32 := constantI S_ 32 256#32
  let main_v12 : IVec S32 32 := fn_floor_divide (F := F) main_v11 main_c_3
  let main_c_4 : IVec S_ 32 := constantI S_ 32 256#32
  let main_v13 : IVec S32 32 := broadcastInDim S32 ![] bcast_S_S32 main_c_4
  let main_v14 : IVec S32 32 := muli main_v12 main_v13
  let main_c_5 : IVec S_ 32 := constantI S_ 32 0#32
  let main_v15 : IVec S_ 32 := (fun x v => Host.reduce IntOp.addi x v reducesTo_S32_S_d0 h_S_) main_v14 main_c_5
  let main_c_6 : IVec S_ 32 := constantI S_ 32 0#32
  fn_part1 (F := F) main_v7 main_v15 main_c_6
-- ==== Kernel.lean ====
abbrev S16896x512 : Shape := ⟨2, ![16896, 512]⟩
abbrev S1x8x257 : Shape := ⟨3, ![1, 8, 257]⟩
abbrev S_ : Shape := ⟨0, ![]⟩
abbrev S8x257 : Shape := ⟨2, ![8, 257]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S1x256x768 : Shape := ⟨3, ![1, 256, 768]⟩
abbrev S16384x512 : Shape := ⟨2, ![16384, 512]⟩
abbrev S256x512 : Shape := ⟨2, ![256, 512]⟩
abbrev S128x640 : Shape := ⟨2, ![128, 640]⟩
abbrev S256x64 : Shape := ⟨2, ![256, 64]⟩
abbrev S128x64 : Shape := ⟨2, ![128, 64]⟩
abbrev S128x256 : Shape := ⟨2, ![128, 256]⟩
abbrev S128x128 : Shape := ⟨2, ![128, 128]⟩
abbrev S1x128x640 : Shape := ⟨3, ![1, 128, 640]⟩
abbrev S128 : Shape := ⟨1, ![128]⟩
abbrev S128x1 : Shape := ⟨2, ![128, 1]⟩

abbrev nBuf : Space → Nat
  | .hbm => 119
  | .vmem => 17
  | .smem => 0
  | _ => 0

abbrev bufTy : (tb : Table) → Fin (tcTables nBuf tb) → BufTy
  | .hbm, ⟨0, _⟩ => ⟨S16896x512, .f32⟩
  | .hbm, ⟨1, _⟩ => ⟨S16896x512, .f32⟩
  | .hbm, ⟨2, _⟩ => ⟨S16896x512, .f32⟩
  | .hbm, ⟨3, _⟩ => ⟨S1x8x257, .f32⟩
  | .hbm, ⟨4, _⟩ => ⟨S_, .f32⟩
  | .hbm, ⟨5, _⟩ => ⟨S16896x512, .f32⟩
  | .hbm, ⟨6, _⟩ => ⟨S16896x512, .f32⟩
  | .hbm, ⟨7, _⟩ => ⟨S16896x512, .bf16⟩
  | .hbm, ⟨8, _⟩ => ⟨S16896x512, .bf16⟩
  | .hbm, ⟨9, _⟩ => ⟨S16896x512, .bf16⟩
  | .hbm, ⟨10, _⟩ => ⟨S8x257, .f32⟩
  | .hbm, ⟨11, _⟩ => ⟨S256, .i32⟩
  | .hbm, ⟨12, _⟩ => ⟨S256x1, .i32⟩
  | .hbm, ⟨13, _⟩ => ⟨S768, .i32⟩
  | .hbm, ⟨14, _⟩ => ⟨S1x768, .i32⟩
  | .hbm, ⟨15, _⟩ => ⟨S_, .i32⟩
  | .hbm, ⟨16, _⟩ => ⟨S_, .i32⟩
  | .hbm, ⟨17, _⟩ => ⟨S1x768, .i32⟩
  | .hbm, ⟨18, _⟩ => ⟨S1x768, .i32⟩
  | .hbm, ⟨19, _⟩ => ⟨S1x768, .i32⟩
  | .hbm, ⟨20, _⟩ => ⟨S_, .i32⟩
  | .hbm, ⟨21, _⟩ => ⟨S1x768, .i32⟩
  | .hbm, ⟨22, _⟩ => ⟨S1x768, .i1⟩
  | .hbm, ⟨23, _⟩ => ⟨S1x768, .i32⟩
  | .hbm, ⟨24, _⟩ => ⟨S1x768, .i32⟩
  | .hbm, ⟨25, _⟩ => ⟨S_, .i32⟩
  | .hbm, ⟨26, _⟩ => ⟨S1x768, .i32⟩
  | .hbm, ⟨27, _⟩ => ⟨S1x768, .i1⟩
  | .hbm, ⟨28, _⟩ => ⟨S1x768, .i1⟩
  | .hbm, ⟨29, _⟩ => ⟨S_, .i32⟩
  | .hbm, ⟨30, _⟩ => ⟨S1x768, .i32⟩
  | .hbm, ⟨31, _⟩ => ⟨S1x768, .i32⟩
  | .hbm, ⟨32, _⟩ => ⟨S1x768, .i32⟩
  | .hbm, ⟨33, _⟩ => ⟨S_, .i32⟩
  | .hbm, ⟨34, _⟩ => ⟨S_, .i32⟩
  | .hbm, ⟨35, _⟩ => ⟨S256x1, .i32⟩
  | .hbm, ⟨36, _⟩ => ⟨S256x1, .i32⟩
  | .hbm, ⟨37, _⟩ => ⟨S256x1, .i32⟩
  | .hbm, ⟨38, _⟩ => ⟨S_, .i32⟩
  | .hbm, ⟨39, _⟩ => ⟨S256x1, .i32⟩
  | .hbm, ⟨40, _⟩ => ⟨S256x1, .i1⟩
  | .hbm, ⟨41, _⟩ => ⟨S256x1, .i32⟩
  | .hbm, ⟨42, _⟩ => ⟨S256x1, .i32⟩
  | .hbm, ⟨43, _⟩ => ⟨S_, .i32⟩
  | .hbm, ⟨44, _⟩ => ⟨S256x1, .i32⟩
  | .hbm, ⟨45, _⟩ => ⟨S256x1, .i1⟩
  | .hbm, ⟨46, _⟩ => ⟨S256x1, .i1⟩
  | .hbm, ⟨47, _⟩ => ⟨S_, .i32⟩
  | .hbm, ⟨48, _⟩ => ⟨S256x1, .i32⟩
  | .hbm, ⟨49, _⟩ => ⟨S256x1, .i32⟩
  | .hbm, ⟨50, _⟩ => ⟨S256x1, .i32⟩
  | .hbm, ⟨51, _⟩ => ⟨S256x768, .i32⟩
  | .hbm, ⟨52, _⟩ => ⟨S256x768, .i32⟩
  | .hbm, ⟨53, _⟩ => ⟨S256x768, .i32⟩
  | .hbm, ⟨54, _⟩ => ⟨S_, .i32⟩
  | .hbm, ⟨55, _⟩ => ⟨S256x768, .i32⟩
  | .hbm, ⟨56, _⟩ => ⟨S256x768, .i1⟩
  | .hbm, ⟨57, _⟩ => ⟨S_, .i32⟩
  | .hbm, ⟨58, _⟩ => ⟨S256x768, .i32⟩
  | .hbm, ⟨59, _⟩ => ⟨S256x768, .i1⟩
  | .hbm, ⟨60, _⟩ => ⟨S256x768, .i1⟩
  | .hbm, ⟨61, _⟩ => ⟨S1024, .i32⟩
  | .hbm, ⟨62, _⟩ => ⟨S_, .i32⟩
  | .hbm, ⟨63, _⟩ => ⟨S1024, .i32⟩
  | .hbm, ⟨64, _⟩ => ⟨S1024, .i1⟩
  | .hbm, ⟨65, _⟩ => ⟨S_, .i32⟩
  | .hbm, ⟨66, _⟩ => ⟨S1024, .i32⟩
  | .hbm, ⟨67, _⟩ => ⟨S1024, .i32⟩
  | .hbm, ⟨68, _⟩ => ⟨S1024, .i32⟩
  | .hbm, ⟨69, _⟩ => ⟨S_, .i32⟩
  | .hbm, ⟨70, _⟩ => ⟨S1024, .i32⟩
  | .hbm, ⟨71, _⟩ => ⟨S1024, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1024, .i32⟩
  | .hbm, ⟨76, _⟩ => ⟨S1024, .i32⟩
  | .hbm, ⟨77, _⟩ => ⟨S_, .i32⟩
  | .hbm, ⟨78, _⟩ => ⟨S1024, .i32⟩
  | .hbm, ⟨79, _⟩ => ⟨S1024, .i32⟩
  | .hbm, ⟨80, _⟩ => ⟨S_, .i32⟩
  | .hbm, ⟨81, _⟩ => ⟨S1024, .i32⟩
  | .hbm, ⟨82, _⟩ => ⟨S1024, .i32⟩
  | .hbm, ⟨83, _⟩ => ⟨S_, .i32⟩
  | .hbm, ⟨84, _⟩ => ⟨S1024, .i32⟩
  | .hbm, ⟨85, _⟩ => ⟨S1024, .i1⟩
  | .hbm, ⟨86, _⟩ => ⟨S_, .i32⟩
  | .hbm, ⟨87, _⟩ => ⟨S1024, .i32⟩
  | .hbm, ⟨88, _⟩ => ⟨S1024, .i32⟩
  | .hbm, ⟨89, _⟩ => ⟨S1024, .i32⟩
  | .hbm, ⟨90, _⟩ => ⟨S1024x1, .i32⟩
  | .hbm, ⟨91, _⟩ => ⟨S1, .i32⟩
  | .hbm, ⟨92, _⟩ => ⟨S_, .i32⟩
  | .hbm, ⟨93, _⟩ => ⟨S1024x1, .i32⟩
  | .hbm, ⟨94, _⟩ => ⟨S1024x1, .i1⟩
  | .hbm, ⟨95, _⟩ => ⟨S1x1, .i32⟩
  | .hbm, ⟨96, _⟩ => ⟨S1024x1, .i32⟩
  | .hbm, ⟨97, _⟩ => ⟨S1024x1, .i1⟩
  | .hbm, ⟨98, _⟩ => ⟨S1024x1, .i1⟩
  | .hbm, ⟨99, _⟩ => ⟨S_, .i1⟩
  | .hbm, ⟨100, _⟩ => ⟨S1024, .i1⟩
  | .hbm, ⟨101, _⟩ => ⟨S8x1024, .f32⟩
  | .hbm, ⟨102, _⟩ => ⟨S8x1024, .i1⟩
  | .hbm, ⟨103, _⟩ => ⟨S_, .f32⟩
  | .hbm, ⟨104, _⟩ => ⟨S8x1024, .f32⟩
  | .hbm, ⟨105, _⟩ => ⟨S8x1024, .f32⟩
  | .hbm, ⟨106, _⟩ => ⟨S1x8x1x1024, .f32⟩
  | .hbm, ⟨107, _⟩ => ⟨S1x8x256x1024, .f32⟩
  | .hbm, ⟨108, _⟩ => ⟨S8x262144, .f32⟩
  | .hbm, ⟨109, _⟩ => ⟨S8x261888, .f32⟩
  | .hbm, ⟨110, _⟩ => ⟨S8x256x1023, .f32⟩
  | .hbm, ⟨111, _⟩ => ⟨S8x256x768, .f32⟩
  | .hbm, ⟨112, _⟩ => ⟨S1x256x768, .i1⟩
  | .hbm, ⟨113, _⟩ => ⟨S_, .f32⟩
  | .hbm, ⟨114, _⟩ => ⟨S_, .f32⟩
  | .hbm, ⟨115, _⟩ => ⟨S8x256x768, .i1⟩
  | .hbm, ⟨116, _⟩ => ⟨S8x256x768, .f32⟩
  | .hbm, ⟨117, _⟩ => ⟨S8x256x768, .f32⟩
  | .hbm, ⟨118, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S8x256x768, .f32⟩
  | .local _ .vmem, ⟨15, _⟩ => ⟨S256x512, .bf16⟩
  | .local _ .vmem, ⟨16, _⟩ => ⟨S256x512, .bf16⟩
  | _, _ => ⟨S16896x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_c_1 : Ref sig .tc := ⟨.hbm, 54, rfl⟩
abbrev main_v15 : Ref sig .tc := ⟨.hbm, 55, rfl⟩
abbrev main_v16 : Ref sig .tc := ⟨.hbm, 56, rfl⟩
abbrev main_c_2 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_c_3 : Ref sig .tc := ⟨.hbm, 62, rfl⟩
abbrev main_v21 : Ref sig .tc := ⟨.hbm, 63, rfl⟩
abbrev main_v22 : Ref sig .tc := ⟨.hbm, 64, rfl⟩
abbrev main_c_4 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_c_5 : Ref sig .tc := ⟨.hbm, 69, rfl⟩
abbrev main_v26 : Ref sig .tc := ⟨.hbm, 70, rfl⟩
abbrev main_v27 : Ref sig .tc := ⟨.hbm, 71, rfl⟩
abbrev main_c_6 : Ref sig .tc := ⟨.hbm, 72, rfl⟩
abbrev main_c_7 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v28 : Ref sig .tc := ⟨.hbm, 79, rfl⟩
abbrev main_c_8 : Ref sig .tc := ⟨.hbm, 80, rfl⟩
abbrev main_v29 : Ref sig .tc := ⟨.hbm, 81, rfl⟩
abbrev main_v30 : Ref sig .tc := ⟨.hbm, 82, rfl⟩
abbrev main_call4_c : Ref sig .tc := ⟨.hbm, 83, rfl⟩
abbrev main_call4_v0 : Ref sig .tc := ⟨.hbm, 84, rfl⟩
abbrev main_call4_v1 : Ref sig .tc := ⟨.hbm, 85, rfl⟩
abbrev main_call4_c_0 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_v5 : Ref sig .tc := ⟨.hbm, 90, rfl⟩
abbrev main_call4_c_1 : Ref sig .tc := ⟨.hbm, 91, rfl⟩
abbrev main_call4_c_2 : Ref sig .tc := ⟨.hbm, 92, rfl⟩
abbrev main_call4_v6 : Ref sig .tc := ⟨.hbm, 93, rfl⟩
abbrev main_call4_v7 : Ref sig .tc := ⟨.hbm, 94, rfl⟩
abbrev main_call4_v8 : Ref sig .tc := ⟨.hbm, 95, rfl⟩
abbrev main_call4_v9 : Ref sig .tc := ⟨.hbm, 96, rfl⟩
abbrev main_call4_v10 : Ref sig .tc := ⟨.hbm, 97, rfl⟩
abbrev main_call4_v11 : Ref sig .tc := ⟨.hbm, 98, rfl⟩
abbrev main_call4_c_3 : Ref sig .tc := ⟨.hbm, 99, rfl⟩
abbrev main_call4_v12 : Ref sig .tc := ⟨.hbm, 100, rfl⟩
abbrev main_call4_v13 : Ref sig .tc := ⟨.hbm, 101, rfl⟩
abbrev main_call4_v14 : Ref sig .tc := ⟨.hbm, 102, rfl⟩
abbrev main_call4_cst : Ref sig .tc := ⟨.hbm, 103, rfl⟩
abbrev main_call4_v15 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_cst_9 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_v39 : Ref sig .tc := ⟨.hbm, 117, rfl⟩
abbrev main_v40 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16896x512 : Shape := ⟨2, ![16896, 512]⟩
abbrev S1x8x257 : Shape := ⟨3, ![1, 8, 257]⟩
abbrev S16384x512 : Shape := ⟨2, ![16384, 512]⟩
abbrev S4x4096x8x64 : Shape := ⟨4, ![4, 4096, 8, 64]⟩
abbrev S_ : Shape := ⟨0, ![]⟩
abbrev S4x4608x8x64 : Shape := ⟨4, ![4, 4608, 8, 64]⟩
abbrev S4x72x64x8x64 : Shape := ⟨5, ![4, 72, 64, 8, 64]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S4x64x9x64x8x64 : Shape := ⟨6, ![4, 64, 9, 64, 8, 64]⟩
abbrev S4x64x576x8x64 : Shape := ⟨5, ![4, 64, 576, 8, 64]⟩
abbrev S4x64x64x8x64 : Shape := ⟨5, ![4, 64, 64, 8, 64]⟩
abbrev S1x9x1 : Shape := ⟨3, ![1, 9, 1]⟩
abbrev S64x1x1 : Shape := ⟨3, ![64, 1, 1]⟩
abbrev S1x1x64 : Shape := ⟨3, ![1, 1, 64]⟩
abbrev S64x9x64 : Shape := ⟨3, ![64, 9, 64]⟩
abbrev S8x257 : Shape := ⟨2, ![8, 257]⟩
abbrev S64x576 : Shape := ⟨2, ![64, 576]⟩
abbrev S64x576x1 : Shape := ⟨3, ![64, 576, 1]⟩
abbrev S1 : Shape := ⟨1, ![1]⟩
abbrev S1x1x1 : Shape := ⟨3, ![1, 1, 1]⟩
abbrev S8x64x576 : Shape := ⟨3, ![8, 64, 576]⟩
abbrev S4x8x64x64x576 : Shape := ⟨5, ![4, 8, 64, 64, 576]⟩
abbrev S8x1x64x576 : Shape := ⟨4, ![8, 1, 64, 576]⟩
abbrev S1x8x1x64x576 : Shape := ⟨5, ![1, 8, 1, 64, 576]⟩
abbrev S64x1x576 : Shape := ⟨3, ![64, 1, 576]⟩
abbrev S4x8x64x64 : Shape := ⟨4, ![4, 8, 64, 64]⟩
abbrev S4x8x64x64x1 : Shape := ⟨5, ![4, 8, 64, 64, 1]⟩
abbrev S4x64x8x64x64 : Shape := ⟨5, ![4, 64, 8, 64, 64]⟩

abbrev nBuf : Space → Nat
  | .hbm => 145
  | .vmem => 0
  | .smem => 0
  | _ => 0

abbrev hbmTy0_0 (i : Nat) : BufTy := match i % 128 with
  | 0 => ⟨S16896x512, .f32⟩
  | 1 => ⟨S16896x512, .f32⟩
  | 2 => ⟨S16896x512, .f32⟩
  | 3 => ⟨S1x8x257, .f32⟩
  | 4 => ⟨S16384x512, .f32⟩
  | 5 => ⟨S4x4096x8x64, .f32⟩
  | 6 => ⟨S16384x512, .f32⟩
  | 7 => ⟨S4x4096x8x64, .f32⟩
  | 8 => ⟨S16384x512, .f32⟩
  | 9 => ⟨S4x4096x8x64, .f32⟩
  | 10 => ⟨S_, .i32⟩
  | 11 => ⟨S_, .f32⟩
  | 12 => ⟨S4x4608x8x64, .f32⟩
  | 13 => ⟨S4x72x64x8x64, .f32⟩
  | 14 => ⟨S_, .i32⟩
  | 15 => ⟨S_, .f32⟩
  | 16 => ⟨S4x4608x8x64, .f32⟩
  | 17 => ⟨S4x72x64x8x64, .f32⟩
  | 18 => ⟨S64, .i32⟩
  | 19 => ⟨S64x1, .i32⟩
  | 20 => ⟨S9, .i32⟩
  | 21 => ⟨S1x9, .i32⟩
  | 22 => ⟨S64x9, .i32⟩
  | 23 => ⟨S64x9, .i32⟩
  | 24 => ⟨S64x9, .i32⟩
  | 25 => ⟨S_, .i32⟩
  | 26 => ⟨S64x9, .i32⟩
  | 27 => ⟨S64x9, .i1⟩
  | 28 => ⟨S_, .i32⟩
  | 29 => ⟨S64x9, .i32⟩
  | 30 => ⟨S64x9, .i32⟩
  | 31 => ⟨S64x9, .i32⟩
  | 32 => ⟨S64x9x1, .i32⟩
  | 33 => ⟨S4x64x9x64x8x64, .f32⟩
  | 34 => ⟨S4x64x576x8x64, .f32⟩
  | 35 => ⟨S_, .i32⟩
  | 36 => ⟨S64x9, .i32⟩
  | 37 => ⟨S64x9, .i1⟩
  | 38 => ⟨S_, .i32⟩
  | 39 => ⟨S64x9, .i32⟩
  | 40 => ⟨S64x9, .i32⟩
  | 41 => ⟨S64x9, .i32⟩
  | 42 => ⟨S64x9x1, .i32⟩
  | 43 => ⟨S4x64x9x64x8x64, .f32⟩
  | 44 => ⟨S4x64x576x8x64, .f32⟩
  | 45 => ⟨S4x64x64x8x64, .f32⟩
  | 46 => ⟨S64, .i32⟩
  | 47 => ⟨S9, .i32⟩
  | 48 => ⟨S_, .i32⟩
  | 49 => ⟨S9, .i32⟩
  | 50 => ⟨S9, .i32⟩
  | 51 => ⟨S1x9x1, .i32⟩
  | 52 => ⟨S_, .i32⟩
  | 53 => ⟨S1x9x1, .i32⟩
  | 54 => ⟨S1x9x1, .i32⟩
  | 55 => ⟨S64x1x1, .i32⟩
  | 56 => ⟨S64x9x1, .i32⟩
  | 57 => ⟨S64x9x1, .i32⟩
  | 58 => ⟨S64x9x1, .i32⟩
  | 59 => ⟨S1x1x64, .i32⟩
  | 60 => ⟨S64x9x64, .i32⟩
  | 61 => ⟨S64x9x64, .i32⟩
  | 62 => ⟨S64x9x64, .i32⟩
  | 63 => ⟨S8x257, .f32⟩
  | 64 => ⟨S64x576, .i32⟩
  | 65 => ⟨S_, .i32⟩
  | 66 => ⟨S_, .i32⟩
  | 67 => ⟨S_, .i32⟩
  | 68 => ⟨S64x576, .i32⟩
  | 69 => ⟨S64x576, .i32⟩
  | 70 => ⟨S_, .i32⟩
  | 71 => ⟨S64x576, .i32⟩
  | 72 => ⟨S64x576, .i32⟩
  | 73 => ⟨S_, .i32⟩
  | 74 => ⟨S64x576, .i32⟩
  | 75 => ⟨S64x576, .i32⟩
  | 76 => ⟨S_, .i32⟩
  | 77 => ⟨S64x576, .i32⟩
  | 78 => ⟨S64x576, .i1⟩
  | 79 => ⟨S_, .i32⟩
  | 80 => ⟨S64x576, .i32⟩
  | 81 => ⟨S64x576, .i32⟩
  | 82 => ⟨S64x576, .i32⟩
  | 83 => ⟨S64x576x1, .i32⟩
  | 84 => ⟨S1, .i32⟩
  | 85 => ⟨S_, .i32⟩
  | 86 => ⟨S64x576x1, .i32⟩
  | 87 => ⟨S64x576x1, .i1⟩
  | 88 => ⟨S1x1x1, .i32⟩
  | 89 => ⟨S64x576x1, .i32⟩
  | 90 => ⟨S64x576x1, .i1⟩
  | 91 => ⟨S64x576x1, .i1⟩
  | 92 => ⟨S_, .i1⟩
  | 93 => ⟨S64x576, .i1⟩
  | 94 => ⟨S8x64x576, .f32⟩
  | 95 => ⟨S8x64x576, .i1⟩
  | 96 => ⟨S_, .f32⟩
  | 97 => ⟨S8x64x576, .f32⟩
  | 98 => ⟨S8x64x576, .f32⟩
  | 99 => ⟨S64, .i32⟩
  | 100 => ⟨S64x1, .i32⟩
  | 101 => ⟨S_, .i32⟩
  | 102 => ⟨S64x1, .i32⟩
  | 103 => ⟨S64x1, .i32⟩
  | 104 => ⟨S1x9, .i32⟩
  | 105 => ⟨S64x9, .i32⟩
  | 106 => ⟨S64x9, .i32⟩
  | 107 => ⟨S64x9, .i32⟩
  | 108 => ⟨S_, .i32⟩
  | 109 => ⟨S64x9, .i32⟩
  | 110 => ⟨S64x9, .i1⟩
  | 111 => ⟨S64x9x64, .i1⟩
  | 112 => ⟨S64x576, .i1⟩
  | 113 => ⟨S4x8x64x64x576, .f32⟩
  | 114 => ⟨S_, .f32⟩
  | 115 => ⟨S4x8x64x64x576, .f32⟩
  | 116 => ⟨S4x8x64x64x576, .f32⟩
  | 117 => ⟨S8x1x64x576, .f32⟩
  | 118 => ⟨S1x8x1x64x576, .f32⟩
  | 119 => ⟨S4x8x64x64x576, .f32⟩
  | 120 => ⟨S4x8x64x64x576, .f32⟩
  | 121 => ⟨S64x1x576, .i1⟩
  | 122 => ⟨S_, .f32⟩
  | 123 => ⟨S_, .f32⟩
  | 124 => ⟨S4x8x64x64x576, .i1⟩
  | 125 => ⟨S4x8x64x64x576, .f32⟩
  | 126 => ⟨S4x8x64x64x576, .f32⟩
  | 127 => ⟨S_, .f32⟩
  | _ => ⟨S16896x512, .f32⟩

abbrev hbmTy0_1 (i : Nat) : BufTy := match i % 128 with
  | 0 => ⟨S4x8x64x64, .f32⟩
  | 1 => ⟨S_, .f32⟩
  | 2 => ⟨S4x8x64x64, .f32⟩
  | 3 => ⟨S4x8x64x64, .f32⟩
  | 4 => ⟨S4x8x64x64x1, .f32⟩
  | 5 => ⟨S4x8x64x64x576, .f32⟩
  | 6 => ⟨S4x8x64x64x576, .f32⟩
  | 7 => ⟨S4x8x64x64x576, .f32⟩
  | 8 => ⟨S_, .f32⟩
  | 9 => ⟨S4x8x64x64, .f32⟩
  | 10 => ⟨S4x8x64x64x1, .f32⟩
  | 11 => ⟨S4x8x64x64x576, .f32⟩
  | 12 => ⟨S4x8x64x64x576, .f32⟩
  | 13 => ⟨S4x64x8x64x64, .f32⟩
  | 14 => ⟨S4x64x64x8x64, .f32⟩
  | 15 => ⟨S16384x512, .f32⟩
  | 16 => ⟨S16384x512, .bf16⟩
  | _ => ⟨S16896x512, .f32⟩

abbrev hbmTy (i : Nat) : BufTy := match i / 128 with
  | 0 => hbmTy0_0 i
  | 1 => hbmTy0_1 i
  | _ => ⟨S16896x512, .f32⟩

abbrev bufTy : (tb : Table) → Fin (tcTables nBuf tb) → BufTy
  | .hbm, ⟨i, _⟩ => hbmTy i
  | _, _ => ⟨S16896x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_7 : Ref sig .tc := ⟨.hbm, 65, rfl⟩
abbrev main_c_8 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_call3_c : Ref sig .tc := ⟨.hbm, 76, rfl⟩
abbrev main_call3_v0 : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c_1 : Ref sig .tc := ⟨.hbm, 84, rfl⟩
abbrev main_call3_c_2 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_3 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_call3_cst : Ref sig .tc := ⟨.hbm, 96, rfl⟩
abbrev main_call3_v15 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_c_10 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_11 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_12 : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_v75 : Ref sig .tc := ⟨.hbm, 126, rfl⟩
abbrev main_cst_13 : Ref sig .tc := ⟨.hbm, 127, rfl⟩
abbrev main_v76 : Ref sig .tc := ⟨.hbm, 128, rfl⟩
abbrev main_cst_14 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_cst_15 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩

abbrev nD : Nat := 1
abbrev τ : Topo := Topo.v7x

variable {F : FTy → Type} [FloatOps F]
-- ==== Experts.lean ====
abbrev S1 : Shape := ⟨1, ![1]⟩
abbrev S1x128 : Shape := ⟨2, ![1, 128]⟩
abbrev S335872x128 : Shape := ⟨2, ![335872, 128]⟩
abbrev S2x32x1024x256 : Shape := ⟨4, ![2, 32, 1024, 256]⟩
abbrev S2x32x256x1024 : Shape := ⟨4, ![2, 32, 256, 1024]⟩
abbrev S1x32 : Shape := ⟨2, ![1, 32]⟩
abbrev S32 : Shape := ⟨1, ![32]⟩
abbrev S_ : Shape := ⟨0, ![]⟩
abbrev S164 : Shape := ⟨1, ![164]⟩
abbrev S164x1 : Shape := ⟨2, ![164, 1]⟩
abbrev S164x32 : Shape := ⟨2, ![164, 32]⟩
abbrev S64x1024x256 : Shape := ⟨3, ![64, 1024, 256]⟩
abbrev S64x256x1024 : Shape := ⟨3, ![64, 256, 1024]⟩
abbrev S2048x128 : Shape := ⟨2, ![2048, 128]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S256x128 : Shape := ⟨2, ![256, 128]⟩
abbrev S256x256 : Shape := ⟨2, ![256, 256]⟩

abbrev nBuf : Space → Nat
  | .hbm => 80
  | .vmem => 13
  | .smem => 2
  | _ => 0

abbrev bufTy : (tb : Table) → Fin (tcTables nBuf tb) → BufTy
  | .hbm, ⟨0, _⟩ => ⟨S1, .i32⟩
  | .hbm, ⟨1, _⟩ => ⟨S1x128, .f32⟩
  | .hbm, ⟨2, _⟩ => ⟨S335872x128, .f32⟩
  | .hbm, ⟨3, _⟩ => ⟨S2x32x1024x256, .f32⟩
  | .hbm, ⟨4, _⟩ => ⟨S2x32x1024x256, .f32⟩
  | .hbm, ⟨5, _⟩ => ⟨S2x32x256x1024, .f32⟩
  | .hbm, ⟨6, _⟩ => ⟨S1x32, .f32⟩
  | .hbm, ⟨7, _⟩ => ⟨S32, .f32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i1⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S_, .i32⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S164, .i32⟩
  | .hbm, ⟨41, _⟩ => ⟨S_, .i32⟩
  | .hbm, ⟨42, _⟩ => ⟨S164, .i32⟩
  | .hbm, ⟨43, _⟩ => ⟨S164, .i32⟩
  | .hbm, ⟨44, _⟩ => ⟨S164x1, .i32⟩
  | .hbm, ⟨45, _⟩ => ⟨S1x32, .i32⟩
  | .hbm, ⟨46, _⟩ => ⟨S164x32, .i32⟩
  | .hbm, ⟨47, _⟩ => ⟨S164x32, .i32⟩
  | .hbm, ⟨48, _⟩ => ⟨S164x32, .i1⟩
  | .hbm, ⟨49, _⟩ => ⟨S164x32, .i32⟩
  | .hbm, ⟨50, _⟩ => ⟨S_, .i32⟩
  | .hbm, ⟨51, _⟩ => ⟨S164, .i32⟩
  | .hbm, ⟨52, _⟩ => ⟨S_, .i32⟩
  | .hbm, ⟨53, _⟩ => ⟨S164, .i32⟩
  | .hbm, ⟨54, _⟩ => ⟨S164, .i32⟩
  | .hbm, ⟨55, _⟩ => ⟨S1, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S32, .i32⟩
  | .hbm, ⟨71, _⟩ => ⟨S32, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S164, .i32⟩
  | .hbm, ⟨76, _⟩ => ⟨S64x1024x256, .f32⟩
  | .hbm, ⟨77, _⟩ => ⟨S64x1024x256, .f32⟩
  | .hbm, ⟨78, _⟩ => ⟨S64x256x1024, .f32⟩
  | .hbm, ⟨79, _⟩ => ⟨S335872x128, .f32⟩
  | .local _ .vmem, ⟨0, _⟩ => ⟨S2048x128, .f32⟩
  | .local _ .vmem, ⟨1, _⟩ => ⟨S2048x128, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S2048x128, .f32⟩
  | .local _ .vmem, ⟨9, _⟩ => ⟨S2048x128, .f32⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S164, .i32⟩
  | .local _ .smem, ⟨1, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_c_2 : Ref sig .tc := ⟨.hbm, 33, rfl⟩
abbrev main_v8 : Ref sig .tc := ⟨.hbm, 34, rfl⟩
abbrev main_v9 : Ref sig .tc := ⟨.hbm, 35, rfl⟩
abbrev main_call1_call0_c : Ref sig .tc := ⟨.hbm, 36, rfl⟩
abbrev main_call1_call0_v0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_3 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_4 : Ref sig .tc := ⟨.hbm, 50, rfl⟩
abbrev main_v21 : Ref sig .tc := ⟨.hbm, 51, rfl⟩
abbrev main_c_5 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_6 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c : Ref sig .tc := ⟨.hbm, 64, rfl⟩
abbrev main_call2_v6 : Ref sig .tc := ⟨.hbm, 65, rfl⟩
abbrev main_call2_v7 : Ref sig .tc := ⟨.hbm, 66, rfl⟩
abbrev main_call2_c_0 : Ref sig .tc := ⟨.hbm, 67, rfl⟩
abbrev main_call2_v8 : Ref sig .tc := ⟨.hbm, 68, rfl⟩
abbrev main_v26 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_c_7 : Ref sig .tc := ⟨.hbm, 73, rfl⟩
abbrev main_v31 : Ref sig .tc := ⟨.hbm, 74, rfl⟩
abbrev main_v32 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v33 : Ref sig .tc := ⟨.smem, 0, rfl⟩
abbrev main_v27 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![164], ![false]⟩

abbrev pre0 : Pipeline.Prefetch sig := ⟨2, ![main_v33.idx, main_v27.idx], fun | 0 => main_v33.names | 1 => main_v27.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S1 : Shape := ⟨1, ![1]⟩
abbrev S1x128 : Shape := ⟨2, ![1, 128]⟩
abbrev S335872x128 : Shape := ⟨2, ![335872, 128]⟩
abbrev S2x32x1024x256 : Shape := ⟨4, ![2, 32, 1024, 256]⟩
abbrev S2x32x256x1024 : Shape := ⟨4, ![2, 32, 256, 1024]⟩
abbrev S41984x1024 : Shape := ⟨2, ![41984, 1024]⟩
abbrev S1x32 : Shape := ⟨2, ![1, 32]⟩
abbrev S32 : Shape := ⟨1, ![32]⟩
abbrev S_ : Shape := ⟨0, ![]⟩
abbrev S41984 : Shape := ⟨1, ![41984]⟩
abbrev S41984x1 : Shape := ⟨2, ![41984, 1]⟩
abbrev S41984x32 : Shape := ⟨2, ![41984, 32]⟩
abbrev S1x32x1024x256 : Shape := ⟨4, ![1, 32, 1024, 256]⟩
abbrev S32x1024x256 : Shape := ⟨3, ![32, 1024, 256]⟩
abbrev S1x32x256x1024 : Shape := ⟨4, ![1, 32, 256, 1024]⟩
abbrev S32x256x1024 : Shape := ⟨3, ![32, 256, 1024]⟩
abbrev S41984x32x256 : Shape := ⟨3, ![41984, 32, 256]⟩
abbrev S41984x32x1 : Shape := ⟨3, ![41984, 32, 1]⟩

abbrev nBuf : Space → Nat
  | .hbm => 106
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x128, .f32⟩
  | .hbm, ⟨2, _⟩ => ⟨S335872x128, .f32⟩
  | .hbm, ⟨3, _⟩ => ⟨S2x32x1024x256, .f32⟩
  | .hbm, ⟨4, _⟩ => ⟨S2x32x1024x256, .f32⟩
  | .hbm, ⟨5, _⟩ => ⟨S2x32x256x1024, .f32⟩
  | .hbm, ⟨6, _⟩ => ⟨S41984x1024, .f32⟩
  | .hbm, ⟨7, _⟩ => ⟨S1x32, .f32⟩
  | .hbm, ⟨8, _⟩ => ⟨S32, .f32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i1⟩
  | .hbm, ⟨29, _⟩ => ⟨S32, .i1⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S_, .i32⟩
  | .hbm, ⟨38, _⟩ => ⟨S_, .i32⟩
  | .hbm, ⟨39, _⟩ => ⟨S32, .i32⟩
  | .hbm, ⟨40, _⟩ => ⟨S41984, .i32⟩
  | .hbm, ⟨41, _⟩ => ⟨S41984x1, .i32⟩
  | .hbm, ⟨42, _⟩ => ⟨S1x32, .i32⟩
  | .hbm, ⟨43, _⟩ => ⟨S41984x32, .i32⟩
  | .hbm, ⟨44, _⟩ => ⟨S41984x32, .i32⟩
  | .hbm, ⟨45, _⟩ => ⟨S41984x32, .i1⟩
  | .hbm, ⟨46, _⟩ => ⟨S41984x32, .i32⟩
  | .hbm, ⟨47, _⟩ => ⟨S_, .i32⟩
  | .hbm, ⟨48, _⟩ => ⟨S41984, .i32⟩
  | .hbm, ⟨49, _⟩ => ⟨S_, .i32⟩
  | .hbm, ⟨50, _⟩ => ⟨S41984, .i32⟩
  | .hbm, ⟨51, _⟩ => ⟨S41984, .i32⟩
  | .hbm, ⟨52, _⟩ => ⟨S41984x1, .i32⟩
  | .hbm, ⟨53, _⟩ => ⟨S1x32, .i32⟩
  | .hbm, ⟨54, _⟩ => ⟨S41984x32, .i32⟩
  | .hbm, ⟨55, _⟩ => ⟨S41984x32, .i32⟩
  | .hbm, ⟨56, _⟩ => ⟨S41984x32, .i1⟩
  | .hbm, ⟨57, _⟩ => ⟨S41984x32, .f32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S1x32x1024x256, .f32⟩
  | .hbm, ⟨62, _⟩ => ⟨S32x1024x256, .f32⟩
  | .hbm, ⟨63, _⟩ => ⟨S1x32x1024x256, .f32⟩
  | .hbm, ⟨64, _⟩ => ⟨S32x1024x256, .f32⟩
  | .hbm, ⟨65, _⟩ => ⟨S32x1024x256, .f32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S1x32x1024x256, .f32⟩
  | .hbm, ⟨70, _⟩ => ⟨S32x1024x256, .f32⟩
  | .hbm, ⟨71, _⟩ => ⟨S1x32x1024x256, .f32⟩
  | .hbm, ⟨72, _⟩ => ⟨S32x1024x256, .f32⟩
  | .hbm, ⟨73, _⟩ => ⟨S32x1024x256, .f32⟩
  | .hbm, ⟨74, _⟩ => ⟨S_, .i32⟩
  | .hbm, ⟨75, _⟩ => ⟨S_, .i32⟩
  | .hbm, ⟨76, _⟩ => ⟨S_, .i1⟩
  | .hbm, ⟨77, _⟩ => ⟨S1x32x256x1024, .f32⟩
  | .hbm, ⟨78, _⟩ => ⟨S32x256x1024, .f32⟩
  | .hbm, ⟨79, _⟩ => ⟨S1x32x256x1024, .f32⟩
  | .hbm, ⟨80, _⟩ => ⟨S32x256x1024, .f32⟩
  | .hbm, ⟨81, _⟩ => ⟨S32x256x1024, .f32⟩
  | .hbm, ⟨82, _⟩ => ⟨S41984x32x256, .f32⟩
  | .hbm, ⟨83, _⟩ => ⟨S41984x32x256, .f32⟩
  | .hbm, ⟨84, _⟩ => ⟨S41984x32x256, .f32⟩
  | .hbm, ⟨85, _⟩ => ⟨S_, .f32⟩
  | .hbm, ⟨86, _⟩ => ⟨S41984x32x256, .f32⟩
  | .hbm, ⟨87, _⟩ => ⟨S41984x32x256, .f32⟩
  | .hbm, ⟨88, _⟩ => ⟨S_, .f32⟩
  | .hbm, ⟨89, _⟩ => ⟨S41984x32x256, .f32⟩
  | .hbm, ⟨90, _⟩ => ⟨S41984x32x256, .f32⟩
  | .hbm, ⟨91, _⟩ => ⟨S41984x32x256, .f32⟩
  | .hbm, ⟨92, _⟩ => ⟨S41984x32x256, .f32⟩
  | .hbm, ⟨93, _⟩ => ⟨S41984x32x256, .f32⟩
  | .hbm, ⟨94, _⟩ => ⟨S41984x32x1, .f32⟩
  | .hbm, ⟨95, _⟩ => ⟨S41984x32x256, .f32⟩
  | .hbm, ⟨96, _⟩ => ⟨S41984x32x256, .f32⟩
  | .hbm, ⟨97, _⟩ => ⟨S41984x1024, .f32⟩
  | .hbm, ⟨98, _⟩ => ⟨S1, .i32⟩
  | .hbm, ⟨99, _⟩ => ⟨S_, .i32⟩
  | .hbm, ⟨100, _⟩ => ⟨S41984, .i32⟩
  | .hbm, ⟨101, _⟩ => ⟨S41984, .i1⟩
  | .hbm, ⟨102, _⟩ => ⟨S41984x1, .i1⟩
  | .hbm, ⟨103, _⟩ => ⟨S41984x1024, .i1⟩
  | .hbm, ⟨104, _⟩ => ⟨S41984x1024, .f32⟩
  | .hbm, ⟨105, _⟩ => ⟨S335872x128, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_call1_call0_c : Ref sig .tc := ⟨.hbm, 37, rfl⟩
abbrev main_call1_call0_v0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_3 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v22 : Ref sig .tc := ⟨.hbm, 57, rfl⟩
abbrev main_v23 : Ref sig .tc := ⟨.hbm, 58, rfl⟩
abbrev main_c_5 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_6 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_c_7 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_call6_v0 : Ref sig .tc := ⟨.hbm, 83, rfl⟩
abbrev main_call6_v1 : Ref sig .tc := ⟨.hbm, 84, rfl⟩
abbrev main_call6_cst : Ref sig .tc := ⟨.hbm, 85, rfl⟩
abbrev main_call6_v2 : Ref sig .tc := ⟨.hbm, 86, rfl⟩
abbrev main_call6_v3 : Ref sig .tc := ⟨.hbm, 87, rfl⟩
abbrev main_call6_cst_0 : Ref sig .tc := ⟨.hbm, 88, rfl⟩
abbrev main_call6_v4 : Ref sig .tc := ⟨.hbm, 89, rfl⟩
abbrev main_call6_v5 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_call7_v0 : Ref sig .tc := ⟨.hbm, 103, rfl⟩
abbrev main_v57 : Ref sig .tc := ⟨.hbm, 104, rfl⟩
abbrev main_v58 : Ref sig .tc := ⟨.hbm, 105, rfl⟩

abbrev nD : Nat := 1
abbrev τ : Topo := Topo.v7x

variable {F : FTy → Type} [FloatOps F]
-- ==== Project.lean ====
abbrev S4x4096x1024 : Shape := ⟨3, ![4, 4096, 1024]⟩
abbrev S16x32x1024 : Shape := ⟨3, ![16, 32, 1024]⟩
abbrev S2x1024 : Shape := ⟨2, ![2, 1024]⟩
abbrev S1x1024x3584 : Shape := ⟨3, ![1, 1024, 3584]⟩
abbrev S1x64 : Shape := ⟨2, ![1, 64]⟩
abbrev S2x512 : Shape := ⟨2, ![2, 512]⟩
abbrev S16384x1024 : Shape := ⟨2, ![16384, 1024]⟩
abbrev S512x1024 : Shape := ⟨2, ![512, 1024]⟩
abbrev S_ : Shape := ⟨0, ![]⟩
abbrev S512 : Shape := ⟨1, ![512]⟩
abbrev S1x512 : Shape := ⟨2, ![1, 512]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x1024 : Shape := ⟨2, ![1, 1024]⟩
abbrev S1024 : Shape := ⟨1, ![1024]⟩
abbrev S1024x3584 : Shape := ⟨2, ![1024, 3584]⟩
abbrev S64 : Shape := ⟨1, ![64]⟩
abbrev S8x64 : Shape := ⟨2, ![8, 64]⟩
abbrev S16896x512 : Shape := ⟨2, ![16896, 512]⟩
abbrev S2560x512 : Shape := ⟨2, ![2560, 512]⟩
abbrev S512x1 : Shape := ⟨2, ![512, 1]⟩
abbrev S1024x512 : Shape := ⟨2, ![1024, 512]⟩

abbrev nBuf : Space → Nat
  | .hbm => 70
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S16x32x1024, .f32⟩
  | .hbm, ⟨2, _⟩ => ⟨S2x1024, .f32⟩
  | .hbm, ⟨3, _⟩ => ⟨S1x1024x3584, .f32⟩
  | .hbm, ⟨4, _⟩ => ⟨S1x64, .f32⟩
  | .hbm, ⟨5, _⟩ => ⟨S1x64, .f32⟩
  | .hbm, ⟨6, _⟩ => ⟨S2x512, .f32⟩
  | .hbm, ⟨7, _⟩ => ⟨S16384x1024, .f32⟩
  | .hbm, ⟨8, _⟩ => ⟨S512x1024, .f32⟩
  | .hbm, ⟨9, _⟩ => ⟨S_, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S1x512, .f32⟩
  | .hbm, ⟨15, _⟩ => ⟨S2x512, .f32⟩
  | .hbm, ⟨16, _⟩ => ⟨S2x512, .f32⟩
  | .hbm, ⟨17, _⟩ => ⟨S2x512, .f32⟩
  | .hbm, ⟨18, _⟩ => ⟨S_, .f32⟩
  | .hbm, ⟨19, _⟩ => ⟨S512, .f32⟩
  | .hbm, ⟨20, _⟩ => ⟨S1x512, .f32⟩
  | .hbm, ⟨21, _⟩ => ⟨S2x512, .f32⟩
  | .hbm, ⟨22, _⟩ => ⟨S2x512, .f32⟩
  | .hbm, ⟨23, _⟩ => ⟨S_, .f32⟩
  | .hbm, ⟨24, _⟩ => ⟨S_, .f32⟩
  | .hbm, ⟨25, _⟩ => ⟨S2x512, .f32⟩
  | .hbm, ⟨26, _⟩ => ⟨S8x8, .i32⟩
  | .hbm, ⟨27, _⟩ => ⟨S8x8, .i32⟩
  | .hbm, ⟨28, _⟩ => ⟨S_, .i32⟩
  | .hbm, ⟨29, _⟩ => ⟨S8x8, .i32⟩
  | .hbm, ⟨30, _⟩ => ⟨S8x8, .i32⟩
  | .hbm, ⟨31, _⟩ => ⟨S8x8, .i1⟩
  | .hbm, ⟨32, _⟩ => ⟨S8x8, .f32⟩
  | .hbm, ⟨33, _⟩ => ⟨S_, .f32⟩
  | .hbm, ⟨34, _⟩ => ⟨S64x64, .f32⟩
  | .hbm, ⟨35, _⟩ => ⟨S8x1x8x1, .f32⟩
  | .hbm, ⟨36, _⟩ => ⟨S1x64x1x64, .f32⟩
  | .hbm, ⟨37, _⟩ => ⟨S8x64x8x64, .f32⟩
  | .hbm, ⟨38, _⟩ => ⟨S8x64x8x64, .f32⟩
  | .hbm, ⟨39, _⟩ => ⟨S8x64x8x64, .f32⟩
  | .hbm, ⟨40, _⟩ => ⟨S512x512, .f32⟩
  | .hbm, ⟨41, _⟩ => ⟨S512x512, .bf16⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S1024x3584, .f32⟩
  | .hbm, ⟨46, _⟩ => ⟨S1024x3584, .bf16⟩
  | .hbm, ⟨47, _⟩ => ⟨S64, .f32⟩
  | .hbm, ⟨48, _⟩ => ⟨S1x64, .f32⟩
  | .hbm, ⟨49, _⟩ => ⟨S8x64, .f32⟩
  | .hbm, ⟨50, _⟩ => ⟨S512, .f32⟩
  | .hbm, ⟨51, _⟩ => ⟨S1x512, .f32⟩
  | .hbm, ⟨52, _⟩ => ⟨S64, .f32⟩
  | .hbm, ⟨53, _⟩ => ⟨S1x64, .f32⟩
  | .hbm, ⟨54, _⟩ => ⟨S8x64, .f32⟩
  | .hbm, ⟨55, _⟩ => ⟨S512, .f32⟩
  | .hbm, ⟨56, _⟩ => ⟨S1x512, .f32⟩
  | .hbm, ⟨57, _⟩ => ⟨S1x512, .f32⟩
  | .hbm, ⟨58, _⟩ => ⟨S512, .f32⟩
  | .hbm, ⟨59, _⟩ => ⟨S1x512, .f32⟩
  | .hbm, ⟨60, _⟩ => ⟨S16896x512, .bf16⟩
  | .hbm, ⟨61, _⟩ => ⟨S2560x512, .f32⟩
  | .hbm, ⟨62, _⟩ => ⟨S2560x512, .f32⟩
  | .hbm, ⟨63, _⟩ => ⟨S16896x512, .bf16⟩
  | .hbm, ⟨64, _⟩ => ⟨S16896x512, .bf16⟩
  | .hbm, ⟨65, _⟩ => ⟨S16896x512, .f32⟩
  | .hbm, ⟨66, _⟩ => ⟨S16896x512, .f32⟩
  | .hbm, ⟨67, _⟩ => ⟨S16896x512, .f32⟩
  | .hbm, ⟨68, _⟩ => ⟨S16896x512, .f32⟩
  | .hbm, ⟨69, _⟩ => ⟨S16896x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x3584, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_call0_cst : Ref sig .tc := ⟨.hbm, 23, rfl⟩
abbrev main_call0_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41_0 : Ref sig .tc := ⟨.hbm, 60, rfl⟩
abbrev main_v41_1 : Ref sig .tc := ⟨.hbm, 61, rfl⟩
abbrev main_v41_2 : Ref sig .tc := ⟨.hbm, 62, rfl⟩
abbrev main_v41_3 : Ref sig .tc := ⟨.hbm, 63, rfl⟩
abbrev main_v41_4 : Ref sig .tc := ⟨.hbm, 64, rfl⟩
abbrev main_v41_5 : Ref sig .tc := ⟨.hbm, 65, rfl⟩
abbrev main_v41_6 : Ref sig .tc := ⟨.hbm, 66, rfl⟩
abbrev main_v41_7 : Ref sig .tc := ⟨.hbm, 67, rfl⟩
abbrev main_v41_8 : Ref sig .tc := ⟨.hbm, 68, rfl⟩
abbrev main_v41_9 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.muli v16 c1_i32_10
  let c7_i32 : BitVec 32 := 7#32
  let v28 : BitVec 32 := Scalar.subi v26 c7_i32
  let c0_i32_11 : BitVec 32 := 0#32
  let v29 : BitVec 32 := Scalar.maxsi v28 c0_i32_11
  let v30 : BitVec 32 := Scalar.addi v27 v29
  let c32_i32 : BitVec 32 := 32#32
  let v31 : BitVec 1 := Scalar.cmpi .sge arg0 c32_i32
  let c32_i32_12 : BitVec 32 := 32#32
  let v32 : BitVec 32 := Scalar.subi arg0 c32_i32_12
  let c4_i32 : BitVec 32 := 4#32
  let v33 : BitVec 32 := Scalar.addi c4_i32 v32
  let v34 : BitVec 32 := Scalar.select v31 v33 v30
  let c0_i32_13 : BitVec 32 := 0#32
  let c0_i32_14 : BitVec 32 := 0#32
  ![v34.toNat, c0_i32_13.toNat]

def cc0_transform_10 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.muli v16 c1_i32_10
  let c7_i32 : BitVec 32 := 7#32
  let v28 : BitVec 32 := Scalar.subi v26 c7_i32
  let c0_i32_11 : BitVec 32 := 0#32
  let v29 : BitVec 32 := Scalar.maxsi v28 c0_i32_11
  let v30 : BitVec 32 := Scalar.addi v27 v29
  let c32_i32 : BitVec 32 := 32#32
  let v31 : BitVec 1 := Scalar.cmpi .sge arg0 c32_i32
  let c32_i32_12 : BitVec 32 := 32#32
  let v32 : BitVec 32 := Scalar.subi arg0 c32_i32_12
  let c4_i32 : BitVec 32 := 4#32
  let v33 : BitVec 32 := Scalar.addi c4_i32 v32
  let v34 : BitVec 32 := Scalar.select v31 v33 v30
  let c0_i32_13 : BitVec 32 := 0#32
  let c0_i32_14 : BitVec 32 := 0#32
  ![v34.toNat, c0_i32_13.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ProjectReferenceIdeal.lean ====
abbrev S4x4096x1024 : Shape := ⟨3, ![4, 4096, 1024]⟩
abbrev S16x32x1024 : Shape := ⟨3, ![16, 32, 1024]⟩
abbrev S2x1024 : Shape := ⟨2, ![2, 1024]⟩
abbrev S1x1024x3584 : Shape := ⟨3, ![1, 1024, 3584]⟩
abbrev S1x64 : Shape := ⟨2, ![1, 64]⟩
abbrev S2x512 : Shape := ⟨2, ![2, 512]⟩
abbrev S_ : Shape := ⟨0, ![]⟩
abbrev S512 : Shape := ⟨1, ![512]⟩
abbrev S1x512 : Shape := ⟨2, ![1, 512]⟩
abbrev S16384x1024 : Shape := ⟨2, ![16384, 1024]⟩
abbrev S512x1024 : Shape := ⟨2, ![512, 1024]⟩
abbrev S16896x1024 : Shape := ⟨2, ![16896, 1024]⟩
abbrev S1x1024 : Shape := ⟨2, ![1, 1024]⟩
abbrev S1024 : Shape := ⟨1, ![1024]⟩
abbrev S16896 : Shape := ⟨1, ![16896]⟩
abbrev S16896x1 : Shape := ⟨2, ![16896, 1]⟩
abbrev S1024x3584 : Shape := ⟨2, ![1024, 3584]⟩
abbrev S16896x3584 : Shape := ⟨2, ![16896, 3584]⟩
abbrev S16896x512 : Shape := ⟨2, ![16896, 512]⟩
abbrev S16896x8x64 : Shape := ⟨3, ![16896, 8, 64]⟩
abbrev S64 : Shape := ⟨1, ![64]⟩
abbrev S16896x8 : Shape := ⟨2, ![16896, 8]⟩
abbrev S16896x8x1 : Shape := ⟨3, ![16896, 8, 1]⟩
abbrev S1x1x64 : Shape := ⟨3, ![1, 1, 64]⟩
abbrev S16384x512 : Shape := ⟨2, ![16384, 512]⟩
abbrev S4x4096x512 : Shape := ⟨3, ![4, 4096, 512]⟩
abbrev S4x512x512 : Shape := ⟨3, ![4, 512, 512]⟩
abbrev S2048x512 : Shape := ⟨2, ![2048, 512]⟩
abbrev S512x512 : Shape := ⟨2, ![512, 512]⟩
abbrev S2560x512 : Shape := ⟨2, ![2560, 512]⟩

abbrev nBuf : Space → Nat
  | .hbm => 144
  | .vmem => 0
  | .smem => 0
  | _ => 0

abbrev hbmTy0_0 (i : Nat) : BufTy := match i % 128 with
  | 0 => ⟨S4x4096x1024, .f32⟩
  | 1 => ⟨S16x32x1024, .f32⟩
  | 2 => ⟨S2x1024, .f32⟩
  | 3 => ⟨S1x1024x3584, .f32⟩
  | 4 => ⟨S1x64, .f32⟩
  | 5 => ⟨S1x64, .f32⟩
  | 6 => ⟨S2x512, .f32⟩
  | 7 => ⟨S_, .f32⟩
  | 8 => ⟨S512, .f32⟩
  | 9 => ⟨S_, .f32⟩
  | 10 => ⟨S512, .f32⟩
  | 11 => ⟨S512, .f32⟩
  | 12 => ⟨S1x512, .f32⟩
  | 13 => ⟨S2x512, .f32⟩
  | 14 => ⟨S2x512, .f32⟩
  | 15 => ⟨S2x512, .f32⟩
  | 16 => ⟨S_, .f32⟩
  | 17 => ⟨S512, .f32⟩
  | 18 => ⟨S1x512, .f32⟩
  | 19 => ⟨S2x512, .f32⟩
  | 20 => ⟨S2x512, .f32⟩
  | 21 => ⟨S_, .f32⟩
  | 22 => ⟨S_, .f32⟩
  | 23 => ⟨S2x512, .f32⟩
  | 24 => ⟨S16384x1024, .f32⟩
  | 25 => ⟨S512x1024, .f32⟩
  | 26 => ⟨S16896x1024, .f32⟩
  | 27 => ⟨S1x1024, .f32⟩
  | 28 => ⟨S1024, .f32⟩
  | 29 => ⟨S16896x1024, .f32⟩
  | 30 => ⟨S_, .f32⟩
  | 31 => ⟨S16896, .f32⟩
  | 32 => ⟨S16896x1, .f32⟩
  | 33 => ⟨S_, .f32⟩
  | 34 => ⟨S16896x1, .f32⟩
  | 35 => ⟨S16896x1, .f32⟩
  | 36 => ⟨S_, .f32⟩
  | 37 => ⟨S16896x1, .f32⟩
  | 38 => ⟨S16896x1, .f32⟩
  | 39 => ⟨S16896x1, .f32⟩
  | 40 => ⟨S16896x1024, .f32⟩
  | 41 => ⟨S16896x1024, .f32⟩
  | 42 => ⟨S1x1024, .f32⟩
  | 43 => ⟨S16896x1024, .f32⟩
  | 44 => ⟨S16896x1024, .f32⟩
  | 45 => ⟨S1024x3584, .f32⟩
  | 46 => ⟨S16896x3584, .f32⟩
  | 47 => ⟨S16896x512, .f32⟩
  | 48 => ⟨S16896x512, .f32⟩
  | 49 => ⟨S16896x512, .f32⟩
  | 50 => ⟨S16896x512, .f32⟩
  | 51 => ⟨S16896x512, .f32⟩
  | 52 => ⟨S16896x512, .f32⟩
  | 53 => ⟨S16896x512, .f32⟩
  | 54 => ⟨S16896x8x64, .f32⟩
  | 55 => ⟨S64, .f32⟩
  | 56 => ⟨S16896x8x64, .f32⟩
  | 57 => ⟨S_, .f32⟩
  | 58 => ⟨S16896x8, .f32⟩
  | 59 => ⟨S16896x8x1, .f32⟩
  | 60 => ⟨S_, .f32⟩
  | 61 => ⟨S16896x8x1, .f32⟩
  | 62 => ⟨S16896x8x1, .f32⟩
  | 63 => ⟨S_, .f32⟩
  | 64 => ⟨S16896x8x1, .f32⟩
  | 65 => ⟨S16896x8x1, .f32⟩
  | 66 => ⟨S16896x8x1, .f32⟩
  | 67 => ⟨S16896x8x64, .f32⟩
  | 68 => ⟨S16896x8x64, .f32⟩
  | 69 => ⟨S1x1x64, .f32⟩
  | 70 => ⟨S16896x8x64, .f32⟩
  | 71 => ⟨S16896x8x64, .f32⟩
  | 72 => ⟨S16896x512, .f32⟩
  | 73 => ⟨S16896x8x64, .f32⟩
  | 74 => ⟨S64, .f32⟩
  | 75 => ⟨S16896x8x64, .f32⟩
  | 76 => ⟨S_, .f32⟩
  | 77 => ⟨S16896x8, .f32⟩
  | 78 => ⟨S16896x8x1, .f32⟩
  | 79 => ⟨S_, .f32⟩
  | 80 => ⟨S16896x8x1, .f32⟩
  | 81 => ⟨S16896x8x1, .f32⟩
  | 82 => ⟨S_, .f32⟩
  | 83 => ⟨S16896x8x1, .f32⟩
  | 84 => ⟨S16896x8x1, .f32⟩
  | 85 => ⟨S16896x8x1, .f32⟩
  | 86 => ⟨S16896x8x64, .f32⟩
  | 87 => ⟨S16896x8x64, .f32⟩
  | 88 => ⟨S1x1x64, .f32⟩
  | 89 => ⟨S16896x8x64, .f32⟩
  | 90 => ⟨S16896x8x64, .f32⟩
  | 91 => ⟨S16896x512, .f32⟩
  | 92 => ⟨S1x512, .f32⟩
  | 93 => ⟨S512, .f32⟩
  | 94 => ⟨S1x512, .f32⟩
  | 95 => ⟨S512, .f32⟩
  | 96 => ⟨S_, .f32⟩
  | 97 => ⟨S512, .f32⟩
  | 98 => ⟨S512, .f32⟩
  | 99 => ⟨S16896x512, .f32⟩
  | 100 => ⟨S16896x512, .f32⟩
  | 101 => ⟨S_, .f32⟩
  | 102 => ⟨S16896x512, .f32⟩
  | 103 => ⟨S16896x512, .f32⟩
  | 104 => ⟨S_, .f32⟩
  | 105 => ⟨S16896x512, .f32⟩
  | 106 => ⟨S16896x512, .f32⟩
  | 107 => ⟨S1x512, .f32⟩
  | 108 => ⟨S16896x512, .f32⟩
  | 109 => ⟨S16896x512, .f32⟩
  | 110 => ⟨S1x512, .f32⟩
  | 111 => ⟨S16896x512, .f32⟩
  | 112 => ⟨S16896x512, .f32⟩
  | 113 => ⟨S_, .f32⟩
  | 114 => ⟨S16896x512, .f32⟩
  | 115 => ⟨S16896x512, .f32⟩
  | 116 => ⟨S16896x512, .bf16⟩
  | 117 => ⟨S16384x512, .f32⟩
  | 118 => ⟨S4x4096x512, .f32⟩
  | 119 => ⟨S4x512x512, .f32⟩
  | 120 => ⟨S2048x512, .f32⟩
  | 121 => ⟨S512x512, .f32⟩
  | 122 => ⟨S2560x512, .f32⟩
  | 123 => ⟨S16384x512, .f32⟩
  | 124 => ⟨S4x4096x512, .f32⟩
  | 125 => ⟨S4x512x512, .f32⟩
  | 126 => ⟨S2048x512, .f32⟩
  | 127 => ⟨S512x512, .f32⟩
  | _ => ⟨S4x4096x1024, .f32⟩

abbrev hbmTy0_1 (i : Nat) : BufTy := match i % 128 with
  | 0 => ⟨S2560x512, .f32⟩
  | 1 => ⟨S16896x512, .bf16⟩
  | 2 => ⟨S16896x512, .bf16⟩
  | 3 => ⟨S16896x512, .f32⟩
  | 4 => ⟨S_, .f32⟩
  | 5 => ⟨S16896x512, .f32⟩
  | 6 => ⟨S16896x512, .f32⟩
  | 7 => ⟨S16896x512, .f32⟩
  | 8 => ⟨S16896x512, .f32⟩
  | 9 => ⟨S_, .f32⟩
  | 10 => ⟨S16896x512, .f32⟩
  | 11 => ⟨S16896x512, .f32⟩
  | 12 => ⟨S_, .f32⟩
  | 13 => ⟨S16896x512, .f32⟩
  | 14 => ⟨S16896x512, .f32⟩
  | 15 => ⟨S16896x512, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_call0_cst : Ref sig .tc := ⟨.hbm, 21, rfl⟩
abbrev main_call0_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_12 : Ref sig .tc := ⟨.hbm, 101, rfl⟩
abbrev main_v79 : Ref sig .tc := ⟨.hbm, 102, rfl⟩
abbrev main_v80 : Ref sig .tc := ⟨.hbm, 103, rfl⟩
abbrev main_cst_13 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_14 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_15 : Ref sig .tc := ⟨.hbm, 132, rfl⟩
abbrev main_v107 : Ref sig .tc := ⟨.hbm, 133, rfl⟩
abbrev main_v108 : Ref sig .tc := ⟨.hbm, 134, rfl⟩
abbrev main_call1_v0 : Ref sig .tc := ⟨.hbm, 135, rfl⟩
abbrev main_call1_v1 : Ref sig .tc := ⟨.hbm, 136, rfl⟩
abbrev main_call1_cst : Ref sig .tc := ⟨.hbm, 137, rfl⟩
abbrev main_call1_v2 : Ref sig .tc := ⟨.hbm, 138, rfl⟩
abbrev main_call1_v3 : Ref sig .tc := ⟨.hbm, 139, rfl⟩
abbrev main_call1_cst_0 : Ref sig .tc := ⟨.hbm, 140, rfl⟩
abbrev main_call1_v4 : Ref sig .tc := ⟨.hbm, 141, rfl⟩
abbrev main_call1_v5 : Ref sig .tc := ⟨.hbm, 142, rfl⟩
abbrev main_v109 : Ref sig .tc := ⟨.hbm, 143, rfl⟩

abbrev nD : Nat := 1
abbrev τ : Topo := Topo.v7x

variable {F : FTy → Type} [FloatOps F]
-- ==== Proof.Softmax.lean ====
/- The mathematics of one query's attention over the extended reals, free of both programs: the softmax weights of scores
   that are finite or −∞, the two orders of dividing by their sum, and a window of keys that contains the band. -/
module

public import Idealize.ShloMosaic.Lib.Pipeline.ValueKit

@[expose] public section

noncomputable section

open Idealize.ShloMosaic

namespace Cert.Softmax

/-- The largest score, −∞ on no scores. -/
def top {n : ℕ} (s : Fin n → EReal) : EReal := Finset.univ.fold max ⊥ s

theorem top_eq_sup {n : ℕ} (s : Fin n → EReal) : top s = Finset.univ.sup s := rfl

/-- One query's result: the values mixed by the softmax numerators, divided by the numerators' sum. -/
def attend {n : ℕ} (s v : Fin n → EReal) : EReal :=
  Ideal.div (∑ k, Ideal.exp (s k - top s) * v k) (∑ k, Ideal.exp (s k - top s))

/-- Where every score is finite or −∞ and some score is finite, the numerators are nonnegative reals with a positive sum, and
    a key of score −∞ has numerator zero. -/
theorem exists_weights {n : ℕ} (s : Fin n → EReal) (hs : ∀ k, s k ≠ ⊤) (h : ∃ k, s k ≠ ⊥) :
    ∃ w : Fin n → ℝ, 0 < ∑ k, w k ∧ (∀ k, Ideal.exp (s k - top s) = (w k : EReal)) ∧ ∀ k, s k = ⊥ → w k = 0 := by
  obtain ⟨k₀, h₀⟩ := h
  obtain ⟨k₁, -, h₁⟩ := Finset.exists_mem_eq_sup Finset.univ ⟨k₀, Finset.mem_univ _⟩ s
  have hle : s k₀ ≤ s k₁ := h₁ ▸ Finset.le_sup (f := s) (Finset.mem_univ k₀)
  have hb : s k₁ ≠ ⊥ := fun hb => h₀ (le_bot_iff.mp (hb ▸ hle))
  obtain ⟨M, hM⟩ : ∃ M : ℝ, s k₁ = M := ⟨(s k₁).toReal, (EReal.coe_toReal (hs k₁) hb).symm⟩
  have hm : top s = (M : EReal) := by rw [top_eq_sup, h₁, hM]
  refine ⟨fun k => if s k = ⊥ then 0 else Real.exp ((s k).toReal - M), ?_, fun k => ?_, fun k hk => if_pos hk⟩
  · refine Finset.sum_pos' (fun k _ => ?_) ⟨k₁, Finset.mem_univ _, ?_⟩
    · split
      · exact le_rfl
      · exact (Real.exp_pos _).le
    · rw [if_neg hb]
      exact Real.exp_pos _
  · rw [hm]
    dsimp only
    by_cases hk : s k = ⊥
    · rw [if_pos hk, hk, EReal.bot_sub]
      rfl
    · rw [if_neg hk]
      conv_lhs => rw [← EReal.coe_toReal (hs k) hk, ← EReal.coe_sub]
      rfl

theorem sum_coe {n : ℕ} (w : Fin n → ℝ) : ∑ k, (w k : EReal) = ((∑ k, w k : ℝ) : EReal) := by
  induction n with
  | zero => simp
  | succ n ih => rw [Fin.sum_univ_succ, Fin.sum_univ_succ, ih, EReal.coe_add]

/-- A nonnegative real factor goes into a sum of extended reals. -/
theorem sum_mul_coe {ι : Type*} (S : Finset ι) (f : ι → EReal) (c : ℝ) (hc : 0 ≤ c) :
    (∑ k ∈ S, f k) * (c : EReal) = ∑ k ∈ S, f k * (c : EReal) := by
  classical
  induction S using Finset.induction_on with
  | empty => simp
  | insert a S ha ih =>
    rw [Finset.sum_insert ha, Finset.sum_insert ha,
      EReal.right_distrib_of_nonneg_of_ne_top (EReal.coe_nonneg.mpr hc) (EReal.coe_ne_top c), ih]

/-- Dividing the mix of the values by the numerators' sum is mixing the values by the divided numerators. -/
theorem attend_eq_mix {n : ℕ} (s v : Fin n → EReal) (hs : ∀ k, s k ≠ ⊤) (h : ∃ k, s k ≠ ⊥) :
    attend s v = ∑ k, v k * Ideal.div (Ideal.exp (s k - top s)) (∑ k', Ideal.exp (s k' - top s)) := by
  obtain ⟨w, hpos, hw, -⟩ := exists_weights s hs h
  unfold attend
  simp only [hw, sum_coe]
  have hne : (∑ k, w k) ≠ 0 := hpos.ne'
  rw [Ideal.div_coe hne, sum_mul_coe _ _ _ (by positivity)]
  refine Finset.sum_congr rfl fun k _ => ?_
  rw [Ideal.div_coe hne, mul_comm (w k : EReal) (v k), mul_assoc]

/-! ## A window of keys around the band -/

section Window
variable {n N : ℕ} (off : ℕ) (hoff : ∀ k : Fin n, k.val + off < N)

/-- Band position `k` as a column of the window. -/
def col (k : Fin n) : Fin N := ⟨k.val + off, hoff k⟩

theorem col_injective : Function.Injective (col off hoff) := fun a b h => by
  have := congrArg Fin.val h
  simp only [col] at this
  exact Fin.ext (by omega)

/-- A column that is no band position lies before the band or after it. -/
theorem exists_col_or {P : Fin N → Prop} (hout : ∀ j : Fin N, (j.val < off ∨ off + n ≤ j.val) → P j) (j : Fin N) :
    (∃ k, col off hoff k = j) ∨ P j := by
  by_cases h : j.val < off ∨ off + n ≤ j.val
  · exact .inr (hout j h)
  · exact .inl ⟨⟨j.val - off, by omega⟩, Fin.ext (by simp only [col]; omega)⟩

theorem sum_window (f : Fin N → EReal) (hout : ∀ j : Fin N, (j.val < off ∨ off + n ≤ j.val) → f j = 0) :
    ∑ j, f j = ∑ k, f (col off hoff k) := by
  refine Eq.trans ?_ (Finset.sum_map Finset.univ ⟨col off hoff, col_injective off hoff⟩ f)
  refine (Finset.sum_subset (Finset.subset_univ _) fun j _ hj => ?_).symm
  rcases exists_col_or off hoff hout j with ⟨k, rfl⟩ | h
  · exact absurd (Finset.mem_map_of_mem _ (Finset.mem_univ k)) hj
  · exact h

theorem top_window (s : Fin N → EReal) (hout : ∀ j : Fin N, (j.val < off ∨ off + n ≤ j.val) → s j = ⊥) :
    top s = top fun k => s (col off hoff k) := by
  rw [top_eq_sup, top_eq_sup]
  refine le_antisymm (Finset.sup_le fun j _ => ?_) (Finset.sup_le fun k _ => Finset.le_sup (f := s) (Finset.mem_univ _))
  rcases exists_col_or off hoff hout j with ⟨k, rfl⟩ | h
  · exact Finset.le_sup (f := fun k => s (col off hoff k)) (Finset.mem_univ k)
  · rw [h]
    exact bot_le

/-- Attention over the window is attention over the band: outside the band every score is −∞, and a value counts only where
    its score is not −∞. -/
theorem attend_window (s v : Fin N → EReal) (s' v' : Fin n → EReal)
    (hout : ∀ j : Fin N, (j.val < off ∨ off + n ≤ j.val) → s j = ⊥)
    (hin : ∀ k, s (col off hoff k) = s' k) (hv : ∀ k, s' k ≠ ⊥ → v (col off hoff k) = v' k) :
    attend s v = attend s' v' := by
  have htop : top s = top s' := (top_window off hoff s hout).trans (congrArg top (funext hin))
  have hzero : Ideal.exp (⊥ - top s') = 0 := by
    rw [EReal.bot_sub]
    rfl
  unfold attend
  rw [htop, sum_window off hoff (fun j => Ideal.exp (s j - top s') * v j) (fun j hj => by rw [hout j hj, hzero, zero_mul]),
    sum_window off hoff (fun j => Ideal.exp (s j - top s')) (fun j hj => by rw [hout j hj, hzero])]
  simp only [hin]
  congr 1
  refine Finset.sum_congr rfl fun k _ => ?_
  by_cases hk : s' k = ⊥
  · rw [hk, hzero, zero_mul, zero_mul]
  · rw [hv k hk]

end Window

end Cert.Softmax

end
-- ==== Proof.Unit.lean ====
/- What one unit of a block computes: 128 queries of one head against the 640 keys around them. A block's sixteen stores are
   sixteen such units, eight heads by two halves of the 256 queries. -/
module

public import proofs.«01_k».proof.Proof.Gen.KernelIdeal.Frame
public import proofs.«01_k».proof.Proof.Softmax

@[expose] public section

set_option maxRecDepth 16384

noncomputable section

open Idealize.ShloMosaic Idealize.ShloMosaic.TcCoe Idealize.SL.Sem

namespace Cert.KernelIdeal.Unit

open Cert.KernelIdeal Cert.KernelIdeal.Gen

/-- The column numbers of a unit's scores. -/
abbrev cols : IVec S128x640 32 := iota .tc S128x640 32 [1] iota_S128x640_d1_w32

/-- The first half's scores: three products side by side, the bias added, the columns before the sequence's start masked. -/
def scoreA (lim : BitVec 32) (q : Vec Ideal S128x64 .bf16) (k0 k1 k2 : Vec Ideal S256x64 .bf16) (bs : Vec Ideal S1x128x640 .f32) :
    FVec Ideal S128x640 .f32 :=
  k0_pay29 lim cols (k0_pay23 (k0_pay3 k0) (k0_pay4 k1) (k0_pay9 k2) q q q) bs

/-- The second half's scores. -/
def scoreB (lim : BitVec 32) (q : Vec Ideal S128x64 .bf16) (k0 k1 k2 : Vec Ideal S256x64 .bf16) (bs : Vec Ideal S1x128x640 .f32) :
    FVec Ideal S128x640 .f32 :=
  k0_pay30 lim cols (k0_pay24 (k0_pay4 k1) (k0_pay5 k2) (k0_pay11 k0) q q q) bs

/-- The first half's result from its scores. -/
def mixA (s : FVec Ideal S128x640 .f32) (v0 v1 v2 : Vec Ideal S256x64 .bf16) : FVec Ideal S128x64 .bf16 :=
  k0_pay46 (k0_pay7 v1) (k0_pay10 v2) (k0_pay37 s) (k0_pay41 s) (k0_pay42 (k0_pay6 v0) s)

/-- The second half's result from its scores. -/
def mixB (s : FVec Ideal S128x640 .f32) (v0 v1 v2 : Vec Ideal S256x64 .bf16) : FVec Ideal S128x64 .bf16 :=
  k0_pay47 (k0_pay38 s) (k0_pay43 (k0_pay7 v1) (k0_pay8 v2) (k0_pay12 v0) (k0_pay34 s))

/-- Three blocks of 256 rows laid one after the other, read at a row and a column. -/
def joined (a0 a1 a2 : Vec Ideal S256x64 .bf16) (p : Fin 768) (d : Fin 64) : EReal :=
  if h : p.val < 256 then a0 (ix2 ⟨p.val, h⟩ d)
  else if h' : p.val < 512 then a1 (ix2 ⟨p.val - 256, by omega⟩ d)
  else a2 (ix2 ⟨p.val - 512, by omega⟩ d)

theorem joined_fst (a0 a1 a2 : Vec Ideal S256x64 .bf16) (p : Fin 768) (d : Fin 64) (x : Fin 256) (h : p.val = x.val) :
    a0 (ix2 x d) = joined a0 a1 a2 p d := by
  unfold joined
  rw [dif_pos (by omega)]
  exact congrArg a0 (congrArg (ix2 · d) (Fin.ext h.symm))

theorem joined_snd (a0 a1 a2 : Vec Ideal S256x64 .bf16) (p : Fin 768) (d : Fin 64) (x : Fin 256) (h : p.val = 256 + x.val) :
    a1 (ix2 x d) = joined a0 a1 a2 p d := by
  unfold joined
  rw [dif_neg (by omega), dif_pos (by omega)]
  exact congrArg a1 (congrArg (ix2 · d) (Fin.ext (by dsimp only; omega)))

theorem joined_thd (a0 a1 a2 : Vec Ideal S256x64 .bf16) (p : Fin 768) (d : Fin 64) (x : Fin 256) (h : p.val = 512 + x.val) :
    a2 (ix2 x d) = joined a0 a1 a2 p d := by
  unfold joined
  rw [dif_neg (by omega), dif_neg (by omega)]
  exact congrArg a2 (congrArg (ix2 · d) (Fin.ext (by dsimp only; omega)))

/-- Column `j` of the unit that starts at row `u` of the three blocks. -/
abbrev at_ (u : ℕ) (hu : u ≤ 128) (j : Fin 640) : Fin 768 := ⟨u + j.val, by omega⟩

/-- The number of the unit's block in its sequence, as the mask's first allowed row: two blocks back, cut at the start. -/
def limit (t : ℕ) : BitVec 32 := Scalar.muli (Scalar.maxsi (Scalar.subi 2#32 (BitVec.ofNat 32 t)) 0#32) 256#32

theorem mask_bot : (Named.named (F := Ideal) (φ := .f32) κ "mask" 0xF149F2CA#32 : EReal) = ⊥ :=
  IdealRules.named_const.ideal_named_scalar _ _ _ _ rfl

theorem zero_bits : (Ideal.ofBits .f32 0xFF800000#32 : EReal) = ⊥ := by
  simp [Ideal.ofBits, Ideal.ieee]

/-- The mask's comparison, for every block number and column of the first half. -/
theorem maskA (t : Fin 16) (j : Fin 640) :
    IntOp.cmpi .slt (IntOp.addi (BitVec.ofNat 32 j.val) 0#32) (limit t.val) = if j.val < (2 - t.val) * 256 then 1#1 else 0#1 := by
  revert t j
  decide +kernel

/-- The same for the second half, whose columns start at row 128. -/
theorem maskB (t : Fin 16) (j : Fin 640) :
    IntOp.cmpi .slt (IntOp.addi (BitVec.ofNat 32 j.val) 128#32) (limit t.val)
      = if 128 + j.val < (2 - t.val) * 256 then 1#1 else 0#1 := by
  revert t j
  decide +kernel

theorem select_ite {α : Type} (p : Prop) [Decidable p] (a b : α) : Scalar.select (if p then 1#1 else 0#1) a b = if p then a else b := by
  by_cases h : p
  · rw [if_pos h, if_pos h]
    rfl
  · rw [if_neg h, if_neg h]
    rfl

theorem scoreA_at (t : Fin 16) (q : Vec Ideal S128x64 .bf16) (k0 k1 k2 : Vec Ideal S256x64 .bf16)
    (bs : Vec Ideal S1x128x640 .f32) (r : Fin 128) (j : Fin 640) :
    scoreA (limit t.val) q k0 k1 k2 bs (ix2 r j) = if j.val < (2 - t.val) * 256 then (⊥ : EReal)
      else (∑ d, q (ix2 r d) * joined k0 k1 k2 (at_ 0 (by omega) j) d) + bs (ix3 0 r j) := by
  pointwise [scoreA, k0_pay29, k0_pay23, k0_pay3, k0_pay4, k0_pay9, k0_pay5]
  rw [maskA, mask_bot, select_ite]
  refine if_congr Iff.rfl rfl (congrArg (· + bs (ix3 0 r j)) ?_)
  by_cases h : j.val < 256
  · rw [dif_pos h]
    exact Finset.sum_congr rfl fun d _ => congrArg (q (ix2 r d) * ·) (joined_fst _ _ _ _ _ _ (by dsimp only; omega))
  · rw [dif_neg h]
    by_cases h' : j.val - 256 < 256
    · rw [dif_pos h']
      exact Finset.sum_congr rfl fun d _ => congrArg (q (ix2 r d) * ·) (joined_snd _ _ _ _ _ _ (by dsimp only; omega))
    · rw [dif_neg h']
      exact Finset.sum_congr rfl fun d _ => congrArg (q (ix2 r d) * ·) (joined_thd _ _ _ _ _ _ (by dsimp only; omega))

theorem scoreB_at (t : Fin 16) (q : Vec Ideal S128x64 .bf16) (k0 k1 k2 : Vec Ideal S256x64 .bf16)
    (bs : Vec Ideal S1x128x640 .f32) (r : Fin 128) (j : Fin 640) :
    scoreB (limit t.val) q k0 k1 k2 bs (ix2 r j) = if 128 + j.val < (2 - t.val) * 256 then (⊥ : EReal)
      else (∑ d, q (ix2 r d) * joined k0 k1 k2 (at_ 128 (by omega) j) d) + bs (ix3 0 r j) := by
  pointwise [scoreB, k0_pay30, k0_pay24, k0_pay3, k0_pay4, k0_pay11, k0_pay5]
  rw [maskB, mask_bot, select_ite]
  refine if_congr Iff.rfl rfl (congrArg (· + bs (ix3 0 r j)) ?_)
  by_cases h : j.val < 128
  · rw [dif_pos h]
    exact Finset.sum_congr rfl fun d _ => congrArg (q (ix2 r d) * ·) (joined_fst _ _ _ _ _ _ (by dsimp only))
  · rw [dif_neg h]
    by_cases h' : j.val - 128 < 256
    · rw [dif_pos h']
      exact Finset.sum_congr rfl fun d _ => congrArg (q (ix2 r d) * ·) (joined_snd _ _ _ _ _ _ (by dsimp only; omega))
    · rw [dif_neg h']
      exact Finset.sum_congr rfl fun d _ => congrArg (q (ix2 r d) * ·) (joined_thd _ _ _ _ _ _ (by dsimp only; omega))

/-- A sum over 640 columns is the sum of three runs of them. -/
theorem sum_three {a b c n : ℕ} (hn : a + b + c = n) (f : Fin n → EReal) :
    (∑ x : Fin a, f ⟨x.val, by omega⟩) + (∑ x : Fin b, f ⟨a + x.val, by omega⟩) + (∑ x : Fin c, f ⟨a + b + x.val, by omega⟩)
      = ∑ x, f x := by
  subst hn
  rw [Fin.sum_univ_add, Fin.sum_univ_add]
  rfl

theorem mixA_at (s : FVec Ideal S128x640 .f32) (v0 v1 v2 : Vec Ideal S256x64 .bf16) (r : Fin 128) (d : Fin 64) :
    mixA s v0 v1 v2 (ix2 r d)
      = Cert.Softmax.attend (fun j => s (ix2 r j)) (fun j => joined v0 v1 v2 (at_ 0 (by omega) j) d) := by
  pointwise [mixA, k0_pay46, k0_pay7, k0_pay10, k0_pay37, k0_pay41, k0_pay42, k0_pay6, k0_pay33, k0_pay5, k0_pay8]
  rw [zero_bits]
  refine congrArg (fun w => Ideal.div w _) ?_
  rw [← sum_three (a := 256) (b := 256) (c := 128) rfl]
  refine congrArg₂ (· + ·) (congrArg₂ (· + ·) ?_ ?_) ?_
  · exact Finset.sum_congr rfl fun x _ => congrArg (_ * ·) (joined_fst _ _ _ _ _ _ (by dsimp only; omega))
  · exact Finset.sum_congr rfl fun x _ => congrArg (_ * ·) (joined_snd _ _ _ _ _ _ (by dsimp only; omega))
  · exact Finset.sum_congr rfl fun x _ => congrArg (_ * ·) (joined_thd _ _ _ _ _ _ (by dsimp only; omega))

theorem mixB_at (s : FVec Ideal S128x640 .f32) (v0 v1 v2 : Vec Ideal S256x64 .bf16) (r : Fin 128) (d : Fin 64) :
    mixB s v0 v1 v2 (ix2 r d)
      = Cert.Softmax.attend (fun j => s (ix2 r j)) (fun j => joined v0 v1 v2 (at_ 128 (by omega) j) d) := by
  pointwise [mixB, k0_pay47, k0_pay38, k0_pay43, k0_pay7, k0_pay12, k0_pay6, k0_pay34, k0_pay5, k0_pay8]
  rw [zero_bits]
  refine congrArg (fun w => Ideal.div w _) ?_
  rw [← sum_three (a := 128) (b := 256) (c := 256) rfl]
  refine congrArg₂ (· + ·) (congrArg₂ (· + ·) ?_ ?_) ?_
  · exact Finset.sum_congr rfl fun x _ => congrArg (_ * ·) (joined_fst _ _ _ _ _ _ (by dsimp only))
  · exact Finset.sum_congr rfl fun x _ => congrArg (_ * ·) (joined_snd _ _ _ _ _ _ (by dsimp only; omega))
  · exact Finset.sum_congr rfl fun x _ => congrArg (_ * ·) (joined_thd _ _ _ _ _ _ (by dsimp only; omega))

end Cert.KernelIdeal.Unit

end
-- ==== Proof.Block.lean ====
/- What a block of the kernel's output holds: 256 queries of eight heads, each its attention over 640 keys of the three blocks
   around it. The sixteen stores of a block are sixteen units, and the equation is proved once for each half. -/
module

public import proofs.«01_k».proof.Proof.Unit

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Unit

/-- Three whole blocks of 256 rows laid one after the other, read at a row and a column. -/
def rows (a0 a1 a2 : Vec Ideal S256x512 .bf16) (p : Fin 768) (b : Fin 512) : EReal :=
  if h : p.val < 256 then a0 (ix2 ⟨p.val, h⟩ b)
  else if h' : p.val < 512 then a1 (ix2 ⟨p.val - 256, by omega⟩ b)
  else a2 (ix2 ⟨p.val - 512, by omega⟩ b)

/-- The score of query row `a` and head `h` against row `p` of the three key blocks. -/
def score (t : ℕ) (x0 x1 x2 x3 : Vec Ideal S256x512 .bf16) (x7 : Vec Ideal S8x256x768 .f32) (a : Fin 256) (h : Fin 8) (p : Fin 768) :
    EReal :=
  if p.val < (2 - t) * 256 then ⊥
  else (∑ d : Fin 64, x0 (ix2 a ⟨h.val * 64 + d.val, by omega⟩) * rows x1 x2 x3 p ⟨h.val * 64 + d.val, by omega⟩) + x7 (ix3 h a p)

/-- The block's value at a row and a column. -/
def value (t : ℕ) (x0 x1 x2 x3 x4 x5 x6 : Vec Ideal S256x512 .bf16) (x7 : Vec Ideal S8x256x768 .f32) (a : Fin 256) (b : Fin 512) :
    EReal :=
  Cert.Softmax.attend (fun j : Fin 640 => score t x0 x1 x2 x3 x7 a ⟨b.val / 64, by omega⟩ ⟨a.val / 128 * 128 + j.val, by omega⟩)
    (fun j : Fin 640 => rows x4 x5 x6 ⟨a.val / 128 * 128 + j.val, by omega⟩ b)

/-- One head's columns of a load, read at a row and a column. -/
theorem ld_head (x : Vec Ideal S256x512 .bf16) (o : ℕ) (inb) (p : Fin 256) (d : Fin 64) (b : Fin 512) (hb : b.val = o + d.val) :
    View.ld x (Rect.unit (s := S256x512) ![0, o] S256x64.size inb) (ix2 p d) = x (ix2 p b) :=
  View.ld_unit_apply_of x _ _ _ _ _ (Fin.forall_fin_two.mpr ⟨(Nat.zero_add _).symm, hb⟩)

theorem ld_query (x : Vec Ideal S256x512 .bf16) (u o : ℕ) (inb) (r : Fin 128) (d : Fin 64) (a : Fin 256) (b : Fin 512)
    (ha : a.val = u + r.val) (hb : b.val = o + d.val) :
    View.ld x (Rect.unit (s := S256x512) ![u, o] S128x64.size inb) (ix2 r d) = x (ix2 a b) :=
  View.ld_unit_apply_of x _ _ _ _ _ (Fin.forall_fin_two.mpr ⟨ha, hb⟩)

theorem ld_bias (x : Vec Ideal S8x256x768 .f32) (h : Fin 8) (u : ℕ) (inb) (r : Fin 128) (j : Fin 640) (a : Fin 256) (p : Fin 768)
    (ha : a.val = u + r.val) (hp : p.val = u + j.val) :
    View.ld x (Rect.unit (s := S8x256x768) ![h.val, u, u] S1x128x640.size inb) (ix3 0 r j) = x (ix3 h a p) :=
  View.ld_unit_apply_of x _ _ _ _ _ fun i => match i with
    | 0 => rfl
    | 1 => ha
    | 2 => hp

theorem joined_ld (x y z : Vec Ideal S256x512 .bf16) (o : ℕ) (inb) (p : Fin 768) (d : Fin 64) (b : Fin 512) (hb : b.val = o + d.val) :
    joined (View.ld x (Rect.unit (s := S256x512) ![0, o] S256x64.size inb)) (View.ld y (Rect.unit (s := S256x512) ![0, o] S256x64.size inb))
      (View.ld z (Rect.unit (s := S256x512) ![0, o] S256x64.size inb)) p d = rows x y z p b := by
  unfold joined rows
  exact dite_congr rfl (fun _ => ld_head x o inb _ d b hb) fun _ =>
    dite_congr rfl (fun _ => ld_head y o inb _ d b hb) fun _ => ld_head z o inb _ d b hb

/-- A unit whose scores are `score`'s and whose values are the head's columns has the block's value. -/
theorem value_of_unit (t : ℕ) (x0 x1 x2 x3 x4 x5 x6 : Vec Ideal S256x512 .bf16) (x7 : Vec Ideal S8x256x768 .f32) (u : ℕ) (hu : u ≤ 128)
    (r : Fin 128) (d : Fin 64) (h : Fin 8) (a : Fin 256) (b : Fin 512) (ha : a.val = u + r.val) (hu' : u = 0 ∨ u = 128)
    (hb : b.val = h.val * 64 + d.val) (inb1 inb2 inb3) :
    Cert.Softmax.attend
      (fun j : Fin 640 => if u + j.val < (2 - t) * 256 then (⊥ : EReal)
        else (∑ x, View.ld x0 (Rect.unit (s := S256x512) ![u, h.val * 64] S128x64.size inb1) (ix2 r x)
            * joined (View.ld x1 (Rect.unit (s := S256x512) ![0, h.val * 64] S256x64.size inb2))
                (View.ld x2 (Rect.unit (s := S256x512) ![0, h.val * 64] S256x64.size inb2))
                (View.ld x3 (Rect.unit (s := S256x512) ![0, h.val * 64] S256x64.size inb2)) (at_ u hu j) x)
          + View.ld x7 (Rect.unit (s := S8x256x768) ![h.val, u, u] S1x128x640.size inb3) (ix3 0 r j))
      (fun j => joined (View.ld x4 (Rect.unit (s := S256x512) ![0, h.val * 64] S256x64.size inb2))
        (View.ld x5 (Rect.unit (s := S256x512) ![0, h.val * 64] S256x64.size inb2))
        (View.ld x6 (Rect.unit (s := S256x512) ![0, h.val * 64] S256x64.size inb2)) (at_ u hu j) d)
      = value t x0 x1 x2 x3 x4 x5 x6 x7 a b := by
  have e1 : a.val / 128 * 128 = u := by omega
  have e2 : (⟨b.val / 64, by omega⟩ : Fin 8) = h := Fin.ext (by dsimp only; omega)
  unfold value score
  refine congrArg₂ Cert.Softmax.attend (funext fun j => ?_) (funext fun j => ?_)
  · have e3 : (⟨a.val / 128 * 128 + j.val, by omega⟩ : Fin 768) = at_ u hu j := Fin.ext (by dsimp only; omega)
    rw [e3, e2]
    refine if_congr Iff.rfl rfl (congrArg₂ (· + ·) (Finset.sum_congr rfl fun x _ => congrArg₂ (· * ·) ?_ ?_) ?_)
    · exact ld_query x0 u _ _ r x a _ ha rfl
    · exact joined_ld x1 x2 x3 _ _ _ x _ rfl
    · exact ld_bias x7 h u _ r j a _ ha rfl
  · have e3 : (⟨a.val / 128 * 128 + j.val, by omega⟩ : Fin 768) = at_ u hu j := Fin.ext (by dsimp only; omega)
    rw [e3]
    exact joined_ld x4 x5 x6 _ _ _ d b hb

/-- The first half's unit of a head. -/
theorem unitA_at (t : Fin 16) (x0 x1 x2 x3 x4 x5 x6 : Vec Ideal S256x512 .bf16) (x7 : Vec Ideal S8x256x768 .f32) (h : Fin 8)
    (inb1 inb2 inb3) (r : Fin 128) (d : Fin 64) (a : Fin 256) (b : Fin 512) (ha : a.val = 0 + r.val) (hb : b.val = h.val * 64 + d.val) :
    mixA (scoreA (limit t.val) (View.ld x0 (Rect.unit (s := S256x512) ![0, h.val * 64] S128x64.size inb1))
        (View.ld x1 (Rect.unit (s := S256x512) ![0, h.val * 64] S256x64.size inb2))
        (View.ld x2 (Rect.unit (s := S256x512) ![0, h.val * 64] S256x64.size inb2))
        (View.ld x3 (Rect.unit (s := S256x512) ![0, h.val * 64] S256x64.size inb2))
        (View.ld x7 (Rect.unit (s := S8x256x768) ![h.val, 0, 0] S1x128x640.size inb3)))
      (View.ld x4 (Rect.unit (s := S256x512) ![0, h.val * 64] S256x64.size inb2))
      (View.ld x5 (Rect.unit (s := S256x512) ![0, h.val * 64] S256x64.size inb2))
      (View.ld x6 (Rect.unit (s := S256x512) ![0, h.val * 64] S256x64.size inb2)) (ix2 r d)
      = value t.val x0 x1 x2 x3 x4 x5 x6 x7 a b := by
  rw [mixA_at]
  simp only [scoreA_at]
  rw [← value_of_unit t.val x0 x1 x2 x3 x4 x5 x6 x7 0 (by omega) r d h a b ha (.inl rfl) hb inb1 inb2 inb3]
  simp only [Nat.zero_add]

/-- The second half's unit of a head. -/
theorem unitB_at (t : Fin 16) (x0 x1 x2 x3 x4 x5 x6 : Vec Ideal S256x512 .bf16) (x7 : Vec Ideal S8x256x768 .f32) (h : Fin 8)
    (inb1 inb2 inb3) (r : Fin 128) (d : Fin 64) (a : Fin 256) (b : Fin 512) (ha : a.val = 128 + r.val) (hb : b.val = h.val * 64 + d.val) :
    mixB (scoreB (limit t.val) (View.ld x0 (Rect.unit (s := S256x512) ![128, h.val * 64] S128x64.size inb1))
        (View.ld x1 (Rect.unit (s := S256x512) ![0, h.val * 64] S256x64.size inb2))
        (View.ld x2 (Rect.unit (s := S256x512) ![0, h.val * 64] S256x64.size inb2))
        (View.ld x3 (Rect.unit (s := S256x512) ![0, h.val * 64] S256x64.size inb2))
        (View.ld x7 (Rect.unit (s := S8x256x768) ![h.val, 128, 128] S1x128x640.size inb3)))
      (View.ld x4 (Rect.unit (s := S256x512) ![0, h.val * 64] S256x64.size inb2))
      (View.ld x5 (Rect.unit (s := S256x512) ![0, h.val * 64] S256x64.size inb2))
      (View.ld x6 (Rect.unit (s := S256x512) ![0, h.val * 64] S256x64.size inb2)) (ix2 r d)
      = value t.val x0 x1 x2 x3 x4 x5 x6 x7 a b := by
  rw [mixB_at]
  simp only [scoreB_at]
  exact value_of_unit t.val x0 x1 x2 x3 x4 x5 x6 x7 128 (by omega) r d h a b ha (.inr rfl) hb inb1 inb2 inb3

/-- A block of the kernel's output, at a row and a column. -/
theorem out_at (i : grid0.Coords) (x0 x1 x2 x3 x4 x5 x6 : Vec Ideal S256x512 .bf16) (x7 : Vec Ideal S8x256x768 .f32) (a : Fin 256)
    (b : Fin 512) : out0_8 i x0 x1 x2 x3 x4 x5 x6 x7 (ix2 a b) = value (i 1).val x0 x1 x2 x3 x4 x5 x6 x7 a b := by
  canon_tiles x h <;> obtain ⟨r, d, rfl⟩ : ∃ (r : Fin 128) (d : Fin 64), x = ix2 r d := ⟨x 0, x 1, funext fun i => match i with
    | 0 => rfl
    | 1 => rfl⟩
  · exact unitB_at (i 1) x0 x1 x2 x3 x4 x5 x6 x7 7 _ _ _ r d a b (by simpa using h0) (by simpa using h1)
  · exact unitA_at (i 1) x0 x1 x2 x3 x4 x5 x6 x7 7 _ _ _ r d a b (by simpa using h0) (by simpa using h1)
  · exact unitB_at (i 1) x0 x1 x2 x3 x4 x5 x6 x7 6 _ _ _ r d a b (by simpa using h0) (by simpa using h1)
  · exact unitA_at (i 1) x0 x1 x2 x3 x4 x5 x6 x7 6 _ _ _ r d a b (by simpa using h0) (by simpa using h1)
  · exact unitB_at (i 1) x0 x1 x2 x3 x4 x5 x6 x7 5 _ _ _ r d a b (by simpa using h0) (by simpa using h1)
  · exact unitA_at (i 1) x0 x1 x2 x3 x4 x5 x6 x7 5 _ _ _ r d a b (by simpa using h0) (by simpa using h1)
  · exact unitB_at (i 1) x0 x1 x2 x3 x4 x5 x6 x7 4 _ _ _ r d a b (by simpa using h0) (by simpa using h1)
  · exact unitA_at (i 1) x0 x1 x2 x3 x4 x5 x6 x7 4 _ _ _ r d a b (by simpa using h0) (by simpa using h1)
  · exact unitB_at (i 1) x0 x1 x2 x3 x4 x5 x6 x7 3 _ _ _ r d a b (by simpa using h0) (by simpa using h1)
  · exact unitA_at (i 1) x0 x1 x2 x3 x4 x5 x6 x7 3 _ _ _ r d a b (by simpa using h0) (by simpa using h1)
  · exact unitB_at (i 1) x0 x1 x2 x3 x4 x5 x6 x7 2 _ _ _ r d a b (by simpa using h0) (by simpa using h1)
  · exact unitA_at (i 1) x0 x1 x2 x3 x4 x5 x6 x7 2 _ _ _ r d a b (by simpa using h0) (by simpa using h1)
  · exact unitB_at (i 1) x0 x1 x2 x3 x4 x5 x6 x7 1 _ _ _ r d a b (by simpa using h0) (by simpa using h1)
  · exact unitA_at (i 1) x0 x1 x2 x3 x4 x5 x6 x7 1 _ _ _ r d a b (by simpa using h0) (by simpa using h1)
  · exact unitB_at (i 1) x0 x1 x2 x3 x4 x5 x6 x7 0 _ _ _ r d a b (by simpa using h0) (by simpa using h1)
  · exact unitA_at (i 1) x0 x1 x2 x3 x4 x5 x6 x7 0 _ _ _ r d a b (by simpa using h0) (by simpa using h1)

end Cert.KernelIdeal.Block

end
-- ==== Proof.Array.lean ====
/- What the kernel's output array holds after the run: every block of 256 rows is its block's value over the five blocks of keys
   and values around it, clamped at the sequence's start, and the bias table. -/
module

public import proofs.«01_k».proof.Proof.Block
public import proofs.«01_k».proof.Proof.Gen.KernelIdeal.Value

@[expose] public section

set_option maxRecDepth 16384

noncomputable section

open Idealize.ShloMosaic Idealize.ShloMosaic.TcCoe Idealize.SL.Sem

namespace Cert.KernelIdeal.Array

open Cert.KernelIdeal Cert.KernelIdeal.Gen

variable (m : (ℓ : Loc nD τ sig) → Buf (Elt Ideal) ℓ)

/-- Where every window's block sits, at every point: the queries' and the output's at the point's own block, the keys' and the
    values' two, one and no blocks back, not before the sequence's first. -/
theorem idx : ∀ t : Fin cfg0.N, win0_0.index t = ![t.val, 0] ∧ win0_1.index t = ![t.val - min 2 (t.val % 16), 0]
    ∧ win0_2.index t = ![t.val - min 1 (t.val % 16), 0] ∧ win0_3.index t = ![t.val, 0]
    ∧ win0_4.index t = ![t.val - min 2 (t.val % 16), 0] ∧ win0_5.index t = ![t.val - min 1 (t.val % 16), 0]
    ∧ win0_6.index t = ![t.val, 0] ∧ win0_7.index t = ![0, 0, 0] ∧ win0_8.index t = ![t.val, 0] :=
  (by decide +kernel : ∀ t : Fin grid0.N, _)

/-- The second grid coordinate is the block's number in its sequence. -/
theorem coord : ∀ t : Fin cfg0.N, (grid0.coords t 1).val = t.val % 16 := (by decide +kernel : ∀ t : Fin grid0.N, _)

/-- Block `g` of 256 rows of an array. -/
def block (X : FVec Ideal S16896x512 .bf16) (g : ℕ) (hg : g < 64) : Vec Ideal S256x512 .bf16 := fun i =>
  X (ix2 ⟨g * 256 + (i 0).val, by have h : (i 0).val < 256 := (i 0).isLt; omega⟩ (i 1))

/-- The output at a row and a column. -/
def out (Q K W : FVec Ideal S16896x512 .bf16) (T : FVec Ideal S8x256x768 .f32) (t : ℕ) (ht : t < 64) (a : Fin 256) (b : Fin 512) : EReal :=
  Block.value (t % 16) (block Q t ht) (block K (t - min 2 (t % 16)) (by omega)) (block K (t - min 1 (t % 16)) (by omega)) (block K t ht)
    (block W (t - min 2 (t % 16)) (by omega)) (block W (t - min 1 (t % 16)) (by omega)) (block W t ht) T a b

theorem point_lt (t : Fin cfg0.N) : t.val < 64 := lt_of_lt_of_eq t.isLt N_0

theorem block0 (c : Dev nD) (t : Fin cfg0.N) :
    (iblk m c 0 t : Vec Ideal S256x512 .bf16) = block (V m c main_v2) t.val (point_lt t) := by
  funext i
  unfold block iblk
  generalize V m c = X
  blk_ext [idx t]

theorem block1 (c : Dev nD) (t : Fin cfg0.N) :
    (iblk m c 1 t : Vec Ideal S256x512 .bf16) = block (V m c main_v3) (t.val - min 2 (t.val % 16)) (by have := point_lt t; omega) := by
  funext i
  unfold block iblk
  generalize V m c = X
  blk_ext [idx t]

theorem block2 (c : Dev nD) (t : Fin cfg0.N) :
    (iblk m c 2 t : Vec Ideal S256x512 .bf16) = block (V m c main_v3) (t.val - min 1 (t.val % 16)) (by have := point_lt t; omega) := by
  funext i
  unfold block iblk
  generalize V m c = X
  blk_ext [idx t]

theorem block3 (c : Dev nD) (t : Fin cfg0.N) :
    (iblk m c 3 t : Vec Ideal S256x512 .bf16) = block (V m c main_v3) t.val (point_lt t) := by
  funext i
  unfold block iblk
  generalize V m c = X
  blk_ext [idx t]

theorem block4 (c : Dev nD) (t : Fin cfg0.N) :
    (iblk m c 4 t : Vec Ideal S256x512 .bf16) = block (V m c main_v4) (t.val - min 2 (t.val % 16)) (by have := point_lt t; omega) := by
  funext i
  unfold block iblk
  generalize V m c = X
  blk_ext [idx t]

theorem block5 (c : Dev nD) (t : Fin cfg0.N) :
    (iblk m c 5 t : Vec Ideal S256x512 .bf16) = block (V m c main_v4) (t.val - min 1 (t.val % 16)) (by have := point_lt t; omega) := by
  funext i
  unfold block iblk
  generalize V m c = X
  blk_ext [idx t]

theorem block6 (c : Dev nD) (t : Fin cfg0.N) :
    (iblk m c 6 t : Vec Ideal S256x512 .bf16) = block (V m c main_v4) t.val (point_lt t) := by
  funext i
  unfold block iblk
  generalize V m c = X
  blk_ext [idx t]

theorem block7 (c : Dev nD) (t : Fin cfg0.N) : (iblk m c 7 t : Vec Ideal S8x256x768 .f32) = V m c main_v39 := by
  funext i
  unfold iblk
  generalize V m c = X
  blk_ext [idx t]

/-- What a point leaves in its output block, at a row and a column. -/
theorem point (c : Dev nD) (t : Fin cfg0.N) (a : Fin 256) (b : Fin 512) :
    out0_8 (grid0.coords t) (iblk m c 0 t) (iblk m c 1 t) (iblk m c 2 t) (iblk m c 3 t) (iblk m c 4 t) (iblk m c 5 t) (iblk m c 6 t)
      (iblk m c 7 t) (ix2 a b)
      = out (V m c main_v2) (V m c main_v3) (V m c main_v4) (V m c main_v39) t.val (point_lt t) a b := by
  refine (Block.out_at _ _ _ _ _ _ _ _ _ a b).trans ?_
  rw [block0, block1, block2, block3, block4, block5, block6, block7, coord]
  rfl

/-- The output array after the run. -/
def result (Q K W : FVec Ideal S16896x512 .bf16) (T : FVec Ideal S8x256x768 .f32) : FVec Ideal S16384x512 .bf16 := fun i =>
  out Q K W T ((i 0).val / 256) (by have h : (i 0).val < 16384 := (i 0).isLt; omega) ⟨(i 0).val % 256, by omega⟩ (i 1)

theorem result_at (Q K W : FVec Ideal S16896x512 .bf16) (T : FVec Ideal S8x256x768 .f32) (i : S16384x512.Idx) (t : ℕ) (ht : t < 64)
    (a : Fin 256) (b : Fin 512) (h0 : (i 0).val = t * 256 + a.val) (h1 : (i 1).val = b.val) :
    out Q K W T t ht a b = result Q K W T i := by
  have e : t = (i 0).val / 256 := by omega
  subst e
  have ea : a = ⟨(i 0).val % 256, by omega⟩ := Fin.ext (by dsimp only; omega)
  have eb : b = i 1 := Fin.ext h1.symm
  rw [ea, eb]
  rfl

theorem final (c : Dev nD) : (dats m 0 c).arrAt 8 (cfgs 0).N
    = result (V m c main_v2) (V m c main_v3) (V m c main_v4) (V m c main_v39) := by
  refine (dats m 0 c).arrAt_eq_of_covers 8 _ (by decide +kernel) fun t _ y => ?_
  blk_simp
  rw [after0_8]
  obtain ⟨a, b, rfl⟩ : ∃ (a : Fin 256) (b : Fin 512), y = ix2 a b := ⟨y 0, y 1, funext fun i => match i with
    | 0 => rfl
    | 1 => rfl⟩
  refine (point m c t a b).trans (result_at _ _ _ _ _ _ _ _ _ ?_ ?_)
  · blk_simp [idx t]
  · blk_simp [idx t]

end Cert.KernelIdeal.Array

end
-- ==== Proof.Table.lean ====
/- The arrays the kernel's host code prepares: the scaled queries, the keys, the values, and the bias of every query row of a block
   against the 768 key rows around it, as one term of the four arguments. -/
module

public import proofs.«01_k».proof.Proof.Gen.KernelIdeal.Frame

@[expose] public section

set_option maxRecDepth 16384

noncomputable section

open Idealize.ShloMosaic Idealize.ShloMosaic.TcCoe Idealize.SL.Sem

namespace Cert.KernelIdeal.Table

open Cert.KernelIdeal Cert.KernelIdeal.Gen

/-- The chunk of each key row of a block's 768. -/
def colChunk : IVec S1x768 32 :=
  let x : IVec S1x768 32 := broadcastInDim S1x768 ![1] bcast_S768_S1x768_1 (iotaInDim S768 32 0)
  let n : IVec S_ 32 := constantI S_ 32 64#32
  let w : IVec S1x768 32 := broadcastInDim S1x768 ![] bcast_S_S1x768 n
  select
    (andi (cmpi .ne (signi x) (broadcastInDim S1x768 ![] bcast_S_S1x768 (signi n)))
      (cmpi .ne (Host.remsi x w) (broadcastInDim S1x768 ![] bcast_S_S1x768 (constantI S_ 32 0#32))))
    (subi (Host.divsi x w) (broadcastInDim S1x768 ![] bcast_S_S1x768 (constantI S_ 32 1#32))) (Host.divsi x w)

/-- The chunk of each query row of a block's 256. -/
def rowChunk : IVec S256x1 32 :=
  let x : IVec S256x1 32 := broadcastInDim S256x1 ![0] bcast_S256_S256x1_0 (iotaInDim S256 32 0)
  let n : IVec S_ 32 := constantI S_ 32 64#32
  let w : IVec S256x1 32 := broadcastInDim S256x1 ![] bcast_S_S256x1 n
  select
    (andi (cmpi .ne (signi x) (broadcastInDim S256x1 ![] bcast_S_S256x1 (signi n)))
      (cmpi .ne (Host.remsi x w) (broadcastInDim S256x1 ![] bcast_S_S256x1 (constantI S_ 32 0#32))))
    (subi (Host.divsi x w) (broadcastInDim S256x1 ![] bcast_S_S256x1 (constantI S_ 32 1#32))) (Host.divsi x w)

/-- Key chunk minus query chunk. -/
def gap : IVec S256x768 32 :=
  subi (broadcastInDim S256x768 ![0, 1] bcast_S1x768_S256x768_0_1 colChunk)
    (broadcastInDim S256x768 ![0, 1] bcast_S256x1_S256x768_0_1 rowChunk)

/-- Is the key row in the query row's band of nine chunks? -/
def inBand : IVec S256x768 1 :=
  andi (cmpi .sge gap (broadcastInDim S256x768 ![] bcast_S_S256x768 (constantI S_ 32 0#32)))
    (cmpi .sle gap (broadcastInDim S256x768 ![] bcast_S_S256x768 (constantI S_ 32 8#32)))

/-- The signed offset of each of the 1024 places of the skewed row. -/
def offset : IVec S1024 32 :=
  let p : IVec S1024 32 := iotaInDim S1024 32 0
  select (cmpi .slt p (broadcastInDim S1024 ![] bcast_S_S1024 (constantI S_ 32 768#32))) p
    (subi p (broadcastInDim S1024 ![] bcast_S_S1024 (constantI S_ 32 1024#32)))

/-- The table column of each place: the clipped distance, shifted to start at zero. -/
def place : IVec S1024 32 :=
  addi (minsi (broadcastInDim S1024 ![] bcast_S_S1024 (constantI S_ 32 128#32))
      (maxsi (broadcastInDim S1024 ![] bcast_S_S1024 (constantI S_ 32 4294967168#32))
        (subi (broadcastInDim S1024 ![] bcast_S_S1024 (constantI S_ 32 512#32)) offset)))
    (broadcastInDim S1024 ![] bcast_S_S1024 (constantI S_ 32 128#32))

/-- The lookup's start indices. -/
def start : IVec S1024x1 32 :=
  broadcastInDim S1024x1 ![0] bcast_S1024_S1024x1_0
    (select (cmpi .slt place (broadcastInDim S1024 ![] bcast_S_S1024 (constantI S_ 32 0#32)))
      (addi place (broadcastInDim S1024 ![] bcast_S_S1024 (constantI S_ 32 257#32))) place)

/-- Is the start index inside the table? -/
def startOk : IVec S1024x1 1 :=
  andi (cmpi .sge start (broadcastInDim S1024x1 ![] bcast_S_S1024x1 (constantI S_ 32 0#32)))
    (cmpi .sle start (broadcastInDim S1024x1 ![0, 1] bcast_S1x1_S1024x1_0_1
      (broadcastInDim S1x1 ![1] bcast_S1_S1x1_1 (constantI S1 32 256#32))))

/-- The skewed row of every head. -/
def skewed (B : FVec Ideal S1x8x257 .f32) : FVec Ideal S8x1024 .f32 :=
  select (broadcastInDim S8x1024 ![1] bcast_S1024_S8x1024_1
      (Host.reduce IntOp.andi startOk (constantI S_ 1 1#1) reducesTo_S1024x1_S1024_d1 h_S_))
    (Host.gather gather_S8x257_S1024x1_S8x1024_0_1_n_n_1_1_81 (shapeCast S8x257 B shapeCasts_S1x8x257_S8x257) start)
    (broadcastInDim S8x1024 ![] bcast_S_S8x1024 (constant S_ .f32 0x7FC00000#32))

/-- The rows laid so that each starts one place earlier than the one above, by a tile, a cut and a reshape. -/
def toeplitz (w : FVec Ideal S8x1024 .f32) : FVec Ideal S8x256x768 .f32 :=
  extractStridedSlice S8x256x768 ![0, 0, 0]
    (shapeCast S8x256x1023
      (extractStridedSlice S8x261888 ![0, 0]
        (shapeCast S8x262144
          (broadcastInDim S1x8x256x1024 ![0, 1, 2, 3] bcast_S1x8x1x1024_S1x8x256x1024_0_1_2_3
            (shapeCast S1x8x1x1024 w shapeCasts_S8x1024_S1x8x1x1024))
          shapeCasts_S1x8x256x1024_S8x262144)
        slices_S8x262144_S8x261888_0_0)
      shapeCasts_S8x261888_S8x256x1023)
    slices_S8x256x1023_S8x256x768_0_0_0

/-- The bias the kernel adds: the table's, in the band, and −∞ outside it. -/
def bias (B : FVec Ideal S1x8x257 .f32) : FVec Ideal S8x256x768 .f32 :=
  select (broadcastInDim S8x256x768 ![0, 1, 2] bcast_S1x256x768_S8x256x768_0_1_2
      (broadcastInDim S1x256x768 ![1, 2] bcast_S256x768_S1x256x768_1_2 inBand))
    (toeplitz (skewed B)) (broadcastInDim S8x256x768 ![] bcast_S_S8x256x768 (constant S_ .f32 0xFF800000#32))

variable (m : (ℓ : Loc nD τ sig) → Buf (Elt Ideal) ℓ) (c : Dev nD)

theorem V_query : V m c main_v2 = (truncf .bf16 (mulf (m ((c : Thread nD τ).loc main_arg0) : FVec Ideal S16896x512 .f32)
    (broadcastInDim S16896x512 ![] bcast_S_S16896x512 (constant S_ .f32 0x3E000000#32))) bitsLt_bf16_f32 : FVec Ideal S16896x512 .bf16) := by
  unfold V
  simp only [hostOps0, hostOps0_1, hostOps0_2, hostOps0_3, hostOps0_4, hostOps0_5, hostOps0_6, hostOps0_7, hostOps0_8, hostOps0_9,
    hostOps0_10, hostOps0_11, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp <;> rfl

theorem V_key : V m c main_v3 = (truncf .bf16 (m ((c : Thread nD τ).loc main_arg1) : FVec Ideal S16896x512 .f32) bitsLt_bf16_f32
    : FVec Ideal S16896x512 .bf16) := by
  unfold V
  simp only [hostOps0, hostOps0_1, hostOps0_2, hostOps0_3, hostOps0_4, hostOps0_5, hostOps0_6, hostOps0_7, hostOps0_8, hostOps0_9,
    hostOps0_10, hostOps0_11, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp <;> rfl

theorem V_value : V m c main_v4 = (truncf .bf16 (m ((c : Thread nD τ).loc main_arg2) : FVec Ideal S16896x512 .f32) bitsLt_bf16_f32
    : FVec Ideal S16896x512 .bf16) := by
  unfold V
  simp only [hostOps0, hostOps0_1, hostOps0_2, hostOps0_3, hostOps0_4, hostOps0_5, hostOps0_6, hostOps0_7, hostOps0_8, hostOps0_9,
    hostOps0_10, hostOps0_11, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp <;> rfl

theorem V_bias : V m c main_v39 = bias (m ((c : Thread nD τ).loc main_arg3)) := by
  unfold V
  simp only [hostOps0, hostOps0_1, hostOps0_2, hostOps0_3, hostOps0_4, hostOps0_5, hostOps0_6, hostOps0_7, hostOps0_8, hostOps0_9,
    hostOps0_10, hostOps0_11, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp <;> rfl

end Cert.KernelIdeal.Table

end
-- ==== Proof.Gather.lean ====
/- The host gathers of this layer read at an index: the key band of nine chunks the reference gathers for every
   query chunk, and the lookup of a column of the relative-bias table, by both programs. -/
module

public import proofs.«01_k».proof.Proof.Gen.KernelIdeal
public import proofs.«01_k».proof.Proof.Gen.ReferenceIdeal
public import Idealize.ShloMosaic.Lib.Pipeline.ValueKit

@[expose] public section

set_option maxRecDepth 16384

noncomputable section

open Idealize.ShloMosaic

namespace Cert.Gathers

variable {α : Type}

/-- The kernel's bias lookup: column `p` of the result is the table's column at the start index, clamped. -/
theorem kernel_take [Cert.KernelIdeal.Facts₀] (x : Cert.KernelIdeal.S8x257.Idx → α) (idx : IVec Cert.KernelIdeal.S1024x1 32)
    (h : Fin 8) (p : Fin 1024) :
    Host.gather Cert.KernelIdeal.gather_S8x257_S1024x1_S8x1024_0_1_n_n_1_1_81 x idx (ix2 h p)
      = x (ix2 h ⟨min (idx (ix2 p 0)).toInt.toNat 256, by omega⟩) := by
  unfold Host.gather
  congr 1
  funext a
  refine Fin.ext ?_
  match a with
  | ⟨0, _⟩ => exact Nat.zero_add _
  | ⟨1, _⟩ =>
    have hs : Cert.KernelIdeal.gather_S8x257_S1024x1_S8x1024_0_1_n_n_1_1_81.siIdx (ix2 h p) ⟨0, Nat.one_pos⟩ = ix2 p 0 := by
      funext e
      match e with
      | ⟨0, _⟩ => rfl
      | ⟨1, _⟩ => rfl
    exact congrArg (fun i => min (idx i).toInt.toNat 256) hs

/-- The reference's bias lookup: entry `(r, k)` of the result is the table's column at the start index, clamped. -/
theorem ref_take [Cert.ReferenceIdeal.Facts₀] (x : Cert.ReferenceIdeal.S8x257.Idx → α) (idx : IVec Cert.ReferenceIdeal.S64x576x1 32)
    (h : Fin 8) (r : Fin 64) (k : Fin 576) :
    Host.gather Cert.ReferenceIdeal.gather_S8x257_S64x576x1_S8x64x576_0_1_n_n_1_2_81 x idx (ix3 h r k)
      = x (ix2 h ⟨min (idx (ix3 r k 0)).toInt.toNat 256, by omega⟩) := by
  unfold Host.gather
  congr 1
  funext a
  refine Fin.ext ?_
  match a with
  | ⟨0, _⟩ => exact Nat.zero_add _
  | ⟨1, _⟩ =>
    have hs : Cert.ReferenceIdeal.gather_S8x257_S64x576x1_S8x64x576_0_1_n_n_1_2_81.siIdx (ix3 h r k) ⟨0, Nat.one_pos⟩ = ix3 r k 0 := by
      funext e
      match e with
      | ⟨0, _⟩ => rfl
      | ⟨1, _⟩ => rfl
      | ⟨2, _⟩ => rfl
    exact congrArg (fun i => min (idx i).toInt.toNat 256) hs

/-- The reference's key band: chunk `(c, j)` of the result is the operand's chunk at the start index, clamped. -/
theorem ref_band [Cert.ReferenceIdeal.Facts₀] (x : Cert.ReferenceIdeal.S4x72x64x8x64.Idx → α) (idx : IVec Cert.ReferenceIdeal.S64x9x1 32)
    (b : Fin 4) (c : Fin 64) (j : Fin 9) (r : Fin 64) (h : Fin 8) (d : Fin 64) :
    Host.gather Cert.ReferenceIdeal.gather_S4x72x64x8x64_S64x9x1_S4x64x9x64x8x64_0345_1_n_n_1_2_4164864 x idx (ix6 b c j r h d)
      = x (ix5 b ⟨min (idx (ix3 c j 0)).toInt.toNat 71, by omega⟩ r h d) := by
  unfold Host.gather
  congr 1
  funext a
  refine Fin.ext ?_
  match a with
  | ⟨0, _⟩ => exact Nat.zero_add _
  | ⟨1, _⟩ =>
    have hs : Cert.ReferenceIdeal.gather_S4x72x64x8x64_S64x9x1_S4x64x9x64x8x64_0345_1_n_n_1_2_4164864.siIdx (ix6 b c j r h d) ⟨0, Nat.one_pos⟩ = ix3 c j 0 := by
      funext e
      match e with
      | ⟨0, _⟩ => rfl
      | ⟨1, _⟩ => rfl
      | ⟨2, _⟩ => rfl
    exact congrArg (fun i => min (idx i).toInt.toNat 71) hs
  | ⟨2, _⟩ => exact Nat.zero_add _
  | ⟨3, _⟩ => exact Nat.zero_add _
  | ⟨4, _⟩ => exact Nat.zero_add _

end Cert.Gathers

end
-- ==== Proof.TableAt.lean ====
/- The host's bias, read at a head, a query row and a key row: the relative-bias table's column where the key is in the query's band,
   −∞ elsewhere. -/
module

public import proofs.«01_k».proof.Proof.Table
public import proofs.«01_k».proof.Proof.Gather
public import proofs.«01_k».proof.Proof.Unit

@[expose] public section

set_option maxRecDepth 16384

noncomputable section

open Idealize.ShloMosaic Idealize.ShloMosaic.TcCoe Idealize.SL.Sem

namespace Cert.KernelIdeal.Table

open Cert.KernelIdeal Cert.KernelIdeal.Gen

theorem colChunk_at (p : Fin 768) : colChunk (ix2 0 p) = BitVec.ofNat 32 (p.val / 64) := by
  pointwise [colChunk]
  revert p
  decide +kernel

theorem rowChunk_at (a : Fin 256) : rowChunk (ix2 a 0) = BitVec.ofNat 32 (a.val / 64) := by
  pointwise [rowChunk]
  revert a
  decide +kernel

theorem inBand_at (a : Fin 256) (p : Fin 768) :
    inBand (ix2 a p) = if a.val / 64 ≤ p.val / 64 ∧ p.val / 64 ≤ a.val / 64 + 8 then 1#1 else 0#1 := by
  pointwise [inBand, gap]
  rw [colChunk_at, rowChunk_at]
  have key : ∀ (x : Fin 4) (y : Fin 12),
      IntOp.andi (IntOp.cmpi .sge (IntOp.subi (BitVec.ofNat 32 y.val) (BitVec.ofNat 32 x.val)) 0#32)
        (IntOp.cmpi .sle (IntOp.subi (BitVec.ofNat 32 y.val) (BitVec.ofNat 32 x.val)) 8#32)
        = if x.val ≤ y.val ∧ y.val ≤ x.val + 8 then 1#1 else 0#1 := by decide +kernel
  exact key ⟨a.val / 64, by omega⟩ ⟨p.val / 64, by omega⟩

theorem start_at (p : Fin 1024) :
    (start (ix2 p 0)).toInt.toNat = if p.val < 768 then min 256 (640 - p.val) else 256 := by
  pointwise [start, place, offset]
  revert p
  decide +kernel

theorem startOk_at (p : Fin 1024) : startOk (ix2 p 0) = 1#1 := by
  pointwise [startOk, start, place, offset]
  revert p
  decide +kernel

theorem startOk_fold (p : Fin 1024) : (Finset.univ.fold IntOp.andi 1#1 fun x : Fin 1 => startOk (ix2 p x)) = 1#1 := by
  have h : (fun x : Fin 1 => startOk (ix2 p x)) = fun _ => 1#1 := funext fun x => by
    rw [Subsingleton.elim x 0]
    exact startOk_at p
  rw [h]
  rfl

theorem skewed_at (B : FVec Ideal S1x8x257 .f32) (h : Fin 8) (p : Fin 1024) :
    skewed B (ix2 h p) = B (ix3 0 h ⟨if p.val < 768 then min 256 (640 - p.val) else 256, by split <;> omega⟩) := by
  pointwise [skewed, Cert.Gathers.kernel_take]
  rw [startOk_fold]
  refine congrArg B (congrArg (ix3 0 h) (Fin.ext ?_))
  dsimp only
  rw [start_at]
  split <;> omega

theorem toeplitz_at (w : FVec Ideal S8x1024 .f32) (h : Fin 8) (a : Fin 256) (p : Fin 768) :
    toeplitz w (ix3 h a p) = w (ix2 h ⟨(a.val * 1023 + p.val) % 1024, Nat.mod_lt _ (by norm_num)⟩) := by
  pointwise [toeplitz]

/-- The kernel's bias at an entry. -/
theorem bias_at (B : FVec Ideal S1x8x257 .f32) (h : Fin 8) (a : Fin 256) (p : Fin 768) :
    bias B (ix3 h a p) = if a.val / 64 ≤ p.val / 64 ∧ p.val / 64 ≤ a.val / 64 + 8
      then B (ix3 0 h ⟨min 256 (640 + a.val - p.val), by omega⟩) else (⊥ : EReal) := by
  pointwise [bias]
  rw [inBand_at, Cert.KernelIdeal.Unit.zero_bits, Cert.KernelIdeal.Unit.select_ite]
  split
  · rename_i hp
    rw [toeplitz_at, skewed_at]
    refine congrArg B (congrArg (ix3 0 h) (Fin.ext ?_))
    dsimp only
    by_cases hap : a.val ≤ p.val
    · have e : (a.val * 1023 + p.val) % 1024 = p.val - a.val := by omega
      split <;> omega
    · have e : (a.val * 1023 + p.val) % 1024 = 1024 + p.val - a.val := by omega
      split <;> omega
  · rfl

end Cert.KernelIdeal.Table

end
-- ==== Proof.RefStages.lean ====
/- The stages of what the reference computes: its composed term is cut into the stages of its own lines: the gathered
   band of nine chunks, the looked-up bias, the masked scores, the softmax weights and the mix of the values. -/
module

public import proofs.«01_k».proof.Proof.Gather
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-! ## The stages of the reference's term -/

/-- The chunk numbers `0 … 63` as a column, and the offsets `0 … 8` of a band as rows of a 64 × 9 table. -/
def chunkCol : IVec S64x1 32 := broadcastInDim S64x1 ![0] bcast_S64_S64x1_0 (iotaInDim S64 32 0)

def offRow : IVec S64x9 32 :=
  broadcastInDim S64x9 ![0, 1] bcast_S1x9_S64x9_0_1 (broadcastInDim S1x9 ![1] bcast_S9_S1x9_1 (iotaInDim S9 32 0))

/-- The padded chunk each entry of a band starts from. -/
def bandSum : IVec S64x9 32 := addi (broadcastInDim S64x9 ![0, 1] bcast_S64x1_S64x9_0_1 chunkCol) offRow

def bandIdx : IVec S64x9x1 32 :=
  broadcastInDim S64x9x1 ![0, 1] bcast_S64x9_S64x9x1_0_1
    (select (cmpi .slt bandSum (broadcastInDim S64x9 ![] bcast_S_S64x9 (constantI S_ 32 0#32)))
      (addi bandSum (broadcastInDim S64x9 ![] bcast_S_S64x9 (constantI S_ 32 72#32))) bandSum)

/-- The prompt's rows of an array, padded by eight chunks of zeros in front of every sequence. -/
def padded (X : FVec Ideal S16896x512 .f32) : FVec Ideal S4x72x64x8x64 .f32 :=
  shapeCast _ (pad S4x4608x8x64 ![0, 512, 0, 0] ![0, 0, 0, 0] ![0, 0, 0, 0]
    (shapeCast _ (extractStridedSlice S16384x512 ![0, 0] X slices_S16896x512_S16384x512_0_0)
      shapeCasts_S16384x512_S4x4096x8x64) (sitofp .f32 (constantI S_ 32 0#32))
    pads_S4x4096x8x64_S4x4608x8x64_000_51200_000_000 h_S_) shapeCasts_S4x4608x8x64_S4x72x64x8x64

/-- The nine chunks every query chunk looks at. -/
def band (X : FVec Ideal S16896x512 .f32) : FVec Ideal S4x64x576x8x64 .f32 :=
  shapeCast _ (Host.gather gather_S4x72x64x8x64_S64x9x1_S4x64x9x64x8x64_0345_1_n_n_1_2_4164864 (padded X) bandIdx)
    shapeCasts_S4x64x9x64x8x64_S4x64x576x8x64

/-- The distance of query row `r` from band position `k`. -/
def relDist : IVec S64x9x64 32 :=
  subi (broadcastInDim S64x9x64 ![0, 1, 2] bcast_S64x9x1_S64x9x64_0_1_2
      (addi (broadcastInDim S64x9x1 ![0, 1, 2] bcast_S1x9x1_S64x9x1_0_1_2
          (muli (broadcastInDim S1x9x1 ![1] bcast_S9_S1x9x1_1
              (subi (broadcastInDim S9 ![] bcast_S_S9 (constantI S_ 32 8#32)) (iotaInDim S9 32 0)))
            (broadcastInDim S1x9x1 ![] bcast_S_S1x9x1 (constantI S_ 32 64#32))))
        (broadcastInDim S64x9x1 ![0, 1, 2] bcast_S64x1x1_S64x9x1_0_1_2
          (broadcastInDim S64x1x1 ![0] bcast_S64_S64x1x1_0 (iotaInDim S64 32 0)))))
    (broadcastInDim S64x9x64 ![0, 1, 2] bcast_S1x1x64_S64x9x64_0_1_2
      (broadcastInDim S1x1x64 ![2] bcast_S64_S1x1x64_2 (iotaInDim S64 32 0)))

/-- The table column it looks up, before and after the wrap of a negative index. -/
def clipped : IVec S64x576 32 :=
  addi (minsi (broadcastInDim S64x576 ![] bcast_S_S64x576 (id (constantI S_ 32 128#32)))
      (maxsi (broadcastInDim S64x576 ![] bcast_S_S64x576 (id (constantI S_ 32 4294967168#32)))
        (shapeCast _ relDist shapeCasts_S64x9x64_S64x576)))
    (broadcastInDim S64x576 ![] bcast_S_S64x576 (constantI S_ 32 128#32))

def biasIdx : IVec S64x576x1 32 :=
  broadcastInDim S64x576x1 ![0, 1] bcast_S64x576_S64x576x1_0_1
    (select (cmpi .slt clipped (broadcastInDim S64x576 ![] bcast_S_S64x576 (constantI S_ 32 0#32)))
      (addi clipped (broadcastInDim S64x576 ![] bcast_S_S64x576 (constantI S_ 32 257#32))) clipped)

/-- Whether the looked-up column lies in the table. -/
def biasOk : IVec S64x576x1 1 :=
  andi (cmpi .sge biasIdx (broadcastInDim S64x576x1 ![] bcast_S_S64x576x1 (constantI S_ 32 0#32)))
    (cmpi .sle biasIdx (broadcastInDim S64x576x1 ![0, 1, 2] bcast_S1x1x1_S64x576x1_0_1_2
      (broadcastInDim S1x1x1 ![2] bcast_S1_S1x1x1_2 (constantI S1 32 256#32))))

/-- The relative-position bias of every head, query row and band position. -/
def bias (B : FVec Ideal S1x8x257 .f32) : FVec Ideal S8x64x576 .f32 :=
  select (broadcastInDim S8x64x576 ![1, 2] bcast_S64x576_S8x64x576_1_2
      (Host.reduce IntOp.andi biasOk (constantI S_ 1 1#1) reducesTo_S64x576x1_S64x576_d2 h_S_))
    (Host.gather gather_S8x257_S64x576x1_S8x64x576_0_1_n_n_1_2_81 (shapeCast _ B shapeCasts_S1x8x257_S8x257) biasIdx)
    (broadcastInDim S8x64x576 ![] bcast_S_S8x64x576 (constant S_ .f32 0x7FC00000#32))

/-- Whether a band position lies in the sequence. -/
def valid : IVec S64x576 1 :=
  shapeCast _ (broadcastInDim S64x9x64 ![0, 1] bcast_S64x9_S64x9x64_0_1
    (cmpi .sge (addi (broadcastInDim S64x9 ![0, 1] bcast_S64x1_S64x9_0_1
        (subi chunkCol (broadcastInDim S64x1 ![] bcast_S_S64x1 (constantI S_ 32 8#32)))) offRow)
      (broadcastInDim S64x9 ![] bcast_S_S64x9 (constantI S_ 32 0#32)))) shapeCasts_S64x9x64_S64x576

/-- The queries by sequence and chunk. -/
def queries (Q : FVec Ideal S16896x512 .f32) : FVec Ideal S4x64x64x8x64 .f32 :=
  shapeCast _ (shapeCast _ (extractStridedSlice S16384x512 ![0, 0] Q slices_S16896x512_S16384x512_0_0)
    shapeCasts_S16384x512_S4x4096x8x64) shapeCasts_S4x4096x8x64_S4x64x64x8x64

/-- The masked scores from the queries, the keys' band and the bias. -/
def scores (q : FVec Ideal S4x64x64x8x64 .f32) (kb : FVec Ideal S4x64x576x8x64 .f32) (bs : FVec Ideal S8x64x576 .f32)
    (ok : IVec S64x576 1) : FVec Ideal S4x8x64x64x576 .f32 :=
  select (broadcastInDim S4x8x64x64x576 ![2, 3, 4] bcast_S64x1x576_S4x8x64x64x576_2_3_4
      (broadcastInDim S64x1x576 ![0, 2] bcast_S64x576_S64x1x576_0_2 ok))
    (addf (mulf (Host.dotGeneral dot_S4x64x64x8x64_S4x64x576x8x64_S4x8x64x64x576_4_4_2_2_031_031 none q kb)
        (broadcastInDim S4x8x64x64x576 ![] bcast_S_S4x8x64x64x576 (constant S_ .f32 0x3E000000#32)))
      (broadcastInDim S4x8x64x64x576 ![0, 1, 2, 3, 4] bcast_S1x8x1x64x576_S4x8x64x64x576_0_1_2_3_4
        (broadcastInDim S1x8x1x64x576 ![1, 2, 3, 4] bcast_S8x1x64x576_S1x8x1x64x576_1_2_3_4
          (broadcastInDim S8x1x64x576 ![0, 2, 3] bcast_S8x64x576_S8x1x64x576_0_2_3 bs))))
    (broadcastInDim S4x8x64x64x576 ![] bcast_S_S4x8x64x64x576 (id (constant S_ .f32 0xFF800000#32)))

/-- Every query's largest score. -/
def rowTop (s : FVec Ideal S4x8x64x64x576 .f32) : FVec Ideal S4x8x64x64 .f32 :=
  maximumf (broadcastInDim S4x8x64x64 ![] bcast_S_S4x8x64x64 (constant S_ .f32 0xFF800000#32))
    (Host.reduce FloatOps.maximumf s (constant S_ .f32 0xFF800000#32) reducesTo_S4x8x64x64x576_S4x8x64x64_d4 h_S_)

/-- The softmax numerators. -/
def numer (s : FVec Ideal S4x8x64x64x576 .f32) (t : FVec Ideal S4x8x64x64 .f32) : FVec Ideal S4x8x64x64x576 .f32 :=
  Host.exp (subf s (broadcastInDim S4x8x64x64x576 ![0, 1, 2, 3, 4] bcast_S4x8x64x64x1_S4x8x64x64x576_0_1_2_3_4
    (broadcastInDim S4x8x64x64x1 ![0, 1, 2, 3] bcast_S4x8x64x64_S4x8x64x64x1_0_1_2_3 t)))

/-- The mix of the values' band by the softmax weights, laid out as rows of tokens. -/
def mix (e : FVec Ideal S4x8x64x64x576 .f32) (vb : FVec Ideal S4x64x576x8x64 .f32) : FVec Ideal S16384x512 .bf16 :=
  truncf .bf16 (shapeCast _ (transpose S4x64x64x8x64 [0, 1, 4, 2, 3]
    (Host.dotGeneral dot_S4x64x576x8x64_S4x8x64x64x576_S4x64x8x64x64_2_4_4_3_013_021 none vb
      (Host.divf e (broadcastInDim S4x8x64x64x576 ![0, 1, 2, 3, 4] bcast_S4x8x64x64x1_S4x8x64x64x576_0_1_2_3_4
        (broadcastInDim S4x8x64x64x1 ![0, 1, 2, 3] bcast_S4x8x64x64_S4x8x64x64x1_0_1_2_3
          (Host.reduceAdd e (constant S_ .f32 0x00000000#32) reducesTo_S4x8x64x64x576_S4x8x64x64_d4 h_S_)))))
    transposes_S4x64x8x64x64_S4x64x64x8x64_0_1_4_2_3) shapeCasts_S4x64x64x8x64_S16384x512) bitsLt_bf16_f32

/-- The reference's result from its arguments, by these stages. -/
def maskedScores (Q K : FVec Ideal S16896x512 .f32) (B : FVec Ideal S1x8x257 .f32) : FVec Ideal S4x8x64x64x576 .f32 :=
  scores (queries Q) (band K) (bias B) valid

def attention (Q K V : FVec Ideal S16896x512 .f32) (B : FVec Ideal S1x8x257 .f32) : FVec Ideal S16384x512 .bf16 :=
  mix (numer (maskedScores Q K B) (rowTop (maskedScores Q K B))) (band V)

theorem res_eq (m : (ℓ : Loc nD τ sig) → Buf (Elt Ideal) ℓ) (c : Dev nD) :
    res_main_v90 m c = attention (m ((c.tc : Thread nD τ).loc main_arg0)) (m ((c.tc : Thread nD τ).loc main_arg1))
      (m ((c.tc : Thread nD τ).loc main_arg2)) (m ((c.tc : Thread nD τ).loc main_arg3)) := by
  unfold res_main_v90
  rfl

end Cert.ReferenceIdeal.Value

end
-- ==== Proof.RefAt.lean ====
/- What the reference computes, read at an index: each stage of its term, then the result as one query's attention over its
   band of 576 keys. -/
module

public import proofs.«01_k».proof.Proof.RefStages
public import proofs.«01_k».proof.Proof.Softmax

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-! ## The integer tables -/

theorem bandIdx_at (c : Fin 64) (j : Fin 9) : (bandIdx (ix3 c j 0)).toInt.toNat = c + j := by
  pointwise [bandIdx, bandSum, chunkCol, offRow]
  revert c j
  decide +kernel

/-- The clipped distance as a table column: `640 + r − k`, at most 256. -/
theorem biasIdx_at (r : Fin 64) (k : Fin 576) : biasIdx (ix3 r k 0) = BitVec.ofNat 32 (min 256 (640 + r.val - k.val)) := by
  have key : ∀ w : Fin 640,
      (fun z : BitVec 32 => Scalar.select (IntOp.cmpi .slt (IntOp.addi (IntOp.minsi 128#32 (IntOp.maxsi 4294967168#32 z)) 128#32) 0#32)
        (IntOp.addi (IntOp.addi (IntOp.minsi 128#32 (IntOp.maxsi 4294967168#32 z)) 128#32) 257#32)
        (IntOp.addi (IntOp.minsi 128#32 (IntOp.maxsi 4294967168#32 z)) 128#32)) (BitVec.ofNat 32 w.val - 63#32)
      = BitVec.ofNat 32 (min 256 (65 + w.val)) := by decide +kernel
  have hz : IntOp.subi (IntOp.addi (IntOp.muli (IntOp.subi 8#32 (BitVec.ofNat 32 (k.val / 64))) 64#32) (BitVec.ofNat 32 r.val))
      (BitVec.ofNat 32 (k.val % 64)) = BitVec.ofNat 32 (575 + r.val - k.val) - 63#32 := by
    have hk := k.isLt
    have hr := r.isLt
    unfold IntOp.subi IntOp.addi IntOp.muli
    apply BitVec.eq_of_toNat_eq
    simp only [BitVec.toNat_sub, BitVec.toNat_add, BitVec.toNat_mul, BitVec.toNat_ofNat]
    omega
  have hk := k.isLt
  have hr := r.isLt
  have hw := key ⟨575 + r - k, by omega⟩
  rw [← hz, show 65 + (575 + r.val - k.val) = 640 + r.val - k.val by omega] at hw
  pointwise [biasIdx, clipped, relDist]
  exact hw

theorem biasOk_at (r : Fin 64) (k : Fin 576) (u : Fin 1) : biasOk (ix3 r k u) = 1#1 := by
  obtain rfl : u = 0 := Subsingleton.elim _ _
  pointwise [biasOk]
  rw [biasIdx_at]
  have key : ∀ w : Fin 257, IntOp.andi (IntOp.cmpi .sge (BitVec.ofNat 32 w.val) 0#32) (IntOp.cmpi .sle (BitVec.ofNat 32 w.val) 256#32) = 1#1 := by
    decide +kernel
  exact key ⟨min 256 (640 + r.val - k.val), by omega⟩

theorem valid_at (c : Fin 64) (k : Fin 576) : valid (ix2 c k) = if 8 ≤ c.val + k.val / 64 then 1#1 else 0#1 := by
  pointwise [valid, chunkCol, offRow]
  have key : ∀ (c : Fin 64) (j : Fin 9), IntOp.cmpi .sge (IntOp.addi (IntOp.subi (BitVec.ofNat 32 c.val) 8#32) (BitVec.ofNat 32 j.val)) 0#32
      = if 8 ≤ c.val + j.val then 1#1 else 0#1 := by decide +kernel
  exact key c ⟨k / 64, by omega⟩

/-! ## The floating-point stages -/

theorem negInf : Ideal.ofBits .f32 0xFF800000#32 = ⊥ := by simp [Ideal.ofBits, Ideal.ieee]

theorem padded_at (X : FVec Ideal S16896x512 .f32) (b : Fin 4) (c : Fin 72) (r : Fin 64) (h : Fin 8) (d : Fin 64) :
    padded X (ix5 b c r h d) = if hc : 8 ≤ c.val then X (ix2 ⟨b.val * 4096 + (c.val - 8) * 64 + r.val, by omega⟩ ⟨h.val * 64 + d.val, by omega⟩)
      else (0 : EReal) := by
  pointwise [padded]
  by_cases hc : 8 ≤ c.val
  · rw [dif_pos hc, dif_pos (by omega)]
    blk_ext
  · rw [dif_neg hc, dif_neg (by omega)]
    simp [FloatOps.sitofp]

theorem band_at (X : FVec Ideal S16896x512 .f32) (b : Fin 4) (c : Fin 64) (k : Fin 576) (h : Fin 8) (d : Fin 64) :
    band X (ix5 b c k h d) = if hc : 512 ≤ c.val * 64 + k.val then
        X (ix2 ⟨b.val * 4096 + (c.val * 64 + k.val - 512), by omega⟩ ⟨h.val * 64 + d.val, by omega⟩)
      else (0 : EReal) := by
  pointwise [band, Cert.Gathers.ref_band]
  rw [padded_at]
  have hi := bandIdx_at c ⟨k / 64, by omega⟩
  dsimp only at hi ⊢
  by_cases hc : 512 ≤ c.val * 64 + k.val
  · rw [dif_pos hc, dif_pos (by omega)]
    blk_ext
  · rw [dif_neg hc, dif_neg (by omega)]

theorem select_one {α : Type} (a b : α) : Scalar.select 1#1 a b = a := rfl

theorem biasOk_fold (r : Fin 64) (k : Fin 576) :
    (Finset.univ.fold IntOp.andi 1#1 fun x : Fin 1 => biasOk (ix3 r k x)) = 1#1 := by
  simp only [biasOk_at]
  rfl

theorem biasIdx_nat (r : Fin 64) (k : Fin 576) : (biasIdx (ix3 r k 0)).toInt.toNat = min 256 (640 + r.val - k.val) := by
  rw [biasIdx_at]
  have key : ∀ w : Fin 257, (BitVec.ofNat 32 w.val).toInt.toNat = w.val := by decide +kernel
  exact key ⟨min 256 (640 + r.val - k.val), by omega⟩

theorem bias_at (B : FVec Ideal S1x8x257 .f32) (h : Fin 8) (r : Fin 64) (k : Fin 576) :
    bias B (ix3 h r k) = B (ix3 0 h ⟨min 256 (640 + r.val - k.val), by omega⟩) := by
  pointwise [bias, Cert.Gathers.ref_take]
  rw [biasOk_fold, select_one]
  refine congrArg B (congrArg (ix3 0 h) (Fin.ext ?_))
  exact (congrArg (fun w => min w 256) (biasIdx_nat r k)).trans (min_eq_left (min_le_left _ _))

theorem queries_at (X : FVec Ideal S16896x512 .f32) (b : Fin 4) (c : Fin 64) (r : Fin 64) (h : Fin 8) (d : Fin 64) :
    queries X (ix5 b c r h d) = X (ix2 ⟨b.val * 4096 + c.val * 64 + r.val, by omega⟩ ⟨h.val * 64 + d.val, by omega⟩) := by
  pointwise [queries]

theorem scores_at (q : FVec Ideal S4x64x64x8x64 .f32) (kb : FVec Ideal S4x64x576x8x64 .f32) (bs : FVec Ideal S8x64x576 .f32)
    (ok : IVec S64x576 1) (b : Fin 4) (h : Fin 8) (c : Fin 64) (r : Fin 64) (k : Fin 576) :
    scores q kb bs ok (ix5 b h c r k) = Scalar.select (ok (ix2 c k))
      ((∑ x, q (ix5 b c r h x) * kb (ix5 b c k h x)) * Ideal.ofBits .f32 0x3E000000#32 + bs (ix3 h r k)) (⊥ : EReal) := by
  pointwise [scores]
  rw [← negInf]
  rfl

/-- The host's maximum along the last of five axes, from −∞, is the largest score along it. -/
theorem reduceMax_at {n0 n1 n2 n3 n4 : ℕ} {u : Shape} (h : (⟨5, ![n0, n1, n2, n3, n4]⟩ : Shape).ReducesTo [4] ⟨4, ![n0, n1, n2, n3]⟩)
    (hu : 0 < u.numel) (x : FVec Ideal ⟨5, ![n0, n1, n2, n3, n4]⟩ .f32) (init : FVec Ideal u .f32)
    (hi : init (Shape.Idx.first hu) = (⊥ : EReal)) (a : Fin n0) (b : Fin n1) (c : Fin n2) (d : Fin n3) :
    Host.reduce FloatOps.maximumf x init h hu (ix4 a b c d) = Cert.Softmax.top fun k => x (ix5 a b c d k) := by
  rw [Host.reduce_eq_fold, h.fold_fiber_r5_a4, hi]
  rfl

theorem max_bot_at {S : Shape} (a y : FVec Ideal S .f32) (j : S.Idx) (ha : a j = (⊥ : EReal)) : maximumf a y j = y j := by
  show max (a j) (y j) = y j
  rw [ha]
  exact max_eq_right bot_le

theorem rowTop_at (s : FVec Ideal S4x8x64x64x576 .f32) (b : Fin 4) (h : Fin 8) (c : Fin 64) (r : Fin 64) :
    rowTop s (ix4 b h c r) = Cert.Softmax.top fun k => s (ix5 b h c r k) := by
  unfold rowTop
  refine (max_bot_at _ _ _ ?_).trans
    (reduceMax_at reducesTo_S4x8x64x64x576_S4x8x64x64_d4 h_S_ s (constant S_ .f32 0xFF800000#32) negInf b h c r)
  pointwise
  exact negInf

theorem numer_at (s : FVec Ideal S4x8x64x64x576 .f32) (t : FVec Ideal S4x8x64x64 .f32) (b : Fin 4) (h : Fin 8) (c : Fin 64)
    (r : Fin 64) (k : Fin 576) :
    numer s t (ix5 b h c r k) = Ideal.exp (s (ix5 b h c r k) - t (ix4 b h c r)) := by
  pointwise [numer]

theorem mix_at (e : FVec Ideal S4x8x64x64x576 .f32) (vb : FVec Ideal S4x64x576x8x64 .f32) (b : Fin 4) (c : Fin 64) (r : Fin 64)
    (h : Fin 8) (d : Fin 64) :
    mix e vb (ix2 ⟨b.val * 4096 + c.val * 64 + r.val, by omega⟩ ⟨h.val * 64 + d.val, by omega⟩)
      = ∑ k, vb (ix5 b c k h d) * Ideal.div (e (ix5 b h c r k)) (∑ k', e (ix5 b h c r k')) := by
  pointwise [mix]

end Cert.ReferenceIdeal.Value

end
-- ==== Proof.Finite.lean ====
/- What the precondition says of the arguments, element by element: every query and key of the prompt and every bias that a band
   reads is a real number. -/
module

public import proofs.«01_k».proof.Proof.Gen.Pre_finite
public import proofs.«01_k».proof.Pre_finite
public import Idealize.ShloMosaic.Lib.ReduceAll
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Finiteness

open Cert.Pre_finite

/-- An extended real that is a real number. -/
def Finite (x : EReal) : Prop := ∃ r : ℝ, x = (r : EReal)

theorem inf_bits : Ideal.ofBits .f32 0x7F800000#32 = ⊤ := by simp [Ideal.ofBits, Ideal.ieee]

/-- An extended real whose absolute value is below `+∞` is a real number. -/
theorem real_of_abs (x : EReal) (h : Ideal.cmp .olt (max x (-x)) ⊤ = 1#1) : Finite x := by
  induction x using EReal.rec with
  | bot => simp [Ideal.cmp] at h
  | coe r => exact ⟨r, rfl⟩
  | top => simp [Ideal.cmp] at h

theorem and_one {x y : BitVec 1} (h : IntOp.andi x y = 1#1) : x = 1#1 ∧ y = 1#1 := by
  revert x y
  decide

/-- One conjunct of the precondition, at every index. -/
theorem real_of_all {S : Shape} {axes : List (Fin S.rank)} (X : FVec Ideal S .f32) (hb : S_.BroadcastsInDim S (![] : Fin 0 → Fin S.rank))
    (hr : S.ReducesTo axes S_) (hu : 0 < S_.numel) (j : S_.Idx)
    (e : Host.reduce IntOp.andi (cmpf .olt (Host.absf X) (broadcastInDim S ![] hb (constant S_ .f32 0x7F800000#32))) (constantI S_ 1 1#1) hr hu j = 1#1)
    (i : S.Idx) : Finite (X i) := by
  have h := Host.reduce_andi_all _ _ _ _ j e i
  apply real_of_abs
  rw [← inf_bits]
  exact h

/-- The prompt's rows hold real numbers. -/
def PromptFinite (X : FVec Ideal S16896x512 .f32) : Prop := ∀ (n : Fin 16896) (e : Fin 512), n.val < 16384 → Finite (X (ix2 n e))

/-- The prompt's rows, at an entry. -/
theorem prompt_at [Facts] (X : FVec Ideal S16896x512 .f32) (n : Fin 16384) (e : Fin 512) :
    extractStridedSlice S16384x512 ![0, 0] X Facts.slices_S16896x512_S16384x512_0_0 (ix2 n e) = X (ix2 ⟨n.val, by omega⟩ e) := by
  pointwise []

theorem prompt_of_all [Facts] (X : FVec Ideal S16896x512 .f32)
    (h : ∀ i, Finite (extractStridedSlice S16384x512 ![0, 0] X Facts.slices_S16896x512_S16384x512_0_0 i)) : PromptFinite X := by
  intro n e hn
  have := h (ix2 ⟨n.val, hn⟩ e)
  rwa [prompt_at] at this

/-- The biases that a band reads are real numbers. -/
def BiasFinite (B : FVec Ideal S1x8x257 .f32) : Prop := ∀ (h : Fin 8) (k : Fin 257), 65 ≤ k.val → Finite (B (ix3 0 h k))

/-- The biases that a band reads, at an entry. -/
theorem read_at [Facts] (B : FVec Ideal S1x8x257 .f32) (h : Fin 8) (k : Fin 192) :
    extractStridedSlice S1x8x192 ![0, 0, 65] B Facts.slices_S1x8x257_S1x8x192_0_0_65 (ix3 0 h k) = B (ix3 0 h ⟨65 + k.val, by omega⟩) := by
  pointwise []

theorem bias_of_all [Facts] (B : FVec Ideal S1x8x257 .f32)
    (hf : ∀ i, Finite (extractStridedSlice S1x8x192 ![0, 0, 65] B Facts.slices_S1x8x257_S1x8x192_0_0_65 i)) : BiasFinite B := by
  intro h k hk
  have e := hf (ix3 0 h ⟨k.val - 65, by omega⟩)
  rw [read_at] at e
  have hn : (⟨65 + (k.val - 65), by omega⟩ : Fin 257) = k := Fin.ext (by dsimp only; omega)
  rwa [hn] at e

/-- Under the precondition the prompt's queries and keys and the biases read hold real numbers. -/
theorem real_of_pre [Facts] (Q K W : FVec Ideal S16896x512 .f32) (B : FVec Ideal S1x8x257 .f32)
    (h : fn (F := Ideal) Q K W B = fun _ => 1#1) : PromptFinite Q ∧ PromptFinite K ∧ BiasFinite B := by
  have h0 := congrFun h ix0
  obtain ⟨h1, h2⟩ := and_one h0
  obtain ⟨h3, h4⟩ := and_one h1
  exact ⟨prompt_of_all Q (real_of_all _ _ _ _ _ h3), prompt_of_all K (real_of_all _ _ _ _ _ h4), bias_of_all B (real_of_all _ _ _ _ _ h2)⟩

end Cert.Finiteness

end
-- ==== Proof.Meaning.lean ====
/- What both programs compute, in the language of tokens: the attention of query `64 c + r` of sequence `b`, over the band of
   576 keys that ends with the query's own chunk of 64 tokens. -/
module

public import proofs.«01_k».proof.Proof.RefAt
public import proofs.«01_k».proof.Proof.Finite

@[expose] public section

set_option maxRecDepth 16384

noncomputable section

open Idealize.ShloMosaic Idealize.ShloMosaic.TcCoe Idealize.SL.Sem

namespace Cert.Meaning

open Cert.ReferenceIdeal Cert.Softmax Cert.Finiteness

/-- The scale of the scores, `1/8`. -/
def scale : EReal := Ideal.ofBits .f32 0x3E000000#32

theorem scale_eq : scale = ((1 / 8 : ℝ) : EReal) := by
  simp [scale, Ideal.ofBits, Ideal.ieee]
  rw [← EReal.coe_mul]
  norm_num

/-- Band position `k` of chunk `c` of sequence `b`, column `y` of head `h`: the token `512` before, zero before the sequence. -/
def token (X : FVec Ideal S16896x512 .f32) (b : Fin 4) (c : Fin 64) (k : Fin 576) (h : Fin 8) (y : Fin 64) : EReal :=
  if hc : 512 ≤ c.val * 64 + k.val then X (ix2 ⟨b.val * 4096 + (c.val * 64 + k.val - 512), by omega⟩ ⟨h.val * 64 + y.val, by omega⟩)
  else 0

/-- The score of a query against band position `k`: −∞ before the sequence's start. -/
def score (Q K : FVec Ideal S16896x512 .f32) (B : FVec Ideal S1x8x257 .f32) (b : Fin 4) (c r : Fin 64) (h : Fin 8) (k : Fin 576) : EReal :=
  if 8 ≤ c.val + k.val / 64 then
    (∑ y : Fin 64, Q (ix2 ⟨b.val * 4096 + c.val * 64 + r.val, by omega⟩ ⟨h.val * 64 + y.val, by omega⟩) * token K b c k h y) * scale
      + B (ix3 0 h ⟨min 256 (640 + r.val - k.val), by omega⟩)
  else ⊥

/-- The result of query `64 c + r` of sequence `b` in column `y` of head `h`. -/
def attended (Q K W : FVec Ideal S16896x512 .f32) (B : FVec Ideal S1x8x257 .f32) (b : Fin 4) (c r : Fin 64) (h : Fin 8) (y : Fin 64) : EReal :=
  attend (score Q K B b c r h) fun k => token W b c k h y

/-! ## The scores of finite queries, keys and biases -/

theorem finite_mul {x y : EReal} (hx : Finite x) (hy : Finite y) : Finite (x * y) := by
  obtain ⟨a, rfl⟩ := hx
  obtain ⟨b, rfl⟩ := hy
  exact ⟨a * b, (EReal.coe_mul a b).symm⟩

theorem finite_add {x y : EReal} (hx : Finite x) (hy : Finite y) : Finite (x + y) := by
  obtain ⟨a, rfl⟩ := hx
  obtain ⟨b, rfl⟩ := hy
  exact ⟨a + b, (EReal.coe_add a b).symm⟩

theorem finite_sum {n : ℕ} {f : Fin n → EReal} (hf : ∀ k, Finite (f k)) : Finite (∑ k, f k) := by
  choose w hw using hf
  exact ⟨∑ k, w k, (Finset.sum_congr rfl fun k _ => hw k).trans (sum_coe w)⟩

theorem ne_top_of_finite {x : EReal} (h : Finite x) : x ≠ ⊤ := by
  obtain ⟨a, rfl⟩ := h
  exact EReal.coe_ne_top a

theorem ne_bot_of_finite {x : EReal} (h : Finite x) : x ≠ ⊥ := by
  obtain ⟨a, rfl⟩ := h
  exact EReal.coe_ne_bot a

variable (Q K W : FVec Ideal S16896x512 .f32) (B : FVec Ideal S1x8x257 .f32)

theorem token_finite (X : FVec Ideal S16896x512 .f32) (hX : PromptFinite X) (b : Fin 4) (c : Fin 64) (k : Fin 576) (h : Fin 8) (y : Fin 64) :
    Finite (token X b c k h y) := by
  unfold token
  split
  · exact hX _ _ (by dsimp only; omega)
  · exact ⟨0, rfl⟩

theorem score_finite (hQ : PromptFinite Q) (hK : PromptFinite K) (hB : BiasFinite B) (b : Fin 4) (c r : Fin 64) (h : Fin 8)
    (k : Fin 576) (hk : 8 ≤ c.val + k.val / 64) : Finite (score Q K B b c r h k) := by
  unfold score
  rw [if_pos hk]
  exact finite_add (finite_mul (finite_sum fun y => finite_mul (hQ _ _ (by dsimp only; omega)) (token_finite K hK b c k h y)) ⟨_, scale_eq⟩) (hB _ _ (by dsimp only; omega))

theorem score_ne_top (hQ : PromptFinite Q) (hK : PromptFinite K) (hB : BiasFinite B) (b : Fin 4) (c r : Fin 64) (h : Fin 8)
    (k : Fin 576) : score Q K B b c r h k ≠ ⊤ := by
  by_cases hk : 8 ≤ c.val + k.val / 64
  · exact ne_top_of_finite (score_finite Q K B hQ hK hB b c r h k hk)
  · unfold score
    rw [if_neg hk]
    exact bot_ne_top

/-- A query's own chunk lies in every band, so some score is finite. -/
theorem exists_score (hQ : PromptFinite Q) (hK : PromptFinite K) (hB : BiasFinite B) (b : Fin 4) (c r : Fin 64) (h : Fin 8) :
    ∃ k, score Q K B b c r h k ≠ ⊥ :=
  ⟨⟨512, by omega⟩, ne_bot_of_finite (score_finite Q K B hQ hK hB b c r h ⟨512, by omega⟩ (by show 8 ≤ c.val + 512 / 64; omega))⟩

/-! ## The reference -/

open Cert.ReferenceIdeal.Value

theorem maskedScores_at (b : Fin 4) (c r : Fin 64) (h : Fin 8) (k : Fin 576) :
    maskedScores Q K B (ix5 b h c r k) = score Q K B b c r h k := by
  unfold maskedScores score
  rw [scores_at, valid_at, bias_at]
  simp only [queries_at, band_at]
  by_cases hk : 8 ≤ c.val + k.val / 64
  · rw [if_pos hk, if_pos hk]
    rfl
  · rw [if_neg hk, if_neg hk]
    rfl

/-- The reference's result is the attention over the band. -/
theorem attention_at (hQ : PromptFinite Q) (hK : PromptFinite K) (hB : BiasFinite B) (b : Fin 4) (c r : Fin 64) (h : Fin 8)
    (y : Fin 64) :
    attention Q K W B (ix2 ⟨b.val * 4096 + c.val * 64 + r.val, by omega⟩ ⟨h.val * 64 + y.val, by omega⟩) = attended Q K W B b c r h y := by
  unfold attention attended
  rw [mix_at, attend_eq_mix _ _ (score_ne_top Q K B hQ hK hB b c r h) (exists_score Q K B hQ hK hB b c r h)]
  simp only [numer_at, rowTop_at, maskedScores_at, band_at]
  rfl

end Cert.Meaning

end
-- ==== Proof.Equation.lean ====
/- The two programs' results are one function of the arguments: the kernel's blocks read the tokens of every query's band, with the
   scores' scale in the queries and the band's edges in the bias table. -/
module

public import proofs.«01_k».proof.Proof.Array
public import proofs.«01_k».proof.Proof.TableAt
public import proofs.«01_k».proof.Proof.Meaning

@[expose] public section

set_option maxRecDepth 16384

noncomputable section

open Idealize.ShloMosaic Idealize.ShloMosaic.TcCoe Idealize.SL.Sem

namespace Cert.Equation

open Cert.KernelIdeal Cert.Softmax Cert.Meaning Cert.Finiteness

/-- Row `p` of the three blocks that end with block `t`: the row `512` before, where it is in block `t`'s own sequence. -/
theorem rows_at (X : FVec Ideal S16896x512 .bf16) (t : ℕ) (ht : t < 64) (h0 : t - min 2 (t % 16) < 64) (h1 : t - min 1 (t % 16) < 64)
    (p : Fin 768) (e : Fin 512) (hp : 512 ≤ t % 16 * 256 + p.val) :
    Block.rows (Array.block X (t - min 2 (t % 16)) h0) (Array.block X (t - min 1 (t % 16)) h1) (Array.block X t ht) p e
      = X (ix2 ⟨t * 256 + p.val - 512, by omega⟩ e) := by
  unfold Block.rows
  split
  · refine congrArg X (congrArg (fun n => ix2 n e) (Fin.ext ?_))
    show (t - min 2 (t % 16)) * 256 + p.val = t * 256 + p.val - 512
    omega
  · split
    · refine congrArg X (congrArg (fun n => ix2 n e) (Fin.ext ?_))
      show (t - min 1 (t % 16)) * 256 + (p.val - 256) = t * 256 + p.val - 512
      omega
    · refine congrArg X (congrArg (fun n => ix2 n e) (Fin.ext ?_))
      show t * 256 + (p.val - 512) = t * 256 + p.val - 512
      omega

/-- The scale goes from the queries to the sum. -/
theorem sum_scale (f g : Fin 64 → EReal) : ∑ y, f y * scale * g y = (∑ y, f y * g y) * scale := by
  rw [scale_eq, sum_mul_coe _ _ _ (by norm_num)]
  exact Finset.sum_congr rfl fun y _ => mul_right_comm _ _ _

variable (Q K W : FVec Ideal S16896x512 .f32) (B : FVec Ideal S1x8x257 .f32)

/-- The scaled queries. -/
def scaled : FVec Ideal S16896x512 .bf16 := fun i => (Q i : EReal) * scale

/-- The kernel's output at query `64 c + r` of sequence `b` is the attention over the query's band. -/
theorem out_at (b : Fin 4) (c r : Fin 64) (h : Fin 8) (y : Fin 64) (t : ℕ) (ht : t < 64) (hbc : t = b.val * 16 + c.val / 4)
    (a : Fin 256) (ha : a.val = c.val % 4 * 64 + r.val) (e : Fin 512) (he : e.val = h.val * 64 + y.val) :
    Array.out (scaled Q) K W (Table.bias B) t ht a e = attended Q K W B b c r h y := by
  have hb := b.isLt
  have hc := c.isLt
  have hr := r.isLt
  have hy := y.isLt
  have htm : t % 16 = c.val / 4 := by omega
  have hh : (⟨e.val / 64, by omega⟩ : Fin 8) = h := Fin.ext (by show e.val / 64 = h.val; omega)
  unfold Array.out Block.value attended
  rw [hh]
  refine attend_window (c.val % 4 % 2 * 64) (fun k => by have := k.isLt; omega) _ _ _ _ ?_ ?_ ?_
  · intro j hj
    have hj' := j.isLt
    unfold Block.score
    split
    · rfl
    · rw [Table.bias_at]
      rw [if_neg (by show ¬ (a.val / 64 ≤ (a.val / 128 * 128 + j.val) / 64 ∧ (a.val / 128 * 128 + j.val) / 64 ≤ a.val / 64 + 8); omega)]
      exact EReal.add_bot _
  · intro k
    have hk := k.isLt
    have hp : a.val / 128 * 128 + (k.val + c.val % 4 % 2 * 64) = c.val % 4 * 64 + k.val := by omega
    have hcol : (⟨a.val / 128 * 128 + (col (c.val % 4 % 2 * 64) (fun k => by have := k.isLt; omega) k : Fin 640).val, by omega⟩ : Fin 768)
        = ⟨c.val % 4 * 64 + k.val, by omega⟩ := Fin.ext hp
    refine (congrArg (Block.score _ _ _ _ _ _ a h) hcol).trans ?_
    unfold Block.score score
    by_cases hm : 8 ≤ c.val + k.val / 64
    · rw [if_neg (by show ¬ c.val % 4 * 64 + k.val < (2 - t % 16) * 256; omega), if_pos hm, Table.bias_at,
        if_pos (by show a.val / 64 ≤ (c.val % 4 * 64 + k.val) / 64 ∧ (c.val % 4 * 64 + k.val) / 64 ≤ a.val / 64 + 8; omega)]
      refine congr (congrArg _ ?_) (congrArg B (congrArg (ix3 0 h) (Fin.ext ?_)))
      · refine Eq.trans ?_ (sum_scale _ _)
        refine Finset.sum_congr rfl fun z _ => ?_
        have hz := z.isLt
        rw [rows_at K t ht _ _ _ _ (by show 512 ≤ t % 16 * 256 + (c.val % 4 * 64 + k.val); omega)]
        unfold token
        rw [dif_pos (by omega)]
        refine congr (congrArg _ ?_) (congrArg K (congrArg (fun n => ix2 n _) (Fin.ext ?_)))
        · refine congrArg (· * scale) (congrArg Q (congrArg (fun n => ix2 n _) (Fin.ext ?_)))
          show t * 256 + a.val = b.val * 4096 + c.val * 64 + r.val
          omega
        · show t * 256 + (c.val % 4 * 64 + k.val) - 512 = b.val * 4096 + (c.val * 64 + k.val - 512)
          omega
      · show min 256 (640 + a.val - (c.val % 4 * 64 + k.val)) = min 256 (640 + r.val - k.val)
        omega
    · rw [if_pos (by show c.val % 4 * 64 + k.val < (2 - t % 16) * 256; omega), if_neg hm]
  · intro k hne
    have hk := k.isLt
    have hm : 8 ≤ c.val + k.val / 64 := by
      by_contra hm
      unfold score at hne
      rw [if_neg hm] at hne
      exact hne rfl
    have hp : a.val / 128 * 128 + (k.val + c.val % 4 % 2 * 64) = c.val % 4 * 64 + k.val := by omega
    have hcol : (⟨a.val / 128 * 128 + (col (c.val % 4 % 2 * 64) (fun k => by have := k.isLt; omega) k : Fin 640).val, by omega⟩ : Fin 768)
        = ⟨c.val % 4 * 64 + k.val, by omega⟩ := Fin.ext hp
    refine (congrArg (fun p => Block.rows _ _ _ p e) hcol).trans ?_
    rw [rows_at W t ht _ _ _ _ (by show 512 ≤ t % 16 * 256 + (c.val % 4 * 64 + k.val); omega)]
    unfold token
    rw [dif_pos (by omega)]
    refine congrArg W (congr (congrArg _ (Fin.ext ?_)) (Fin.ext he))
    show t * 256 + (c.val % 4 * 64 + k.val) - 512 = b.val * 4096 + (c.val * 64 + k.val - 512)
    omega

/-- The kernel's result on scaled queries is the reference's result, where the prompt's queries and keys and the biases read are finite. -/
theorem result_eq (hQ : PromptFinite Q) (hK : PromptFinite K) (hB : BiasFinite B) :
    Array.result (scaled Q) K W (Table.bias B) = Cert.ReferenceIdeal.Value.attention Q K W B := by
  funext i
  obtain ⟨n, e, rfl⟩ : ∃ (n : Fin 16384) (e : Fin 512), i = ix2 n e := ⟨i 0, i 1, by funext z; fin_cases z <;> rfl⟩
  have hn := n.isLt
  have he := e.isLt
  have h := attention_at Q K W B hQ hK hB ⟨n.val / 4096, by omega⟩ ⟨n.val % 4096 / 64, by omega⟩ ⟨n.val % 64, by omega⟩
    ⟨e.val / 64, by omega⟩ ⟨e.val % 64, by omega⟩
  have hi : (ix2 ⟨n.val / 4096 * 4096 + n.val % 4096 / 64 * 64 + n.val % 64, by omega⟩ ⟨e.val / 64 * 64 + e.val % 64, by omega⟩
      : (⟨2, ![16384, 512]⟩ : Shape).Idx) = ix2 n e := congr (congrArg _ (Fin.ext (by dsimp only; omega))) (Fin.ext (by dsimp only; omega))
  refine Eq.trans ?_ (h.symm.trans (congrArg _ hi))
  exact out_at Q K W B _ _ _ _ _ _ _ (by show n.val / 256 = n.val / 4096 * 16 + n.val % 4096 / 64 / 4; omega) _
    (by show n.val % 256 = n.val % 4096 / 64 % 4 * 64 + n.val % 64; omega) _
    (by show e.val = e.val / 64 * 64 + e.val % 64; omega)

end Cert.Equation

end
-- ==== Proof.Plan.lean ====
module

public import proofs.«01_k».proof.Pre_rows_routed
public import proofs.«01_k».proof.Proof.Gen.Pre_rows_routed
public import Idealize.ShloMosaic.Lib.Routing.OpsOne
public import Idealize.ShloMosaic.Lib.Claim
public import Idealize.ShloMosaic.Lib.Ring
public import Idealize.ShloMosaic.Lib.Tactic

/-!
The plan of the expert rows, as words: how many rows each expert's are padded to, where each expert's rows end, which expert a
row belongs to, and how many tiles of 256 rows there are. The kernel's host code, the reference and the precondition all compute
these; they are stated here once.
-/

@[expose] public section

set_option maxRecDepth 16384

noncomputable section

namespace Cert.Plan

open Idealize.ShloMosaic Idealize.ShloMosaic.Routing Idealize.ShloMosaic.ValueIdx
open Cert.Pre_rows_routed Cert.Pre_rows_routed.Facts

variable {F : FTy → Type} [FloatOps F]

/-- How many tiles of 256 rows each expert's rows take. -/
def tiles (x : FVec F S1x128 .f32) : IVec S32 32 :=
  fn_floor_divide (F := F)
    (subi (addi (fptosi 32 (shapeCast S32 (extractStridedSlice S1x32 ![0, 0] x slices_S1x128_S1x32_0_0) shapeCasts_S1x32_S32))
      (broadcastInDim S32 ![] bcast_S_S32 (constantI S_ 32 256#32)))
      (broadcastInDim S32 ![] bcast_S_S32 (constantI S_ 32 1#32)))
    (constantI S_ 32 256#32)

/-- How many rows each expert's are padded to. -/
def padded (x : FVec F S1x128 .f32) : IVec S32 32 :=
  muli (tiles x) (broadcastInDim S32 ![] bcast_S_S32 (constantI S_ 32 256#32))

/-- Where each expert's rows end. -/
def ends (x : FVec F S1x128 .f32) (j : Fin 32) : BitVec 32 := ∑ i : Fin 32, if i ≤ j then padded x (ix1 i) else 0

theorem ofNat_dvd (a : ℕ) (h : 256 ∣ a) : 256 ∣ (BitVec.ofNat 32 a).toNat := by
  rw [BitVec.toNat_ofNat]; omega

theorem padded_dvd (x : FVec F S1x128 .f32) (j : S32.Idx) : 256 ∣ (padded x j).toNat := by
  have e : padded x j = tiles x j * 256#32 := rfl
  rw [e, BitVec.toNat_mul]
  have : (256#32).toNat = 256 := rfl
  rw [this]
  omega

theorem add_dvd (a b : BitVec 32) (ha : 256 ∣ a.toNat) (hb : 256 ∣ b.toNat) : 256 ∣ (a + b).toNat := by
  rw [BitVec.toNat_add]; omega

theorem ends_dvd (x : FVec F S1x128 .f32) (j : Fin 32) : 256 ∣ (ends x j).toNat := by
  unfold ends
  refine Finset.sum_induction _ (fun a : BitVec 32 => 256 ∣ a.toNat) add_dvd (by decide) fun i _ => ?_
  split
  · exact padded_dvd x _
  · exact (by decide : 256 ∣ (0 : BitVec 32).toNat)

/-- The running sum of the padded rows is where each expert's rows end. -/
theorem running (x : FVec F S1x128 .f32) (init : IVec shape0 32) (hinit : init ix0 = 0#32)
    (h : (shape1 32).ReduceWindows (![32] : Fin 1 → Nat) ![1] ![31] ![0] (shape1 32)) (hu : 0 < shape0.numel) (j : Fin 32) :
    Host.reduceWindow IntOp.addi ![32] ![1] ![31] ![0] (padded x) init h hu (ix1 j) = ends x j :=
  cumsum_vec rfl (padded x) init hinit h hu j

/-- The sum of the padded rows is where the last expert's end. -/
theorem total (x : FVec F S1x128 .f32) (h : (shape1 32).ReducesTo [0] shape0) (hu : 0 < shape0.numel) :
    Host.reduce IntOp.addi (padded x) (constantI shape0 32 0#32) h hu ix0 = ends x 31 := by
  refine (reduce_sum (padded x) (fun n => if h : n < 32 then (padded x (ix1 ⟨n, h⟩)).toNat else 0) (fun i => ?_) h hu).trans ?_
  · rw [dif_pos i.isLt, BitVec.ofNat_toNat, BitVec.setWidth_eq]
  · rw [ofNat_sum_range, ends, ← Fin.sum_univ_eq_sum_range
      (fun n : ℕ => BitVec.ofNat 32 (if h : n < 32 then (padded x (ix1 ⟨n, h⟩)).toNat else 0)) 32]
    refine Finset.sum_congr rfl fun i _ => ?_
    have hi : i ≤ (31 : Fin 32) := Nat.le_of_lt_succ i.isLt
    rw [dif_pos i.isLt, BitVec.ofNat_toNat, BitVec.setWidth_eq, if_pos hi]

/-- The expert of the row numbered `w`: how many experts' rows end at or before it, at most 31. -/
def expert (e : Fin 32 → BitVec 32) (w : BitVec 32) : ℕ :=
  min (Nat.count (fun n => ∃ h : n < 32, (e ⟨n, h⟩).toInt ≤ w.toInt) 32) 31

theorem expert_lt (e : Fin 32 → BitVec 32) (w : BitVec 32) : expert e w < 32 := by unfold expert; omega

theorem minsi_31 (n : ℕ) (h : n ≤ 32) : IntOp.minsi (BitVec.ofNat 32 n) 31#32 = BitVec.ofNat 32 (min n 31) := by
  have : ∀ k : Fin 33, IntOp.minsi (BitVec.ofNat 32 k.val) 31#32 = BitVec.ofNat 32 (min k.val 31) := by decide +kernel
  exact this ⟨n, by omega⟩

theorem row_expert {n : ℕ} (v : IVec (shape1 n) 32) (e : IVec (shape1 32) 32)
    (h₁ : (shape1 n).BroadcastsInDim (shape2 n 1) (![0] : Fin 1 → Fin (shape2 n 1).rank))
    (h₂ : (shape2 n 1).BroadcastsInDim (shape2 n 32) (![0, 1] : Fin 2 → Fin (shape2 n 32).rank))
    (h₃ : (shape1 32).BroadcastsInDim (shape2 1 32) (![1] : Fin 1 → Fin (shape2 1 32).rank))
    (h₄ : (shape2 1 32).BroadcastsInDim (shape2 n 32) (![0, 1] : Fin 2 → Fin (shape2 n 32).rank))
    (hb : shape0.BroadcastsInDim (shape1 n) (![] : Fin 0 → Fin (shape1 n).rank))
    (hw : 1 < 32) (h : (shape2 n 32).ReducesTo [1] (shape1 n)) (hu : 0 < shape0.numel) (i : Fin n) :
    minsi (Host.reduce IntOp.addi (extui 32 (cmpi .sge
        (broadcastInDim (shape2 n 32) ![0, 1] h₂ (broadcastInDim (shape2 n 1) ![0] h₁ v))
        (broadcastInDim (shape2 n 32) ![0, 1] h₄ (broadcastInDim (shape2 1 32) ![1] h₃ e))) hw)
        (constantI shape0 32 0#32) h hu)
      (broadcastInDim (shape1 n) ![] hb (constantI shape0 32 31#32)) (ix1 i)
      = BitVec.ofNat 32 (expert (fun j => e (ix1 j)) (v (ix1 i))) := by
  refine (congrArg (fun z => IntOp.minsi z 31#32) (reduce_count (by decide) _ hw h hu i
    (fun n => ∃ h : n < 32, (e (ix1 ⟨n, h⟩)).toInt ≤ (v (ix1 i)).toInt) fun q => ?_)).trans (minsi_31 _ (Nat.count_le _))
  show IntOp.cmpi .sge _ _ = 1#1 ↔ _
  rw [bcRows h₁ h₂ v i q, bcCols h₃ h₄ e i q]
  have hq : (∃ h : q.val < 32, (e (ix1 ⟨q.val, h⟩)).toInt ≤ (v (ix1 i)).toInt) ↔ (e (ix1 q)).toInt ≤ (v (ix1 i)).toInt :=
    ⟨fun ⟨_, h⟩ => h, fun h => ⟨q.isLt, h⟩⟩
  rw [hq]
  simp only [IntOp.cmpi, BitVec.sle]
  by_cases hc : (e (ix1 q)).toInt ≤ (v (ix1 i)).toInt <;> simp [hc]

/-- An end that is a whole number of tiles is at or before a row where it is at or before the row's tile. -/
theorem tile_le (e : BitVec 32) (he : 256 ∣ e.toNat) (b s : ℕ) (hb : b < 164) (hs : s < 256) :
    e.toInt ≤ (BitVec.ofNat 32 (256 * b + s)).toInt ↔ e.toInt ≤ (BitVec.ofNat 32 (256 * b)).toInt := by
  have h1 : (BitVec.ofNat 32 (256 * b + s)).toInt = ((256 * b + s : ℕ) : ℤ) := by
    rw [BitVec.toInt_eq_toNat_cond, BitVec.toNat_ofNat]; split <;> omega
  have h2 : (BitVec.ofNat 32 (256 * b)).toInt = ((256 * b : ℕ) : ℤ) := by
    rw [BitVec.toInt_eq_toNat_cond, BitVec.toNat_ofNat]; split <;> omega
  rw [h1, h2, BitVec.toInt_eq_toNat_cond]
  split <;> omega

/-- A row's expert is its tile's. -/
theorem expert_tile (e : Fin 32 → BitVec 32) (he : ∀ j, 256 ∣ (e j).toNat) (b s : ℕ) (hb : b < 164) (hs : s < 256) :
    expert e (BitVec.ofNat 32 (256 * b + s)) = expert e (BitVec.ofNat 32 (256 * b)) := by
  unfold expert
  have : (fun n => ∃ h : n < 32, (e ⟨n, h⟩).toInt ≤ (BitVec.ofNat 32 (256 * b + s)).toInt)
      = fun n => ∃ h : n < 32, (e ⟨n, h⟩).toInt ≤ (BitVec.ofNat 32 (256 * b)).toInt := by
    funext n
    exact propext (exists_congr fun h => tile_le _ (he _) b s hb hs)
  simp only [this]

/-- A row is before a positive end where its tile's number is under the number of tiles to that end. -/
theorem row_lt (e : BitVec 32) (he : 256 ∣ e.toNat) (h0 : 0 < e.toInt) (b s : ℕ) (hb : b < 164) (hs : s < 256) :
    (BitVec.ofNat 32 (256 * b + s)).toInt < e.toInt ↔ b < e.toNat / 256 := by
  have h1 : (BitVec.ofNat 32 (256 * b + s)).toInt = ((256 * b + s : ℕ) : ℤ) := by
    rw [BitVec.toInt_eq_toNat_cond, BitVec.toNat_ofNat]; split <;> omega
  rw [h1]
  rw [BitVec.toInt_eq_toNat_cond] at h0 ⊢
  split at h0 <;> omega

/-- The number of tiles to an end, as the host divides: rounded down. -/
def quotient (x : IVec S_ 32) : IVec S_ 32 :=
  select (andi (cmpi .ne (signi x) (signi (constantI S_ 32 256#32))) (cmpi .ne (Host.remsi x (constantI S_ 32 256#32)) (constantI S_ 32 0#32)))
    (subi (Host.divsi x (constantI S_ 32 256#32)) (constantI S_ 32 1#32)) (Host.divsi x (constantI S_ 32 256#32))

theorem quotient_toNat (x : IVec S_ 32) (h0 : 0 < (x ix0).toInt) : (quotient x ix0).toNat = (x ix0).toNat / 256 := by
  have hm : (x ix0).msb = false := by
    rw [BitVec.msb_eq_toInt]; exact decide_eq_false (by omega)
  have hne : x ix0 ≠ 0 := fun h => by rw [h] at h0; exact absurd h0 (by decide)
  have hs : signi x ix0 = 1 := by
    unfold signi; rw [if_neg hne, hm]; rfl
  have hs' : signi (constantI S_ 32 256#32) ix0 = 1 := by decide
  have hd : (Host.divsi x (constantI S_ 32 256#32) ix0).toNat = (x ix0).toNat / 256 := by
    show (IntOp.divsi .host (x ix0) 256#32).toNat = _
    unfold IntOp.divsi
    rw [if_neg (by unfold IntOp.SDivCorner; simp), BitVec.sdiv_eq, hm]
    exact BitVec.toNat_udiv
  have hc : andi (cmpi .ne (signi x) (signi (constantI S_ 32 256#32))) (cmpi .ne (Host.remsi x (constantI S_ 32 256#32)) (constantI S_ 32 0#32)) ix0 = 0 := by
    show IntOp.andi (IntOp.cmpi .ne (signi x ix0) (signi (constantI S_ 32 256#32) ix0)) _ = 0
    rw [hs, hs']
    simp [IntOp.andi, IntOp.cmpi]
  have hq : quotient x ix0 = Host.divsi x (constantI S_ 32 256#32) ix0 := by
    unfold quotient select
    rw [hc]
    rfl
  rw [hq, hd]

theorem quotient_spec (x : IVec S_ 32) (h0 : 0 < (x ix0).toInt) (hd : 256 ∣ (x ix0).toNat) :
    1 ≤ (quotient x ix0).toNat ∧ (quotient x ix0).toNat < 2 ^ 31 := by
  rw [quotient_toNat x h0]
  rw [BitVec.toInt_eq_toNat_cond] at h0
  split at h0 <;> omega

/-- What the precondition says: the layer is one of the two, and the last expert's rows end past the first row. -/
theorem routed (l : IVec S1 32) (x : FVec F S1x128 .f32) (xs : FVec F S335872x128 .f32) (w1 w3 : FVec F S2x32x1024x256 .f32)
    (w2 : FVec F S2x32x256x1024 .f32) (h : fn (F := F) l x xs w1 w3 w2 = fun _ => 1#1) :
    (l (ix1 0)).toNat < 2 ∧ 0 < (ends x 31).toInt := by
  have h' := congrFun h ix0
  have e : fn (F := F) l x xs w1 w3 w2 ix0 = IntOp.andi
      (IntOp.andi (IntOp.cmpi .sge (l (ix1 0)) 0#32) (IntOp.cmpi .slt (l (ix1 0)) 2#32)) (IntOp.cmpi .sgt (ends x 31) 0#32) := by
    rw [← total x reducesTo_S32_S_d0 h_S_]
    have hl : shapeCast S_ l shapeCasts_S1_S_ ix0 = l (ix1 0) := by
      unfold shapeCast
      refine congrArg l (funext fun a => ?_)
      match a with
      | ⟨0, _⟩ => exact Subsingleton.elim (α := Fin 1) _ _
    rw [← hl]
    rfl
  rw [e] at h'
  have k : ∀ a b c : BitVec 1, IntOp.andi (IntOp.andi a b) c = 1#1 → a = 1#1 ∧ b = 1#1 ∧ c = 1#1 := by decide
  obtain ⟨h1, h2, h3⟩ := k _ _ _ h'
  have o : ∀ b : Bool, BitVec.ofBool b = 1#1 → b = true := by decide
  have h1 := of_decide_eq_true (o _ h1)
  have h2 := of_decide_eq_true (o _ h2)
  have h3 := of_decide_eq_true (o _ h3)
  have z : (0#32).toInt = 0 := rfl
  have t : (2#32).toInt = 2 := rfl
  rw [z] at h1 h3
  rw [t] at h2
  refine ⟨?_, h3⟩
  rw [BitVec.toInt_eq_toNat_cond] at h1 h2
  split at h1 <;> omega

end Cert.Plan

end
-- ==== Proof.ExpertsBody.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.TableIdle
public import Idealize.ShloMosaic.Lib.Pipeline.Value
public import Idealize.ShloMosaic.Lib.Pipeline.AliasedRuns
public import Idealize.ShloMosaic.Lib.VecWindow
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the program's runs. -/
abbrev 𝕄 (F : FTy → Type) : Type := MT nD τ sig Unit (Elt F) ℕ (UR sig nD τ) ℕ

/-! ## The rectangles: row `8 s + j` of a block, every `s` -/

abbrev st0 : Rect S2048x128 := ⟨⟨![0, 0], S256x128.size, ![8, 1], inb_S2048x128_S256x128_0_0_s_8_1⟩, spos_8_1⟩
abbrev st1 : Rect S2048x128 := ⟨⟨![1, 0], S256x128.size, ![8, 1], inb_S2048x128_S256x128_1_0_s_8_1⟩, spos_8_1⟩
abbrev st2 : Rect S2048x128 := ⟨⟨![2, 0], S256x128.size, ![8, 1], inb_S2048x128_S256x128_2_0_s_8_1⟩, spos_8_1⟩
abbrev st3 : Rect S2048x128 := ⟨⟨![3, 0], S256x128.size, ![8, 1], inb_S2048x128_S256x128_3_0_s_8_1⟩, spos_8_1⟩
abbrev st4 : Rect S2048x128 := ⟨⟨![4, 0], S256x128.size, ![8, 1], inb_S2048x128_S256x128_4_0_s_8_1⟩, spos_8_1⟩
abbrev st5 : Rect S2048x128 := ⟨⟨![5, 0], S256x128.size, ![8, 1], inb_S2048x128_S256x128_5_0_s_8_1⟩, spos_8_1⟩
abbrev st6 : Rect S2048x128 := ⟨⟨![6, 0], S256x128.size, ![8, 1], inb_S2048x128_S256x128_6_0_s_8_1⟩, spos_8_1⟩
abbrev st7 : Rect S2048x128 := ⟨⟨![7, 0], S256x128.size, ![8, 1], inb_S2048x128_S256x128_7_0_s_8_1⟩, spos_8_1⟩

/-- The products of a block of rows with the cast weights. -/
def prod (x : Vec F S2048x128 .f32) (s0 s1 : Vec F S1024x256 .bf16) (s2 : Vec F S256x1024 .bf16) : FVec F S256x1024 .f32 :=
  k0_pay9 (View.ld x st0) (View.ld x st1) (View.ld x st2) (View.ld x st3) (View.ld x st4) (View.ld x st5) (View.ld x st6)
    (View.ld x st7) s0 s1 s2

/-- The pieces of the block the body stores, the last store first. -/
def pieces (v : FVec F S256x1024 .f32) : List (View.Piece (Elt F) S2048x128 .f32) :=
  [⟨st7, k0_pay8 v⟩, ⟨st6, k0_pay7 v⟩, ⟨st5, k0_pay6 v⟩, ⟨st4, k0_pay5 v⟩, ⟨st3, k0_pay4 v⟩,
   ⟨st2, extractStridedSlice S256x128 ![0, 256] v slices_S256x1024_o0_256_S256x128⟩,
   ⟨st1, extractStridedSlice S256x128 ![0, 128] v slices_S256x1024_o0_128_S256x128⟩,
   ⟨st0, extractStridedSlice S256x128 ![0, 0] v slices_S256x1024_o0_0_S256x128⟩]

/-- The stored block. -/
def out (x : Vec F S2048x128 .f32) (s0 s1 : Vec F S1024x256 .bf16) (s2 : Vec F S256x1024 .bf16) : Vec F S2048x128 .f32 :=
  View.canon (pieces (prod x s0 s1 s2))

/-- The eight pieces cover the block: row `r` lies in the piece of `r mod 8`. -/
theorem cover (v : FVec F S256x1024 .f32) (y : S2048x128.Idx) : ∃ pc ∈ pieces v, y ∈ pc.1.set := by
  have hy0 : (y 0).val < 2048 := (y 0).isLt
  have hy1 : (y 1).val < 128 := (y 1).isLt
  have key : ∀ (r : Rect S2048x128) (j : ℕ) (hj : (y 0).val % 8 = j) (h0 : r.off = ![j, 0]) (h1 : r.size = S256x128.size)
      (h2 : r.stride = ![8, 1]), y ∈ r.set := by
    intro r j hj h0 h1 h2
    rw [LoadRect.mem_set]
    intro a
    match a with
    | ⟨0, _⟩ =>
      refine ⟨(y 0).val / 8, ?_, ?_⟩
      · rw [h1]; show (y 0).val / 8 < 256; omega
      · rw [h0, h2]; show (y 0).val = j + 8 * ((y 0).val / 8); omega
    | ⟨1, _⟩ =>
      refine ⟨(y 1).val, ?_, ?_⟩
      · rw [h1]; exact hy1
      · rw [h0, h2]; show (y 1).val = 0 + 1 * (y 1).val; omega
  have hm : (y 0).val % 8 < 8 := Nat.mod_lt _ (by omega)
  rcases (by omega : (y 0).val % 8 = 0 ∨ (y 0).val % 8 = 1 ∨ (y 0).val % 8 = 2 ∨ (y 0).val % 8 = 3 ∨ (y 0).val % 8 = 4
    ∨ (y 0).val % 8 = 5 ∨ (y 0).val % 8 = 6 ∨ (y 0).val % 8 = 7) with h | h | h | h | h | h | h | h
  · exact ⟨(pieces v)[7]'(by show 7 < 8; omega), List.getElem_mem _, key st0 _ h rfl rfl rfl⟩
  · exact ⟨(pieces v)[6]'(by show 6 < 8; omega), List.getElem_mem _, key st1 _ h rfl rfl rfl⟩
  · exact ⟨(pieces v)[5]'(by show 5 < 8; omega), List.getElem_mem _, key st2 _ h rfl rfl rfl⟩
  · exact ⟨(pieces v)[4]'(by show 4 < 8; omega), List.getElem_mem _, key st3 _ h rfl rfl rfl⟩
  · exact ⟨(pieces v)[3]'(by show 3 < 8; omega), List.getElem_mem _, key st4 _ h rfl rfl rfl⟩
  · exact ⟨(pieces v)[2]'(by show 2 < 8; omega), List.getElem_mem _, key st5 _ h rfl rfl rfl⟩
  · exact ⟨(pieces v)[1]'(by show 1 < 8; omega), List.getElem_mem _, key st6 _ h rfl rfl rfl⟩
  · exact ⟨(pieces v)[0]'(by show 0 < 8; omega), List.getElem_mem _, key st7 _ h rfl rfl rfl⟩

/-! ## The body's triple -/

/-- The word of the first table at an offset. -/
def rd (te : Vec F S164 .i32) (off : Fin 1 → ℕ) (h : ∀ a, off a + S1.size a ≤ S164.size a) : BitVec 32 :=
  View.ld te (Rect.unit (s := S164) off S1.size h) (Shape.Idx.first (numel1_S1.symm ▸ Nat.one_pos))

/-- Whether the body casts the weights at point `i`: at the first point, and where the expert differs from the point before's. -/
def fresh (te : Vec F S164 .i32) (i : grid0.Coords) : BitVec 1 :=
  Scalar.cmpi .ne (Scalar.extui (Scalar.ori (Scalar.cmpi .eq (BitVec.ofNat 32 (i 0).val) 0#32)
    (Scalar.cmpi .ne (rd te (k0_off1 i) (k0_off1_inb i)) (rd te (k0_off2 i) (k0_off2_inb i)))) : BitVec 32) 0#32

/-- The word of the second table. -/
def rn (nt : Vec F S1 .i32) : BitVec 32 :=
  View.ld nt (Rect.unit (s := S1) ![0] S1.size inb_S1_S1_0) (Shape.Idx.first (numel1_S1.symm ▸ Nat.one_pos))

set_option maxHeartbeats 1000000 in
theorem sound_kernel (c : Dev nD) (E : Set ℕ) (i : grid0.Coords)
    (arg1 : Memref sig .tc .smem S164 .i32) (harg1 : arg1.IsWhole) (arg2 : Memref sig .tc .smem S1 .i32) (harg2 : arg2.IsWhole)
    (arg3 : Memref sig .tc .vmem S2048x128 .f32) (harg3 : arg3.IsWhole) (arg4 : Memref sig .tc .vmem S1x1024x256 .f32) (harg4 : arg4.IsWhole)
    (arg5 : Memref sig .tc .vmem S1x1024x256 .f32) (harg5 : arg5.IsWhole) (arg6 : Memref sig .tc .vmem S1x256x1024 .f32) (harg6 : arg6.IsWhole)
    (arg7 : Memref sig .tc .vmem S2048x128 .f32) (harg7 : arg7.IsWhole) (arg8 : Memref sig .tc .vmem S1024x256 .bf16) (harg8 : arg8.IsWhole)
    (arg9 : Memref sig .tc .vmem S1024x256 .bf16) (harg9 : arg9.IsWhole) (arg10 : Memref sig .tc .vmem S256x1024 .bf16) (harg10 : arg10.IsWhole)
    (q : PosShare TreeShare) (te : Vec F S164 .i32) (nt : Vec F S1 .i32)
    (x : Vec F S2048x128 .f32) (w1 w3 : Vec F S1x1024x256 .f32) (w2 : Vec F S1x256x1024 .f32) (o : Vec F S2048x128 .f32)
    (s0 s1 : Vec F S1024x256 .bf16) (s2 : Vec F S256x1024 .bf16) (K : PUnit → sProp (𝕄 F)) :
    iprop(owns (c : Thread nD τ) arg1 q te ∗ owns (c : Thread nD τ) arg2 q nt
        ∗ owns (c : Thread nD τ) arg3 fullShare x ∗ owns (c : Thread nD τ) arg4 fullShare w1
        ∗ owns (c : Thread nD τ) arg5 fullShare w3 ∗ owns (c : Thread nD τ) arg6 fullShare w2
        ∗ owns (c : Thread nD τ) arg7 fullShare o
        ∗ owns (c : Thread nD τ) arg8 fullShare s0 ∗ owns (c : Thread nD τ) arg9 fullShare s1 ∗ owns (c : Thread nD τ) arg10 fullShare s2
        ∗ (iprop(owns (c : Thread nD τ) arg1 q te ∗ owns (c : Thread nD τ) arg2 q nt
        ∗ owns (c : Thread nD τ) arg3 fullShare x ∗ owns (c : Thread nD τ) arg4 fullShare w1
        ∗ owns (c : Thread nD τ) arg5 fullShare w3 ∗ owns (c : Thread nD τ) arg6 fullShare w2
        ∗ owns (c : Thread nD τ) arg7 fullShare (if k0_cond2 i (rn nt) = 1#1 then
            out x (if fresh te i = 1#1 then k0_pay1 w1 else s0) (if fresh te i = 1#1 then k0_pay2 w3 else s1)
              (if fresh te i = 1#1 then k0_pay3 w2 else s2) else o)
        ∗ owns (c : Thread nD τ) arg8 fullShare (if fresh te i = 1#1 then k0_pay1 w1 else s0)
        ∗ owns (c : Thread nD τ) arg9 fullShare (if fresh te i = 1#1 then k0_pay2 w3 else s1)
        ∗ owns (c : Thread nD τ) arg10 fullShare (if fresh te i = 1#1 then k0_pay3 w2 else s2)) -∗ K ⟨⟩))
      ⊢ wp frame (wpE (defs₀ (F := F)) Variants.none c none) E
        (cc0_moe_experts i arg1 harg1 arg2 harg2 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf1 hf2 hf3 hf4 hf5 hf6 hf7 hf8 hf9 hf10
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    by_cases hc : k0_cond2 i (rn (arg2.view.read (Elt F) f2)) = 1#1
    · rw [if_pos hc]
      refine (congrArg (arg7.view.read (Elt F)) (dif_pos hc)).trans ?_
      refine (View.read_writes_eq_canon _ _ _ (cover _)).trans ?_
      unfold out
      refine congrArg (fun v => View.canon (pieces v)) ?_
      unfold sound_kernel.sl.r_3 sound_kernel.sl.v25 sound_kernel.sl.v27 sound_kernel.sl.v33 prod
      refine congr (congr (congrArg _ ?_) ?_) ?_
      · refine (View.readAt_eq_ld _ _ _).trans ((View.ld_unit_zero (by funext a; fin_cases a <;> rfl) _ _).trans ?_)
        by_cases hd : fresh (arg1.view.read (Elt F) f1) i = 1#1
        · rw [if_pos hd]
          refine (congrArg (arg8.view.read (Elt F)) (dif_pos hd)).trans ?_
          refine (View.read_writes_full _ _ _ _ _).trans ?_
          rw [View.readAt_eq_ld, View.ld_unit_zero (by funext a; fin_cases a <;> rfl)]
        · rw [if_neg hd]
          exact congrArg (arg8.view.read (Elt F)) (dif_neg hd)
      · refine (View.readAt_eq_ld _ _ _).trans ((View.ld_unit_zero (by funext a; fin_cases a <;> rfl) _ _).trans ?_)
        by_cases hd : fresh (arg1.view.read (Elt F) f1) i = 1#1
        · rw [if_pos hd]
          refine (congrArg (arg9.view.read (Elt F)) (dif_pos hd)).trans ?_
          refine (View.read_writes_full _ _ _ _ _).trans ?_
          rw [View.readAt_eq_ld, View.ld_unit_zero (by funext a; fin_cases a <;> rfl)]
        · rw [if_neg hd]
          exact congrArg (arg9.view.read (Elt F)) (dif_neg hd)
      · refine (View.readAt_eq_ld _ _ _).trans ((View.ld_unit_zero (by funext a; fin_cases a <;> rfl) _ _).trans ?_)
        by_cases hd : fresh (arg1.view.read (Elt F) f1) i = 1#1
        · rw [if_pos hd]
          refine (congrArg (arg10.view.read (Elt F)) (dif_pos hd)).trans ?_
          refine (View.read_writes_full _ _ _ _ _).trans ?_
          rw [View.readAt_eq_ld, View.ld_unit_zero (by funext a; fin_cases a <;> rfl)]
        · rw [if_neg hd]
          exact congrArg (arg10.view.read (Elt F)) (dif_neg hd)
    · rw [if_neg hc]
      exact congrArg (arg7.view.read (Elt F)) (dif_neg hc)
  isplitl [H8]
  · iexists _; isplitr
    swap; · iexact H8
    ipureintro
    by_cases hc : fresh (arg1.view.read (Elt F) f1) i = 1#1
    · rw [if_pos hc]
      refine (congrArg (arg8.view.read (Elt F)) (dif_pos hc)).trans ?_
      refine (View.read_writes_full _ _ _ _ _).trans ?_
      rw [View.readAt_eq_ld, View.ld_unit_zero (by funext a; fin_cases a <;> rfl)]
    · rw [if_neg hc]
      exact congrArg (arg8.view.read (Elt F)) (dif_neg hc)
  isplitl [H9]
  · iexists _; isplitr
    swap; · iexact H9
    ipureintro
    by_cases hc : fresh (arg1.view.read (Elt F) f1) i = 1#1
    · rw [if_pos hc]
      refine (congrArg (arg9.view.read (Elt F)) (dif_pos hc)).trans ?_
      refine (View.read_writes_full _ _ _ _ _).trans ?_
      rw [View.readAt_eq_ld, View.ld_unit_zero (by funext a; fin_cases a <;> rfl)]
    · rw [if_neg hc]
      exact congrArg (arg9.view.read (Elt F)) (dif_neg hc)
  · iexists _; isplitr
    swap; · iexact H10
    ipureintro
    by_cases hc : fresh (arg1.view.read (Elt F) f1) i = 1#1
    · rw [if_pos hc]
      refine (congrArg (arg10.view.read (Elt F)) (dif_pos hc)).trans ?_
      refine (View.read_writes_full _ _ _ _ _).trans ?_
      rw [View.readAt_eq_ld, View.ld_unit_zero (by funext a; fin_cases a <;> rfl)]
    · rw [if_neg hc]
      exact congrArg (arg10.view.read (Elt F)) (dif_neg hc)

end Cert.ExpertsIdeal.Hand

end
-- ==== Proof.ExpertsTables.lean ====
module

public import proofs.«01_k».proof.Proof.ExpertsBody
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.TableIdle
public import Idealize.ShloMosaic.Lib.Pipeline.Value
public import Idealize.ShloMosaic.Lib.Pipeline.AliasedRuns
public import Idealize.ShloMosaic.Lib.VecWindow
public import Idealize.ShloMosaic.Lib.Pipeline.ValueKit
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two tables, and the block each window has at a point -/

/-- Entry `i` of the first table: the number of the weights the tile `i` meets. -/
def te (pf : pre0.Contents (Elt F)) (i : Fin 164) : BitVec 32 :=
  (show Vec F S164 .i32 from pf 0) (ValueIdx.ix1 i)

/-- The second table's entry: how many tiles there are. -/
def nt (pf : pre0.Contents (Elt F)) : BitVec 32 :=
  (show Vec F S1 .i32 from pf 1) (ValueIdx.ix1 0)

/-- A number of a grid point as a word's value. -/
theorem toNat_ofNat (n : ℕ) (h : n < 164) : (BitVec.ofNat 32 n).toNat = n := by
  rw [BitVec.toNat_ofNat]; omega

/-- A table of one entry has one index. -/
theorem S1_eq (x y : S1.Idx) : x = y := funext fun a => by
  match a with
  | ⟨0, _⟩ => exact Subsingleton.elim (α := Fin 1) (x 0) (y 0)

theorem at_one (pf : pre0.Contents (Elt F)) (h) (h' : S1.numel = 1) :
    pf.at 1 (Rect.unit (s := S1) ![0] S1.size h) h' = nt pf := by
  exact congrArg (pf 1) (S1_eq _ _)

theorem atD_one (pf : pre0.Contents (Elt F)) : pf.atD 1 ![0] = nt pf := by
  refine (dif_pos (fun a => ?_)).trans ?_
  · match a with
    | ⟨0, _⟩ => exact Nat.le_refl 1
  · exact congrArg (pf 1) (S1_eq _ _)

theorem rn_eq (pf : pre0.Contents (Elt F)) : rn (F := F) (pf 1) = nt pf :=
  congrArg (pf 1) (S1_eq _ _)

theorem at_zero (pf : pre0.Contents (Elt F)) (n : ℕ) (hn : n < 164) (off : Fin 1 → ℕ) (ho : off 0 = n) (h) (h' : S1.numel = 1) :
    pf.at 0 (Rect.unit (s := S164) off S1.size h) h' = te pf ⟨n, hn⟩ := by
  refine congrArg (pf 0) (funext fun a => Fin.ext ?_)
  match a with
  | ⟨0, _⟩ => exact (Nat.add_comm _ _).trans (by simpa using ho)

theorem rd_eq (pf : pre0.Contents (Elt F)) (n : ℕ) (hn : n < 164) (off : Fin 1 → ℕ) (ho : off 0 = n) (h) :
    rd (F := F) (pf 0) off h = te pf ⟨n, hn⟩ := at_zero pf n hn off ho h numel1_S1

theorem off1_zero (i : grid0.Coords) : k0_off1 i 0 = (i 0).val := toNat_ofNat _ (i 0).isLt

theorem off2_zero (i : grid0.Coords) : k0_off2 i 0 = (i 0).val - 1 := by
  have hi : (i 0).val < 164 := (i 0).isLt
  show (Scalar.indexCast (Scalar.maxsi (Scalar.subi (BitVec.ofNat 32 (i 0).val) 1#32) 0#32)).toNat = _
  have key : ∀ n : Fin 164, (Scalar.indexCast (Scalar.maxsi (Scalar.subi (BitVec.ofNat 32 n.val) 1#32) 0#32)).toNat = n.val - 1 := by
    decide +kernel
  exact key (i 0)

/-- The smaller of a point and the last tile. -/
theorem clamp (n : ℕ) (hn : n < 164) (w : BitVec 32) (h1 : 1 ≤ w.toNat) (h2 : w.toNat < 2 ^ 31) :
    (Scalar.minsi (BitVec.ofNat 32 n) (Scalar.subi w 1#32)).toNat = min n (w.toNat - 1) := by
  have e1 : (w - 1#32).toNat = w.toNat - 1 := by
    rw [BitVec.toNat_sub]; simp; omega
  have e2 := toNat_ofNat n hn
  have l1 : (BitVec.ofNat 32 n).toInt = n := by rw [BitVec.toInt_eq_toNat_of_lt (by omega), e2]
  have l2 : (w - 1#32).toInt = ((w.toNat - 1 : ℕ) : ℤ) := by rw [BitVec.toInt_eq_toNat_of_lt (by omega), e1]
  show (if (BitVec.ofNat 32 n).slt (w - 1#32) then BitVec.ofNat 32 n else w - 1#32).toNat = _
  rw [BitVec.slt_eq_decide, l1, l2]
  by_cases h : n < w.toNat - 1
  · rw [if_pos (decide_eq_true (by exact_mod_cast h)), e2]; omega
  · rw [if_neg (by rw [decide_eq_true_eq]; exact_mod_cast h), e1]; omega

/-- What the tables are asked: every number within the weights, and at least one tile. -/
structure Tables (pf : pre0.Contents (Elt F)) : Prop where
  te_lt : ∀ i, (te pf i).toNat < 64
  one_le : 1 ≤ (nt pf).toNat
  nt_lt : (nt pf).toNat < 2 ^ 31

variable {pf : pre0.Contents (Elt F)}

theorem ix_zero (h : Tables pf) (i : grid0.Coords) :
    cc0_transform_0 inb_S1_S1_0 numel1_S1 pf i = ![min (i 0).val ((nt pf).toNat - 1), 0] := by
  unfold cc0_transform_0
  dsimp only
  rw [at_one, clamp _ (i 0).isLt _ h.one_le h.nt_lt]; rfl

theorem ix_four (h : Tables pf) (i : grid0.Coords) :
    cc0_transform_4 inb_S1_S1_0 numel1_S1 pf i = ![min (i 0).val ((nt pf).toNat - 1), 0] := by
  unfold cc0_transform_4
  dsimp only
  rw [at_one, clamp _ (i 0).isLt _ h.one_le h.nt_lt]; rfl

theorem ix_one (pf : pre0.Contents (Elt F)) (i : grid0.Coords) :
    cc0_transform_1 k0_off1_inb numel1_S1 pf i = ![(te pf (i 0)).toNat, 0, 0] := by
  exact congrArg (fun w : BitVec 32 => ![w.toNat, 0, 0]) (at_zero pf (i 0).val (i 0).isLt _ (off1_zero i) _ _)

theorem ix_two (pf : pre0.Contents (Elt F)) (i : grid0.Coords) :
    cc0_transform_2 k0_off1_inb numel1_S1 pf i = ![(te pf (i 0)).toNat, 0, 0] := by
  exact congrArg (fun w : BitVec 32 => ![w.toNat, 0, 0]) (at_zero pf (i 0).val (i 0).isLt _ (off1_zero i) _ _)

theorem ix_three (pf : pre0.Contents (Elt F)) (i : grid0.Coords) :
    cc0_transform_3 k0_off1_inb numel1_S1 pf i = ![(te pf (i 0)).toNat, 0, 0] := by
  exact congrArg (fun w : BitVec 32 => ![w.toNat, 0, 0]) (at_zero pf (i 0).val (i 0).isLt _ (off1_zero i) _ _)

/-- The coordinate of a point of the grid is its number. -/
theorem coords_zero (t : Fin grid0.N) : ((grid0.coords t) 0).val = t.val := by
  have hN : grid0.N = 164 := N_0
  have ht := t.isLt
  rw [Pipeline.Grid.coords_val t 0 (S := 1) (B := 164) (by decide) rfl]; omega

/-- Tables so asked are admissible. -/
theorem ok (h : Tables pf) : ok0 pf := by
  have hw : ∀ i : Fin 164, (te pf i).toNat < 64 := h.te_lt
  unfold ok0
  refine ⟨fun i => ?_, fun i => ?_, fun i => ?_, fun i => ?_, fun i => ?_, ?_⟩
  · rw [ix_zero h]
    refine ⟨fun a => ?_, .inl rfl⟩
    have hi : (i 0).val < 164 := (i 0).isLt
    match a with
    | ⟨0, _⟩ => show (min (i 0).val ((nt pf).toNat - 1) + 1) * 2048 ≤ 335872; omega
    | ⟨1, _⟩ => show (0 + 1) * 128 ≤ 128; omega
  · rw [ix_one]
    refine ⟨fun a => ?_, .inl rfl⟩
    have := hw (i 0)
    match a with
    | ⟨0, _⟩ => show ((te pf (i 0)).toNat + 1) * 1 ≤ 64; omega
    | ⟨1, _⟩ => show (0 + 1) * 1024 ≤ 1024; omega
    | ⟨2, _⟩ => show (0 + 1) * 256 ≤ 256; omega
  · rw [ix_two]
    refine ⟨fun a => ?_, .inl rfl⟩
    have := hw (i 0)
    match a with
    | ⟨0, _⟩ => show ((te pf (i 0)).toNat + 1) * 1 ≤ 64; omega
    | ⟨1, _⟩ => show (0 + 1) * 1024 ≤ 1024; omega
    | ⟨2, _⟩ => show (0 + 1) * 256 ≤ 256; omega
  · rw [ix_three]
    refine ⟨fun a => ?_, .inl rfl⟩
    have := hw (i 0)
    match a with
    | ⟨0, _⟩ => show ((te pf (i 0)).toNat + 1) * 1 ≤ 64; omega
    | ⟨1, _⟩ => show (0 + 1) * 256 ≤ 256; omega
    | ⟨2, _⟩ => show (0 + 1) * 1024 ≤ 1024; omega
  · rw [ix_four h]
    refine ⟨fun a => ?_, .inl rfl⟩
    have hi : (i 0).val < 164 := (i 0).isLt
    match a with
    | ⟨0, _⟩ => show (min (i 0).val ((nt pf).toNat - 1) + 1) * 2048 ≤ 335872; omega
    | ⟨1, _⟩ => show (0 + 1) * 128 ≤ 128; omega
  · refine ⟨rfl, rfl, rfl, ?_, ?_, ?_⟩
    · intro a a' haa
      match a, a', haa with
      | ⟨0, _⟩, ⟨0, _⟩, _ => rfl
      | ⟨1, _⟩, ⟨1, _⟩, _ => rfl
    · intro i a a' haa
      show cc0_transform_0 inb_S1_S1_0 numel1_S1 pf i a = cc0_transform_4 inb_S1_S1_0 numel1_S1 pf i a'
      rw [ix_zero h, ix_four h]
      match a, a', haa with
      | ⟨0, _⟩, ⟨0, _⟩, _ => rfl
      | ⟨1, _⟩, ⟨1, _⟩, _ => rfl
    · intro u u' hlt _ hfl heq
      have heq' : cc0_transform_4 inb_S1_S1_0 numel1_S1 pf (grid0.coords u') = cc0_transform_4 inb_S1_S1_0 numel1_S1 pf (grid0.coords u) := heq
      rw [ix_four h, ix_four h, coords_zero, coords_zero] at heq'
      have h0 : min u'.val ((nt pf).toNat - 1) = min u.val ((nt pf).toNat - 1) := congrFun heq' 0
      have hN : grid0.N = 164 := N_0
      have hu := u.isLt
      simp only [Pipeline.WinSpec.flushAt, Bool.and_eq_true, Bool.or_eq_true, decide_eq_true_eq] at hfl
      rcases hfl.2 with hl | ⟨hl, hne⟩
      · omega
      · apply hne
        show cc0_transform_4 inb_S1_S1_0 numel1_S1 pf (grid0.coords ⟨u'.val + 1, hl⟩) = cc0_transform_4 inb_S1_S1_0 numel1_S1 pf (grid0.coords u')
        rw [ix_four h, ix_four h, coords_zero, coords_zero]
        have : min (u'.val + 1) ((nt pf).toNat - 1) = min u'.val ((nt pf).toNat - 1) := by omega
        show ![min (u'.val + 1) ((nt pf).toNat - 1), 0] = _
        rw [this]

end Cert.ExpertsIdeal.Hand

end
-- ==== Proof.ExpertsRun.lean ====
module

public import proofs.«01_k».proof.Proof.ExpertsBody
public import proofs.«01_k».proof.Proof.ExpertsTables
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.TableIdle
public import Idealize.ShloMosaic.Lib.Pipeline.Value
public import Idealize.ShloMosaic.Lib.Pipeline.AliasedRuns
public import Idealize.ShloMosaic.Lib.VecWindow
public import Idealize.ShloMosaic.Lib.Pipeline.ValueKit
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (a : (pcfg0 (F := F)).Adm) (V : (c : Dev nD) → (b : Ref sig .tc) → Buf (Elt F) ((c : Thread nD τ).loc b))

/-! ## The blocks the body reads, and what it leaves -/

/-- What window `w` stages at point `t`, of the arrays as the region finds them. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- Tile `t`'s rows after the experts. -/
def outAt (c : Dev nD) (t : Fin (cfg0 a).N) : Vec F S2048x128 .f32 :=
  out (iblk a V c 0 t) (k0_pay1 (iblk a V c 1 t)) (k0_pay2 (iblk a V c 2 t)) (k0_pay3 (iblk a V c 3 t))

/-- The tile point `t` works for: its own, or the last one past it. -/
def tileOf (t : Fin (cfg0 a).N) : Fin (cfg0 a).N := ⟨min t.val ((nt a.1).toNat - 1), Nat.lt_of_le_of_lt (Nat.min_le_left _ _) t.isLt⟩

/-- The point before. -/
def pred (t : Fin ((cfg0 a).N + 1)) (h : t.val ≠ 0) : Fin (cfg0 a).N := ⟨t.val - 1, by have := t.isLt; omega⟩

/-- The cast weights the point before left in the scratch buffers. -/
def Kept (c : Dev nD) (t : Fin ((cfg0 a).N + 1)) (s0 s1 : Vec F S1024x256 .bf16) (s2 : Vec F S256x1024 .bf16) : Prop :=
  ∀ h : t.val ≠ 0, s0 = k0_pay1 (iblk a V c 1 (pred a t h)) ∧ s1 = k0_pay2 (iblk a V c 2 (pred a t h))
    ∧ s2 = k0_pay3 (iblk a V c 3 (pred a t h))

/-- The proof data of the call on core `c`. -/
def dats (_ : Fin 1) (c : Dev nD) : Dat τ (Elt F) Unit ℕ (UR sig nD τ) ℕ (cfg0 a) c where
  A w := V c (Pipeline.arrRef spec0 w)
  after w t := match w with
    | ⟨0, _⟩ => iblk a V c 0 t
    | ⟨1, _⟩ => iblk a V c 1 t
    | ⟨2, _⟩ => iblk a V c 2 t
    | ⟨3, _⟩ => iblk a V c 3 t
    | ⟨4, _⟩ => outAt a V c (tileOf a t)
  Φ t := iprop((∃ s0 s1 s2, ⌜Kept a V c t s0 s1 s2⌝
      ∗ owns (c : Thread nD τ) (Memref.whole cc0_scratch0) fullShare s0
      ∗ owns (c : Thread nD τ) (Memref.whole cc0_scratch1) fullShare s1
      ∗ owns (c : Thread nD τ) (Memref.whole cc0_scratch2) fullShare s2)
    ∗ (∃ r, prngReg c r)
    ∗ owns (c : Thread nD τ) (Memref.whole main_v33) fullShare.right (a.1 0)
    ∗ owns (c : Thread nD τ) (Memref.whole main_v27) fullShare.right (a.1 1))
  q _ := fullShare
  owed _ := 0

theorem A_eq (c : Dev nD) (w : Fin (cfg0 a).W) : (dats a V 0 c).A w = V c (Pipeline.arrRef spec0 w) := by dsimp only [dats]

theorem after0_0 (c : Dev nD) (t : Fin (cfg0 a).N) : (dats a V 0 c).after 0 t = iblk a V c 0 t := by dsimp only [dats]; rfl
theorem after0_1 (c : Dev nD) (t : Fin (cfg0 a).N) : (dats a V 0 c).after 1 t = iblk a V c 1 t := by dsimp only [dats]; rfl
theorem after0_2 (c : Dev nD) (t : Fin (cfg0 a).N) : (dats a V 0 c).after 2 t = iblk a V c 2 t := by dsimp only [dats]; rfl
theorem after0_3 (c : Dev nD) (t : Fin (cfg0 a).N) : (dats a V 0 c).after 3 t = iblk a V c 3 t := by dsimp only [dats]; rfl
theorem after0_4 (c : Dev nD) (t : Fin (cfg0 a).N) : (dats a V 0 c).after 4 t = outAt a V c (tileOf a t) := by dsimp only [dats]; rfl

theorem before0_0 (c : Dev nD) (t : Fin (cfg0 a).N) (d) : (dats a V 0 c).before 0 t d = iblk a V c 0 t :=
  ((dats a V 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 a).N) (d) : (dats a V 0 c).before 1 t d = iblk a V c 1 t :=
  ((dats a V 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 a).N) (d) : (dats a V 0 c).before 2 t d = iblk a V c 2 t :=
  ((dats a V 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 a).N) (d) : (dats a V 0 c).before 3 t d = iblk a V c 3 t :=
  ((dats a V 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## Which points store -/

theorem cond2_iff (h : Tables a.1) (t : Fin grid0.N) : k0_cond2 (grid0.coords t) (nt a.1) = 1#1 ↔ t.val < (nt a.1).toNat := by
  have hN : grid0.N = 164 := N_0
  have ht := t.isLt
  have e0 := coords_zero t
  have e2 := toNat_ofNat t.val (by omega)
  have l1 : (BitVec.ofNat 32 t.val).toInt = t.val := by rw [BitVec.toInt_eq_toNat_of_lt (by omega), e2]
  have l2 : (nt a.1).toInt = ((nt a.1).toNat : ℤ) := BitVec.toInt_eq_toNat_of_lt (by have := h.nt_lt; omega)
  have key : ∀ p : BitVec 1, Scalar.cmpi .ne (Scalar.extui p : BitVec 32) 0#32 = 1#1 ↔ p = 1#1 := by decide +kernel
  unfold k0_cond2
  dsimp only
  rw [key, e0]
  show BitVec.ofBool ((BitVec.ofNat 32 t.val).slt (nt a.1)) = 1#1 ↔ _
  rw [BitVec.slt_eq_decide, l1, l2]
  by_cases hlt : t.val < (nt a.1).toNat
  · rw [decide_eq_true (by exact_mod_cast hlt)]; exact ⟨fun _ => hlt, fun _ => rfl⟩
  · rw [decide_eq_false (by exact_mod_cast hlt)]; exact ⟨fun h0 => absurd h0 (by decide), fun h0 => absurd h0 hlt⟩

theorem idle4 (h : Tables a.1) (t : Fin (cfg0 a).N) : (cfg0 a).idle 4 ((cfg0 a).grid.coords t) = !decide (t.val < (nt a.1).toNat) := by
  show (!(k0_cond2 (grid0.coords t) (a.1.atD 1 ![0]) == 1#1)) = _
  rw [atD_one]
  by_cases hlt : t.val < (nt a.1).toNat
  · rw [(cond2_iff a h t).2 hlt, decide_eq_true hlt]; rfl
  · rw [decide_eq_false hlt, beq_eq_false_iff_ne.2 fun e => hlt ((cond2_iff a h t).1 e)]

theorem index4 (h : Tables a.1) (t : Fin (cfg0 a).N) : ((cfg0 a).win 4).index t = ![min t.val ((nt a.1).toNat - 1), 0] := by
  show cc0_transform_4 inb_S1_S1_0 numel1_S1 a.1 (grid0.coords t) = _
  rw [ix_four h, coords_zero]

theorem flush4 (h : Tables a.1) (t : Fin (cfg0 a).N) : ((cfg0 a).win 4).flush t = decide (t.val + 1 < (nt a.1).toNat ∨ t.val + 1 = 164) := by
  have hN : (cfg0 a).grid.N = 164 := N_0
  have hN' : ((pcfg0 (F := F)).gridAt a.1).N = 164 := N_0
  have hN2 : (cfg0 a).N = 164 := N_0
  have h1 := h.one_le
  rw [Bool.eq_iff_iff]
  simp only [Window.flush, Bool.and_eq_true, Bool.or_eq_true, decide_eq_true_eq]
  constructor
  · rintro ⟨-, e | ⟨hl, hne⟩⟩
    · right; omega
    · left
      by_contra hc
      apply hne
      rw [index4 a h, index4 a h]
      have : min (t.val + 1) ((nt a.1).toNat - 1) = min t.val ((nt a.1).toNat - 1) := by omega
      show ![min (t.val + 1) ((nt a.1).toNat - 1), 0] = _
      rw [this]
  · rintro hl
    refine ⟨rfl, ?_⟩
    by_cases h164 : t.val + 1 = 164
    · left; omega
    · right
      have ht := t.isLt
      refine ⟨by omega, fun e => ?_⟩
      rw [index4 a h, index4 a h] at e
      have e0 : min (t.val + 1) ((nt a.1).toNat - 1) = min t.val ((nt a.1).toNat - 1) := congrFun e 0
      omega

theorem fresh4 (h : Tables a.1) (t : Fin (cfg0 a).N) : (cfg0 a).fresh 4 t.val = decide (t.val < (nt a.1).toNat) := by
  have hN : (cfg0 a).N = 164 := N_0
  have ht := t.isLt
  refine ((cfg0 a).fresh_tab 4 (fun n => decide (n < (nt a.1).toNat ∨ n = 164)) (decide_eq_true (.inl h.one_le)) (fun s => ?_) t.val ht.le).trans ?_
  · have hs := s.isLt
    rw [flush4 a h, idle4 a h, Bool.eq_iff_iff]
    simp only [Bool.or_eq_true, Bool.and_eq_true, decide_eq_true_eq, Bool.not_eq_true', decide_eq_false_iff_not]
    omega
  · rw [Bool.eq_iff_iff, decide_eq_true_eq, decide_eq_true_eq]; omega

/-- What the body finds in the output's buffer. -/
theorem before0_4 (h : Tables a.1) (c : Dev nD) (t : Fin (cfg0 a).N) (d) :
    (dats a V 0 c).before 4 t d = if t.val < (nt a.1).toNat then d else outAt a V c (tileOf a t) := by
  have key : ∀ s : Fin (cfg0 a).N, s.val ≠ 0 → ¬ s.val < (nt a.1).toNat →
      outAt a V c (tileOf a s) = outAt a V c (tileOf a ⟨s.val - 1, by omega⟩) := fun s h0 hs => by
    refine congrArg (outAt a V c) (Fin.ext ?_)
    show min s.val ((nt a.1).toNat - 1) = min (s.val - 1) ((nt a.1).toNat - 1)
    omega
  refine ((dats a V 0 c).before_out_traj 4 rfl (fun _ _ => rfl) (fun s h0 _ hf => ?_) t.val t rfl d).trans ?_
  · rw [fresh4 a h, decide_eq_false_iff_not] at hf
    rw [after0_4, after0_4]; exact key s h0 hf
  · rw [fresh4 a h]
    by_cases hlt : t.val < (nt a.1).toNat
    · exact (if_pos (decide_eq_true hlt)).trans (if_pos hlt).symm
    · refine (if_neg (by rw [decide_eq_false hlt]; exact Bool.false_ne_true)).trans ((after0_4 a V c _).trans (Eq.trans ?_ (if_neg hlt).symm))
      exact (key t (fun h0 => hlt (by rw [h0]; exact h.one_le)) hlt).symm

end Cert.ExpertsIdeal.Hand

end
-- ==== Proof.ExpertsFrame.lean ====
module

public import proofs.«01_k».proof.Proof.ExpertsBody
public import proofs.«01_k».proof.Proof.ExpertsTables
public import proofs.«01_k».proof.Proof.ExpertsRun
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.TableIdle
public import Idealize.ShloMosaic.Lib.Pipeline.Value
public import Idealize.ShloMosaic.Lib.Pipeline.AliasedRuns
public import Idealize.ShloMosaic.Lib.VecWindow
public import Idealize.ShloMosaic.Lib.Pipeline.ValueKit
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (a : (pcfg0 (F := F)).Adm) (V : (c : Dev nD) → (b : Ref sig .tc) → Buf (Elt F) ((c : Thread nD τ).loc b))

/-! ## When the cast weights are already those of the point -/

theorem fresh_of (te : Vec F S164 .i32) (i : grid0.Coords) (h : ¬ fresh te i = 1#1) :
    (i 0).val ≠ 0 ∧ rd te (k0_off1 i) (k0_off1_inb i) = rd te (k0_off2 i) (k0_off2_inb i) := by
  have key : ∀ p q : BitVec 1, Scalar.cmpi .ne (Scalar.extui (Scalar.ori p q) : BitVec 32) 0#32 = 1#1 ↔ p = 1#1 ∨ q = 1#1 := by
    decide +kernel
  unfold fresh at h
  rw [key, not_or] at h
  refine ⟨fun e => h.1 (by rw [e]; rfl), ?_⟩
  by_contra hne
  apply h.2
  show BitVec.ofBool (_ != _) = 1#1
  rw [bne_iff_ne.2 hne]; rfl

theorem iblk_one (h : Tables a.1) (c : Dev nD) (t : Fin (cfg0 a).N) (y : S1x1024x256.Idx) : iblk a V c 1 t y =
    (show Vec F S64x1024x256 .f32 from V c main_v34) (ValueIdx.ix3 ⟨(te a.1 ((grid0.coords t) 0)).toNat, h.te_lt _⟩ (y 1) (y 2)) := by
  have hi : cc0_transform_1 k0_off1_inb numel1_S1 a.1 (grid0.coords t) = ![(te a.1 ((grid0.coords t) 0)).toNat, 0, 0] := ix_one a.1 _
  have h0 : (y 0).val < 1 := (y 0).isLt
  refine congrArg (show Vec F S64x1024x256 .f32 from V c main_v34) (funext fun d => Fin.ext ?_)
  match d with
  | ⟨0, _⟩ =>
    show cc0_transform_1 k0_off1_inb numel1_S1 a.1 (grid0.coords t) 0 * 1 + 1 * (y 0).val = (te a.1 ((grid0.coords t) 0)).toNat
    rw [hi]
    show (te a.1 ((grid0.coords t) 0)).toNat * 1 + 1 * (y 0).val = _
    omega
  | ⟨1, _⟩ =>
    show cc0_transform_1 k0_off1_inb numel1_S1 a.1 (grid0.coords t) 1 * 1024 + 1 * (y 1).val = (y 1).val
    rw [hi]
    show 0 * 1024 + 1 * (y 1).val = _
    omega
  | ⟨2, _⟩ =>
    show cc0_transform_1 k0_off1_inb numel1_S1 a.1 (grid0.coords t) 2 * 256 + 1 * (y 2).val = (y 2).val
    rw [hi]
    show 0 * 256 + 1 * (y 2).val = _
    omega

theorem iblk_two (h : Tables a.1) (c : Dev nD) (t : Fin (cfg0 a).N) (y : S1x1024x256.Idx) : iblk a V c 2 t y =
    (show Vec F S64x1024x256 .f32 from V c main_v35) (ValueIdx.ix3 ⟨(te a.1 ((grid0.coords t) 0)).toNat, h.te_lt _⟩ (y 1) (y 2)) := by
  have hi : cc0_transform_2 k0_off1_inb numel1_S1 a.1 (grid0.coords t) = ![(te a.1 ((grid0.coords t) 0)).toNat, 0, 0] := ix_two a.1 _
  have h0 : (y 0).val < 1 := (y 0).isLt
  refine congrArg (show Vec F S64x1024x256 .f32 from V c main_v35) (funext fun d => Fin.ext ?_)
  match d with
  | ⟨0, _⟩ =>
    show cc0_transform_2 k0_off1_inb numel1_S1 a.1 (grid0.coords t) 0 * 1 + 1 * (y 0).val = (te a.1 ((grid0.coords t) 0)).toNat
    rw [hi]
    show (te a.1 ((grid0.coords t) 0)).toNat * 1 + 1 * (y 0).val = _
    omega
  | ⟨1, _⟩ =>
    show cc0_transform_2 k0_off1_inb numel1_S1 a.1 (grid0.coords t) 1 * 1024 + 1 * (y 1).val = (y 1).val
    rw [hi]
    show 0 * 1024 + 1 * (y 1).val = _
    omega
  | ⟨2, _⟩ =>
    show cc0_transform_2 k0_off1_inb numel1_S1 a.1 (grid0.coords t) 2 * 256 + 1 * (y 2).val = (y 2).val
    rw [hi]
    show 0 * 256 + 1 * (y 2).val = _
    omega

theorem iblk_three (h : Tables a.1) (c : Dev nD) (t : Fin (cfg0 a).N) (y : S1x256x1024.Idx) : iblk a V c 3 t y =
    (show Vec F S64x256x1024 .f32 from V c main_v36) (ValueIdx.ix3 ⟨(te a.1 ((grid0.coords t) 0)).toNat, h.te_lt _⟩ (y 1) (y 2)) := by
  have hi : cc0_transform_3 k0_off1_inb numel1_S1 a.1 (grid0.coords t) = ![(te a.1 ((grid0.coords t) 0)).toNat, 0, 0] := ix_three a.1 _
  have h0 : (y 0).val < 1 := (y 0).isLt
  refine congrArg (show Vec F S64x256x1024 .f32 from V c main_v36) (funext fun d => Fin.ext ?_)
  match d with
  | ⟨0, _⟩ =>
    show cc0_transform_3 k0_off1_inb numel1_S1 a.1 (grid0.coords t) 0 * 1 + 1 * (y 0).val = (te a.1 ((grid0.coords t) 0)).toNat
    rw [hi]
    show (te a.1 ((grid0.coords t) 0)).toNat * 1 + 1 * (y 0).val = _
    omega
  | ⟨1, _⟩ =>
    show cc0_transform_3 k0_off1_inb numel1_S1 a.1 (grid0.coords t) 1 * 256 + 1 * (y 1).val = (y 1).val
    rw [hi]
    show 0 * 256 + 1 * (y 1).val = _
    omega
  | ⟨2, _⟩ =>
    show cc0_transform_3 k0_off1_inb numel1_S1 a.1 (grid0.coords t) 2 * 1024 + 1 * (y 2).val = (y 2).val
    rw [hi]
    show 0 * 1024 + 1 * (y 2).val = _
    omega

/-- Not fresh, the point is not the first and the weights are the point before's. -/
theorem same_blocks (ha : Tables a.1) (c : Dev nD) (t : Fin (cfg0 a).N) (h : ¬ fresh (F := F) (a.1 0) (grid0.coords t) = 1#1) :
    ∃ h0 : t.castSucc.val ≠ 0, iblk a V c 1 t = iblk a V c 1 (pred a t.castSucc h0) ∧ iblk a V c 2 t = iblk a V c 2 (pred a t.castSucc h0)
      ∧ iblk a V c 3 t = iblk a V c 3 (pred a t.castSucc h0) := by
  have hN2 : (cfg0 a).N = 164 := N_0
  have ht := t.isLt
  obtain ⟨h0, he⟩ := fresh_of _ _ h
  have hc := coords_zero t
  have h0' : t.val ≠ 0 := fun e => h0 (hc.trans e)
  have hc' := coords_zero (pred a t.castSucc h0')
  rw [rd_eq a.1 t.val (by omega) _ ((off1_zero _).trans hc), rd_eq a.1 (t.val - 1) (by omega) _ ((off2_zero _).trans (by rw [hc]))] at he
  have e1 : (grid0.coords t) 0 = ⟨t.val, by omega⟩ := Fin.ext hc
  have e2 : (grid0.coords (pred a t.castSucc h0')) 0 = ⟨t.val - 1, by omega⟩ := Fin.ext hc'
  have E : te a.1 ((grid0.coords t) 0) = te a.1 ((grid0.coords (pred a t.castSucc h0')) 0) :=
    (congrArg (te a.1) e1).trans (he.trans (congrArg (te a.1) e2).symm)
  have E' : (⟨(te a.1 ((grid0.coords t) 0)).toNat, ha.te_lt _⟩ : Fin 64)
      = ⟨(te a.1 ((grid0.coords (pred a t.castSucc h0')) 0)).toNat, ha.te_lt _⟩ := Fin.ext (congrArg BitVec.toNat E)
  refine ⟨h0', funext fun y => ?_, funext fun y => ?_, funext fun y => ?_⟩
  · refine (iblk_one a V ha c t y).trans (Eq.trans ?_ (iblk_one a V ha c _ y).symm)
    exact congrArg (fun e : Fin 64 => (show Vec F S64x1024x256 .f32 from V c main_v34) (ValueIdx.ix3 e ((show S1x1024x256.Idx from y) 1) ((show S1x1024x256.Idx from y) 2))) E'
  · refine (iblk_two a V ha c t y).trans (Eq.trans ?_ (iblk_two a V ha c _ y).symm)
    exact congrArg (fun e : Fin 64 => (show Vec F S64x1024x256 .f32 from V c main_v35) (ValueIdx.ix3 e ((show S1x1024x256.Idx from y) 1) ((show S1x1024x256.Idx from y) 2))) E'
  · refine (iblk_three a V ha c t y).trans (Eq.trans ?_ (iblk_three a V ha c _ y).symm)
    exact congrArg (fun e : Fin 64 => (show Vec F S64x256x1024 .f32 from V c main_v36) (ValueIdx.ix3 e ((show S1x256x1024.Idx from y) 1) ((show S1x256x1024.Idx from y) 2))) E'

/-- So after the body the scratch buffers hold the point's weights, cast. -/
theorem kept_next (ha : Tables a.1) (c : Dev nD) (t : Fin (cfg0 a).N) (s0 s1 : Vec F S1024x256 .bf16) (s2 : Vec F S256x1024 .bf16)
    (hk : Kept a V c t.castSucc s0 s1 s2) :
    (if fresh (F := F) (a.1 0) (grid0.coords t) = 1#1 then k0_pay1 (iblk a V c 1 t) else s0) = k0_pay1 (iblk a V c 1 t)
    ∧ (if fresh (F := F) (a.1 0) (grid0.coords t) = 1#1 then k0_pay2 (iblk a V c 2 t) else s1) = k0_pay2 (iblk a V c 2 t)
    ∧ (if fresh (F := F) (a.1 0) (grid0.coords t) = 1#1 then k0_pay3 (iblk a V c 3 t) else s2) = k0_pay3 (iblk a V c 3 t) := by
  by_cases h : fresh (F := F) (a.1 0) (grid0.coords t) = 1#1
  · exact ⟨if_pos h, if_pos h, if_pos h⟩
  · obtain ⟨h0, e1, e2, e3⟩ := same_blocks a V ha c t h
    obtain ⟨k1, k2, k3⟩ := hk h0
    exact ⟨(if_neg h).trans (k1.trans (congrArg k0_pay1 e1.symm)), (if_neg h).trans (k2.trans (congrArg k0_pay2 e2.symm)),
      (if_neg h).trans (k3.trans (congrArg k0_pay3 e3.symm))⟩

/-! ## The body obligation -/

abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)
abbrev st0_4 (t : Fin (cfg0 a).N) := ((cfg0 a).win 4).stage ((cfg0 a).slots t 4)

/-- The body at point `t`. -/
abbrev bodyAt0 (t : Fin (cfg0 a).N) : Prog (TpuEff nD τ sig (Elt F) Λ₀ .tc) PUnit :=
  cc0_moe_experts (grid0.coords t) (Memref.whole main_v33) (Memref.isWhole_whole _) (Memref.whole main_v27) (Memref.isWhole_whole _) ((spec0_0).stage ((cfg0 a).slots t 0)) (hstage0_0 (((cfg0 a).slots t 0).cast nbuf0_0)) ((spec0_1).stage ((cfg0 a).slots t 1)) (hstage0_1 (((cfg0 a).slots t 1).cast nbuf0_1)) ((spec0_2).stage ((cfg0 a).slots t 2)) (hstage0_2 (((cfg0 a).slots t 2).cast nbuf0_2)) ((spec0_3).stage ((cfg0 a).slots t 3)) (hstage0_3 (((cfg0 a).slots t 3).cast nbuf0_3)) ((spec0_4).stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

def bodyPre (c : Dev nD) (t : Fin (cfg0 a).N) : sProp (𝕄 F) :=
  iprop((dats a V 0 c).Φ t.castSucc ∗ (dats a V 0 c).owesAt () t.castSucc
    ∗ (∃ d, owns (c : Thread nD τ) (st0_0 a t) fullShare ((dats a V 0 c).before 0 t d))
    ∗ (∃ d, owns (c : Thread nD τ) (st0_1 a t) fullShare ((dats a V 0 c).before 1 t d))
    ∗ (∃ d, owns (c : Thread nD τ) (st0_2 a t) fullShare ((dats a V 0 c).before 2 t d))
    ∗ (∃ d, owns (c : Thread nD τ) (st0_3 a t) fullShare ((dats a V 0 c).before 3 t d))
    ∗ (∃ d, owns (c : Thread nD τ) (st0_4 a t) fullShare ((dats a V 0 c).before 4 t d)))

/-- What the obligation asks of the output's buffer. -/
def outPost (c : Dev nD) (t : Fin (cfg0 a).N) : sProp (𝕄 F) :=
  match (cfg0 a).idle 4 ((cfg0 a).grid.coords t) with
  | true =>
    match ((cfg0 a).win 4).flush t with
    | false => iprop(∃ d, owns (c : Thread nD τ) (st0_4 a t) fullShare ((dats a V 0 c).before 4 t d))
    | true => owns (c : Thread nD τ) (st0_4 a t) fullShare ((dats a V 0 c).after 4 t)
  | false => owns (c : Thread nD τ) (st0_4 a t) fullShare ((dats a V 0 c).after 4 t)

def bodyPost (c : Dev nD) (t : Fin (cfg0 a).N) : sProp (𝕄 F) :=
  iprop((dats a V 0 c).Φ t.succ ∗ (dats a V 0 c).owesAt () t.succ
    ∗ owns (c : Thread nD τ) (st0_0 a t) fullShare ((dats a V 0 c).after 0 t)
    ∗ owns (c : Thread nD τ) (st0_1 a t) fullShare ((dats a V 0 c).after 1 t)
    ∗ owns (c : Thread nD τ) (st0_2 a t) fullShare ((dats a V 0 c).after 2 t)
    ∗ owns (c : Thread nD τ) (st0_3 a t) fullShare ((dats a V 0 c).after 3 t)
    ∗ outPost a V c t)

/-- The output's buffer after the body is what the obligation asks. -/
theorem outPost_of (h : Tables a.1) (c : Dev nD) (t : Fin (cfg0 a).N) (d)
    (X : ((cfg0 a).win 4).block.Idx → Elt F ((cfg0 a).win 4).elt) (h1 : t.val < (nt a.1).toNat → X = outAt a V c t)
    (h2 : ¬ t.val < (nt a.1).toNat → X = (dats a V 0 c).before 4 t d) :
    owns (c : Thread nD τ) (st0_4 a t) fullShare X ⊢ outPost a V c t := by
  have hlast : t.val < (nt a.1).toNat → (dats a V 0 c).after 4 t = outAt a V c t := fun hlt => by
    rw [after0_4]
    refine congrArg (outAt a V c) (Fin.ext ?_)
    show min t.val ((nt a.1).toNat - 1) = t.val
    omega
  unfold outPost
  by_cases hlt : t.val < (nt a.1).toNat
  · have hi : (cfg0 a).idle 4 ((cfg0 a).grid.coords t) = false := by rw [idle4 a h, decide_eq_true hlt]; rfl
    rw [hi, h1 hlt, ← hlast hlt]
  · have hi : (cfg0 a).idle 4 ((cfg0 a).grid.coords t) = true := by rw [idle4 a h, decide_eq_false hlt]; rfl
    rw [hi, h2 hlt]
    have hb : (dats a V 0 c).before 4 t d = (dats a V 0 c).after 4 t := by
      rw [before0_4 a V h c t d, after0_4]; exact if_neg hlt
    cases hf : ((cfg0 a).win 4).flush t
    · iintro H
      iexists d; iexact H
    · rw [hb]

theorem sound_body (h : Tables a.1) (c : Dev nD) (t : Fin (cfg0 a).N) :
    bodyPre a V c t ⊢ wp frame (wpE (defs₀ (F := F)) Variants.none c none) Set.univ (bodyAt0 a t) (fun _ => bodyPost a V c t) := by
  unfold bodyPre bodyPost bodyAt0
  simp only [before0_0, before0_1, before0_2, before0_3]
  rw [show (dats a V 0 c).owesAt () t.succ = (dats a V 0 c).owesAt () t.castSucc from rfl,
    after0_0, after0_1, after0_2, after0_3]
  unfold dats
  dsimp only
  iintro ⟨⟨⟨%s0, %s1, %s2, %hk, S0, S1, S2⟩, Hr, T0, T1⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ _ _ _ _ _ _ _ _ fullShare.right (a.1 0) (a.1 1)
    (iblk a V c 0 t) (iblk a V c 1 t) (iblk a V c 2 t) (iblk a V c 3 t) ((dats a V 0 c).before 4 t d4) s0 s1 s2 _)
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  rw [(kept_next a V h c t s0 s1 s2 hk).1, (kept_next a V h c t s0 s1 s2 hk).2.1, (kept_next a V h c t s0 s1 s2 hk).2.2]
  iintro ⟨T0, T1, H0, H1, H2, H3, H4, S0, S1, S2⟩
  isplitl [S0 S1 S2 Hr T0 T1]
  · isplitl [S0 S1 S2]
    · iexists _, _, _
      isplitr
      swap
      · isplitl [S0]; · iexact S0
        isplitl [S1]; · iexact S1
        iexact S2
      ipureintro
      exact fun _ => ⟨rfl, rfl, rfl⟩
    isplitl [Hr]; · iexact Hr
    isplitl [T0]; · iexact T0
    iexact T1
  isplitl [Ho]; · iexact Ho
  isplitl [H0]; · iexact H0
  isplitl [H1]; · iexact H1
  isplitl [H2]; · iexact H2
  isplitl [H3]; · iexact H3
  iapply (outPost_of a V h c t d4 (if k0_cond2 (grid0.coords t) (rn (F := F) (a.1 1)) = 1#1 then
      out (iblk a V c 0 t) (k0_pay1 (iblk a V c 1 t)) (k0_pay2 (iblk a V c 2 t)) (k0_pay3 (iblk a V c 3 t))
      else ((dats a V 0 c).before 4 t d4 : Vec F S2048x128 .f32)) (fun hlt => if_pos (by rw [rn_eq]; exact (cond2_iff a h t).2 hlt))
    (fun hlt => if_neg (by rw [rn_eq]; exact fun e => hlt ((cond2_iff a h t).1 e))))
  iexact H4

theorem defs₀_row (t : Fin (cfg0 a).N) :
    defs₀ (F := F) .tc (cfg0 a).body ((cfg0 a).bodyArgs t ((cfg0 a).slots t)) = bodyAt0 a t := by
  unfold defs₀; rw [Defs.onTc_tc]

theorem body_obligation (h : Tables a.1) (c : Dev nD) :
    BodyObligation (dats (F := F) a V 0 c) (defs₀ (F := F)) Variants.none () Set.univ := fun t => by
  rw [bigSep_W0, bigSep_W0, defs₀_row]
  exact triple_restated (sound_body a V h c t) rfl .rfl fun _ => .rfl

/-! ## The run of the call -/

theorem ent_of_eq {P Q : sProp (𝕄 F)} (h : P = Q) : P ⊢ Q := by rw [h]

theorem hin (c : Dev nD) : iprop(Pipeline.ΦA (cfg0 a).spec c ∗ Pipeline.ΦT pre0 a.1 c) ⊢ (dats a V 0 c).Φ 0 := by
  unfold dats Pipeline.ΦA
  dsimp only
  rw [show (cfg0 a).spec = spec0 from rfl, scopedRest0_eq]
  unfold Pipeline.ΦT Pipeline.prefHeld
  rw [show ∀ Φ : Fin pre0.K → sProp (𝕄 F), bigSep Finset.univ Φ = iprop(Φ (0 : Fin 2) ∗ Φ (1 : Fin 2)) from fun Φ => bigSep_univ_eq_bigSepL [(0 : Fin 2), (1 : Fin 2)] (by decide) (by decide) Φ]
  simp only [owns_whole]
  iintro ⟨⟨⟨⟨%f0, S0⟩, ⟨%f1, S1⟩, ⟨%f2, S2⟩⟩, Hr⟩, T0, T1⟩
  isplitl [S0 S1 S2]
  · iexists f0, f1, f2
    isplitr
    · ipureintro
      exact fun h => absurd rfl h
    isplitl [S0]; · iexact S0
    isplitl [S1]; · iexact S1
    iexact S2
  isplitl [Hr]; · iexact Hr
  isplitl [T0]
  · iapply (ent_of_eq (owns_whole (c : Thread nD τ) main_v33 fullShare.right (a.1 0)).symm); iexact T0
  iapply (ent_of_eq (owns_whole (c : Thread nD τ) main_v27 fullShare.right (a.1 1)).symm); iexact T1

theorem hout (c : Dev nD) : (dats a V 0 c).Φ (Fin.last (cfg0 a).N) ⊢ Pipeline.ΦA (cfg0 a).spec c := by
  unfold dats Pipeline.ΦA
  dsimp only
  rw [show (cfg0 a).spec = spec0 from rfl, scopedRest0_eq]
  simp only [owns_whole]
  iintro ⟨⟨%f0, %f1, %f2, %hk, S0, S1, S2⟩, Hr, T0, T1⟩
  isplitl [S0 S1 S2]
  · isplitl [S0]; · iexists f0; iexact S0
    isplitl [S1]; · iexists f1; iexact S1
    iexists f2; iexact S2
  iexact Hr

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- The host operations before the call. -/
abbrev hostLines : List (List (HloOp τ sig (Elt F))) := [hostOps0, hostOps0_1, hostOps0_2, hostOps0_3, hostOps0_4, hostOps0_5, hostOps0_6]

variable (m : (ℓ : Loc nD τ sig) → Buf (Elt F) ℓ) (ρ : Dev nD → PrngReg)

/-- What each buffer holds when the call begins. -/
def Vm (c : Dev nD) (b : Ref sig .tc) : Buf (Elt F) ((c : Thread nD τ).loc b) :=
  StableHlo.after (List.flatten hostLines) (fun b => m (c, b)) b

set_option maxHeartbeats 800000 in
theorem hmain : Pipeline.HMainP (Ix := Unit) (Name := ℕ) (U := UR sig nD τ) (Lvl := ℕ) pcfgs 0 defs₀ Variants.none m (main (F := F)) (Vm m) :=
  Pipeline.hmainP_prefixes pcfgs 0 defs₀ Variants.none m main hostLines
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

set_option backward.isDefEq.respectTransparency.types false in
set_option maxHeartbeats 800000 in
/-- The whole run: every array at what the body left, every other buffer as the call found it, no semaphore raised. -/
theorem run_main (ha : Tables a.1) (hpf : ∀ c k, Vm m c (pre0.ref k) = a.1 k) :
    θ_run defs (onTc (τ := τ) (main (F := F))) ⟨m, fun _ => 0, ρ⟩
      (fun r => Pipeline.FramePost (Pipeline.pin pcfgs fun _ => a) (dats a (Vm m)) 0 (Vm m) r ∧ r.2.sem = fun _ => 0) :=
  Pipeline.θ_run_frameP_track (Q' := _) pcfgs (fun _ => a) (dats a (Vm m)) (0 : Fin 1) launch0 defs₀ Variants.none m ρ main
    (hbody := fun c => (body_obligation a (Vm m) ha c).loose) (hshare := fun c w => by unfold Dat.share; dsimp only [dats]; split <;> rfl)
    (howed := fun _ _ => rfl) (V := Vm m) (hmain := hmain m) (hA := A_eq a (Vm m)) (hpf := hpf) (hin := hin a (Vm m)) (hout := hout a (Vm m))

end Cert.ExpertsIdeal.Hand

end
-- ==== Proof.ExpertsHost.lean ====
module

public import proofs.«01_k».proof.Proof.ExpertsBody
public import proofs.«01_k».proof.Proof.ExpertsTables
public import proofs.«01_k».proof.Proof.ExpertsRun
public import proofs.«01_k».proof.Proof.ExpertsFrame
public import proofs.«01_k».proof.Proof.Plan
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.TableIdle
public import Idealize.ShloMosaic.Lib.Pipeline.Value
public import Idealize.ShloMosaic.Lib.Pipeline.AliasedRuns
public import Idealize.ShloMosaic.Lib.VecWindow
public import Idealize.ShloMosaic.Lib.Pipeline.ValueKit
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

/-!
What the host code leaves in the buffers the call reads: the two tables, the weights as matrices in one list, and the arguments.
-/

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable [Cert.Pre_rows_routed.Facts] (m : (ℓ : Loc nD τ sig) → Buf (Elt F) ℓ) (c : Dev nD)

theorem V_main_arg0 : Vm m c main_arg0 = m ((c : Thread nD τ).loc main_arg0) :=
  StableHlo.after_of_forall_not_mem (b := Proc.devRef .tc main_arg0) _ _ (List.forall_iff_forall_mem.mp (by
    simp only [hostLines, hostOps0, hostOps0_1, hostOps0_2, hostOps0_3, hostOps0_4, hostOps0_5, hostOps0_6, List.flatten_cons, List.flatten_nil,
    List.append_nil, List.cons_append, List.nil_append,
      List.Forall, StableHlo.nullary_writes, StableHlo.unary_writes, StableHlo.binary_writes, StableHlo.ternary_writes,
      StableHlo.reshape_writes, StableHlo.TRef.nullary, StableHlo.TRef.unary, StableHlo.TRef.binary, StableHlo.TRef.ternary, Finset.mem_singleton]
    repeat' apply And.intro
    all_goals exact StableHlo.devRef_ne_of_ne (by decide)))

theorem V_main_arg1 : Vm m c main_arg1 = m ((c : Thread nD τ).loc main_arg1) :=
  StableHlo.after_of_forall_not_mem (b := Proc.devRef .tc main_arg1) _ _ (List.forall_iff_forall_mem.mp (by
    simp only [hostLines, hostOps0, hostOps0_1, hostOps0_2, hostOps0_3, hostOps0_4, hostOps0_5, hostOps0_6, List.flatten_cons, List.flatten_nil,
    List.append_nil, List.cons_append, List.nil_append,
      List.Forall, StableHlo.nullary_writes, StableHlo.unary_writes, StableHlo.binary_writes, StableHlo.ternary_writes,
      StableHlo.reshape_writes, StableHlo.TRef.nullary, StableHlo.TRef.unary, StableHlo.TRef.binary, StableHlo.TRef.ternary, Finset.mem_singleton]
    repeat' apply And.intro
    all_goals exact StableHlo.devRef_ne_of_ne (by decide)))

theorem V_main_arg2 : Vm m c main_arg2 = m ((c : Thread nD τ).loc main_arg2) :=
  StableHlo.after_of_forall_not_mem (b := Proc.devRef .tc main_arg2) _ _ (List.forall_iff_forall_mem.mp (by
    simp only [hostLines, hostOps0, hostOps0_1, hostOps0_2, hostOps0_3, hostOps0_4, hostOps0_5, hostOps0_6, List.flatten_cons, List.flatten_nil,
    List.append_nil, List.cons_append, List.nil_append,
      List.Forall, StableHlo.nullary_writes, StableHlo.unary_writes, StableHlo.binary_writes, StableHlo.ternary_writes,
      StableHlo.reshape_writes, StableHlo.TRef.nullary, StableHlo.TRef.unary, StableHlo.TRef.binary, StableHlo.TRef.ternary, Finset.mem_singleton]
    repeat' apply And.intro
    all_goals exact StableHlo.devRef_ne_of_ne (by decide)))

theorem V_main_arg3 : Vm m c main_arg3 = m ((c : Thread nD τ).loc main_arg3) :=
  StableHlo.after_of_forall_not_mem (b := Proc.devRef .tc main_arg3) _ _ (List.forall_iff_forall_mem.mp (by
    simp only [hostLines, hostOps0, hostOps0_1, hostOps0_2, hostOps0_3, hostOps0_4, hostOps0_5, hostOps0_6, List.flatten_cons, List.flatten_nil,
    List.append_nil, List.cons_append, List.nil_append,
      List.Forall, StableHlo.nullary_writes, StableHlo.unary_writes, StableHlo.binary_writes, StableHlo.ternary_writes,
      StableHlo.reshape_writes, StableHlo.TRef.nullary, StableHlo.TRef.unary, StableHlo.TRef.binary, StableHlo.TRef.ternary, Finset.mem_singleton]
    repeat' apply And.intro
    all_goals exact StableHlo.devRef_ne_of_ne (by decide)))

theorem V_main_arg4 : Vm m c main_arg4 = m ((c : Thread nD τ).loc main_arg4) :=
  StableHlo.after_of_forall_not_mem (b := Proc.devRef .tc main_arg4) _ _ (List.forall_iff_forall_mem.mp (by
    simp only [hostLines, hostOps0, hostOps0_1, hostOps0_2, hostOps0_3, hostOps0_4, hostOps0_5, hostOps0_6, List.flatten_cons, List.flatten_nil,
    List.append_nil, List.cons_append, List.nil_append,
      List.Forall, StableHlo.nullary_writes, StableHlo.unary_writes, StableHlo.binary_writes, StableHlo.ternary_writes,
      StableHlo.reshape_writes, StableHlo.TRef.nullary, StableHlo.TRef.unary, StableHlo.TRef.binary, StableHlo.TRef.ternary, Finset.mem_singleton]
    repeat' apply And.intro
    all_goals exact StableHlo.devRef_ne_of_ne (by decide)))

theorem V_main_arg5 : Vm m c main_arg5 = m ((c : Thread nD τ).loc main_arg5) :=
  StableHlo.after_of_forall_not_mem (b := Proc.devRef .tc main_arg5) _ _ (List.forall_iff_forall_mem.mp (by
    simp only [hostLines, hostOps0, hostOps0_1, hostOps0_2, hostOps0_3, hostOps0_4, hostOps0_5, hostOps0_6, List.flatten_cons, List.flatten_nil,
    List.append_nil, List.cons_append, List.nil_append,
      List.Forall, StableHlo.nullary_writes, StableHlo.unary_writes, StableHlo.binary_writes, StableHlo.ternary_writes,
      StableHlo.reshape_writes, StableHlo.TRef.nullary, StableHlo.TRef.unary, StableHlo.TRef.binary, StableHlo.TRef.ternary, Finset.mem_singleton]
    repeat' apply And.intro
    all_goals exact StableHlo.devRef_ne_of_ne (by decide)))

theorem V_result : Vm m c main_v37 = (m ((c : Thread nD τ).loc main_arg2) : FVec F S335872x128 .f32) := by
  unfold Vm
  simp only [hostLines, hostOps0, hostOps0_1, hostOps0_2, hostOps0_3, hostOps0_4, hostOps0_5, hostOps0_6, List.flatten_cons, List.flatten_nil,
    List.append_nil, List.cons_append, List.nil_append,
    StableHlo.TRef.binary, StableHlo.TRef.nullary, StableHlo.TRef.ternary, StableHlo.TRef.unary, StableHlo.TRef.toBuf,
    StableHlo.TRef.ofBuf, cast_eq]
  after_results_simp <;> rfl

theorem V_w1 : Vm m c main_v34 = shapeCast S64x1024x256 (m ((c : Thread nD τ).loc main_arg3) : FVec F S2x32x1024x256 .f32) shapeCasts_S2x32x1024x256_S64x1024x256 := by
  unfold Vm
  simp only [hostLines, hostOps0, hostOps0_1, hostOps0_2, hostOps0_3, hostOps0_4, hostOps0_5, hostOps0_6, List.flatten_cons, List.flatten_nil,
    List.append_nil, List.cons_append, List.nil_append,
    StableHlo.TRef.binary, StableHlo.TRef.nullary, StableHlo.TRef.ternary, StableHlo.TRef.unary, StableHlo.TRef.toBuf,
    StableHlo.TRef.ofBuf, cast_eq]
  after_results_simp <;> rfl

theorem V_padded : Vm m c main_v9 = Plan.padded (F := F) (m ((c : Thread nD τ).loc main_arg1)) := by
  unfold Vm
  simp only [hostLines, hostOps0, hostOps0_1, hostOps0_2, hostOps0_3, hostOps0_4, hostOps0_5, hostOps0_6, List.flatten_cons, List.flatten_nil,
    List.append_nil, List.cons_append, List.nil_append,
    StableHlo.TRef.binary, StableHlo.TRef.nullary, StableHlo.TRef.ternary, StableHlo.TRef.unary, StableHlo.TRef.toBuf,
    StableHlo.TRef.ofBuf, cast_eq]
  after_results_simp <;> rfl

theorem V_w3 : Vm m c main_v35 = shapeCast S64x1024x256 (m ((c : Thread nD τ).loc main_arg4) : FVec F S2x32x1024x256 .f32) shapeCasts_S2x32x1024x256_S64x1024x256 := by
  unfold Vm
  simp only [hostLines, hostOps0, hostOps0_1, hostOps0_2, hostOps0_3, hostOps0_4, hostOps0_5, hostOps0_6, List.flatten_cons, List.flatten_nil,
    List.append_nil, List.cons_append, List.nil_append,
    StableHlo.TRef.binary, StableHlo.TRef.nullary, StableHlo.TRef.ternary, StableHlo.TRef.unary, StableHlo.TRef.toBuf,
    StableHlo.TRef.ofBuf, cast_eq]
  after_results_simp <;> rfl

theorem V_w2 : Vm m c main_v36 = shapeCast S64x256x1024 (m ((c : Thread nD τ).loc main_arg5) : FVec F S2x32x256x1024 .f32) shapeCasts_S2x32x256x1024_S64x256x1024 := by
  unfold Vm
  simp only [hostLines, hostOps0, hostOps0_1, hostOps0_2, hostOps0_3, hostOps0_4, hostOps0_5, hostOps0_6, List.flatten_cons, List.flatten_nil,
    List.append_nil, List.cons_append, List.nil_append,
    StableHlo.TRef.binary, StableHlo.TRef.nullary, StableHlo.TRef.ternary, StableHlo.TRef.unary, StableHlo.TRef.toBuf,
    StableHlo.TRef.ofBuf, cast_eq]
  after_results_simp <;> rfl

/-- Where each expert's rows end, as the host code adds them up. -/
def endsHost : IVec S32 32 :=
  Host.reduceWindow IntOp.addi ![32] ![1] ![31] ![0] (Plan.padded (F := F) (m ((c : Thread nD τ).loc main_arg1)))
    (broadcastInDim S_ ![] bcast_S_S_ (constantI S_ 32 0#32)) reduceWindows_S32_S32_w32s1p31_0 h_S_

theorem endsHost_at (j : Fin 32) : endsHost m c (ValueIdx.ix1 j) = Plan.ends (F := F) (m ((c : Thread nD τ).loc main_arg1)) j :=
  Plan.running _ _ (Routing.bc0 _ _ _) _ _ j

theorem V_ends : Vm m c main_v10 = endsHost m c := by
  unfold Vm
  simp only [hostLines, hostOps0, hostOps0_1, hostOps0_2, hostOps0_3, hostOps0_4, hostOps0_5, hostOps0_6, List.flatten_cons, List.flatten_nil,
    List.append_nil, List.cons_append, List.nil_append,
    StableHlo.TRef.binary, StableHlo.TRef.nullary, StableHlo.TRef.ternary, StableHlo.TRef.unary, StableHlo.TRef.toBuf,
    StableHlo.TRef.ofBuf, cast_eq]
  after_results_simp <;> rfl

theorem V_tile : Vm m c main_v23 = minsi (Host.reduce IntOp.addi (extui 32 (cmpi .sge
        (broadcastInDim S164x32 ![0, 1] bcast_S164x1_S164x32_0_1 (broadcastInDim S164x1 ![0] bcast_S164_S164x1_0
          (muli (iotaInDim S164 32 0) (broadcastInDim S164 ![] bcast_S_S164 (constantI S_ 32 256#32)))))
        (broadcastInDim S164x32 ![0, 1] bcast_S1x32_S164x32_0_1 (broadcastInDim S1x32 ![1] bcast_S32_S1x32_1 (endsHost m c)))) natLt_1_32)
        (constantI S_ 32 0#32) reducesTo_S164x32_S164_d1 h_S_)
      (broadcastInDim S164 ![] bcast_S_S164 (constantI S_ 32 31#32)) := by
  unfold Vm
  simp only [hostLines, hostOps0, hostOps0_1, hostOps0_2, hostOps0_3, hostOps0_4, hostOps0_5, hostOps0_6, List.flatten_cons, List.flatten_nil,
    List.append_nil, List.cons_append, List.nil_append,
    StableHlo.TRef.binary, StableHlo.TRef.nullary, StableHlo.TRef.ternary, StableHlo.TRef.unary, StableHlo.TRef.toBuf,
    StableHlo.TRef.ofBuf, cast_eq]
  after_results_simp <;> rfl

theorem V_table : Vm m c main_v33 = addi (minsi (Host.reduce IntOp.addi (extui 32 (cmpi .sge
        (broadcastInDim S164x32 ![0, 1] bcast_S164x1_S164x32_0_1 (broadcastInDim S164x1 ![0] bcast_S164_S164x1_0
          (muli (iotaInDim S164 32 0) (broadcastInDim S164 ![] bcast_S_S164 (constantI S_ 32 256#32)))))
        (broadcastInDim S164x32 ![0, 1] bcast_S1x32_S164x32_0_1 (broadcastInDim S1x32 ![1] bcast_S32_S1x32_1 (endsHost m c)))) natLt_1_32)
        (constantI S_ 32 0#32) reducesTo_S164x32_S164_d1 h_S_)
      (broadcastInDim S164 ![] bcast_S_S164 (constantI S_ 32 31#32)))
    (broadcastInDim S164 ![] bcast_S_S164 (muli (shapeCast S_ (m ((c : Thread nD τ).loc main_arg0) : IVec S1 32) shapeCasts_S1_S_) (constantI S_ 32 32#32))) := by
  unfold Vm
  simp only [hostLines, hostOps0, hostOps0_1, hostOps0_2, hostOps0_3, hostOps0_4, hostOps0_5, hostOps0_6, List.flatten_cons, List.flatten_nil,
    List.append_nil, List.cons_append, List.nil_append,
    StableHlo.TRef.binary, StableHlo.TRef.nullary, StableHlo.TRef.ternary, StableHlo.TRef.unary, StableHlo.TRef.toBuf,
    StableHlo.TRef.ofBuf, cast_eq]
  after_results_simp <;> rfl

theorem V_count : Vm m c main_v27 = shapeCast S1 (Plan.quotient (shapeCast S_ (extractStridedSlice S1 ![31] (endsHost m c) slices_S32_S1_31) shapeCasts_S1_S_)) shapeCasts_S_S1 := by
  unfold Vm
  simp only [hostLines, hostOps0, hostOps0_1, hostOps0_2, hostOps0_3, hostOps0_4, hostOps0_5, hostOps0_6, List.flatten_cons, List.flatten_nil,
    List.append_nil, List.cons_append, List.nil_append,
    StableHlo.TRef.binary, StableHlo.TRef.nullary, StableHlo.TRef.ternary, StableHlo.TRef.unary, StableHlo.TRef.toBuf,
    StableHlo.TRef.ofBuf, cast_eq]
  after_results_simp <;> rfl

theorem tile_word (i : Fin 164) :
    muli (iotaInDim S164 32 0) (broadcastInDim S164 ![] bcast_S_S164 (constantI S_ 32 256#32)) (ValueIdx.ix1 i) = BitVec.ofNat 32 (256 * i.val) := by
  show BitVec.ofNat 32 i.val * 256#32 = _
  rw [Nat.mul_comm 256, BitVec.ofNat_mul]

/-- The number of the layer. -/
def layer : BitVec 32 := (show IVec S1 32 from m ((c : Thread nD τ).loc main_arg0)) (ValueIdx.ix1 0)

/-- The expert matrix a tile takes: its expert's, among its layer's 32. -/
theorem table_at (i : Fin 164) : (show IVec S164 32 from Vm m c main_v33) (ValueIdx.ix1 i)
    = BitVec.ofNat 32 (Plan.expert (Plan.ends (F := F) (m ((c : Thread nD τ).loc main_arg1))) (BitVec.ofNat 32 (256 * i.val)))
      + layer m c * 32#32 := by
  rw [V_table]
  have h := Plan.row_expert (muli (iotaInDim S164 32 0) (broadcastInDim S164 ![] bcast_S_S164 (constantI S_ 32 256#32))) (endsHost m c)
    bcast_S164_S164x1_0 bcast_S164x1_S164x32_0_1 bcast_S32_S1x32_1 bcast_S1x32_S164x32_0_1 bcast_S_S164 natLt_1_32 reducesTo_S164x32_S164_d1 h_S_ i
  rw [tile_word, show (fun j => endsHost m c (ValueIdx.ix1 j)) = _ from funext (endsHost_at m c)] at h
  refine congrArg₂ (· + ·) h (congrArg (· * 32#32) ?_)
  unfold shapeCast
  refine congrArg (m ((c : Thread nD τ).loc main_arg0) : IVec S1 32) (funext fun a => ?_)
  match a with
  | ⟨0, _⟩ => exact Subsingleton.elim (α := Fin 1) _ _

theorem count_at : (show IVec S1 32 from Vm m c main_v27) (ValueIdx.ix1 0)
    = Plan.quotient (fun _ => Plan.ends (F := F) (m ((c : Thread nD τ).loc main_arg1)) 31) ValueIdx.ix0 := by
  rw [V_count, ← endsHost_at m c 31]
  have e : shapeCast S_ (extractStridedSlice S1 ![31] (endsHost m c) slices_S32_S1_31) shapeCasts_S1_S_ = fun _ => endsHost m c (ValueIdx.ix1 31) := by
    funext j
    unfold shapeCast
    refine (congrArg _ (?_ : _ = ValueIdx.ix1 (0 : Fin 1))).trans (Routing.slice1 31 (endsHost m c) slices_S32_S1_31 (0 : Fin 1) (by decide))
    funext a
    match a with
    | ⟨0, _⟩ => exact Subsingleton.elim (α := Fin 1) _ _
  rw [e]
  show Plan.quotient (fun _ => endsHost m c (ValueIdx.ix1 31)) (Shape.reshapeEquiv shapeCasts_S_S1 (ValueIdx.ix1 0)) = _
  exact congrArg _ (funext fun a : Fin 0 => a.elim0)

/-- The two tables, as the host code leaves them. -/
def tables : pre0.Contents (Elt F) := fun k => Vm m 0 (pre0.ref k)

/-- The precondition's meaning: the layer is one of the two and the last expert's rows end past the first row. -/
structure Routed : Prop where
  layer_lt : (layer m 0).toNat < 2
  pos : 0 < (Plan.ends (F := F) (m (((0 : Dev nD) : Thread nD τ).loc main_arg1)) 31).toInt

/-- Where the rows of each expert end. -/
abbrev endAt (j : Fin 32) : BitVec 32 := Plan.ends (F := F) (m (((0 : Dev nD) : Thread nD τ).loc main_arg1)) j

theorem te_tables (hr : Routed m) (i : Fin 164) : (te (tables m) i).toNat
    = Plan.expert (endAt m) (BitVec.ofNat 32 (256 * i.val)) + (layer m 0).toNat * 32 := by
  have h : te (tables m) i = BitVec.ofNat 32 (Plan.expert (endAt m) (BitVec.ofNat 32 (256 * i.val))) + layer m 0 * 32#32 :=
    table_at m 0 i
  have h1 := Plan.expert_lt (endAt m) (BitVec.ofNat 32 (256 * i.val))
  have h2 := hr.layer_lt
  have h3 : (32#32).toNat = 32 := rfl
  rw [h, BitVec.toNat_add, BitVec.toNat_mul, BitVec.toNat_ofNat, h3]
  omega

theorem nt_tables (hr : Routed m) : (nt (tables m)).toNat = (endAt m 31).toNat / 256 := by
  have h : nt (tables m) = Plan.quotient (fun _ => endAt m 31) ValueIdx.ix0 := count_at m 0
  rw [h]
  exact Plan.quotient_toNat (fun _ => endAt m 31) hr.pos

theorem tables_ok (hr : Routed m) : Tables (tables m) where
  te_lt i := by
    rw [te_tables m hr]
    have h1 := Plan.expert_lt (endAt m) (BitVec.ofNat 32 (256 * i.val))
    have h2 := hr.layer_lt
    omega
  one_le := by
    have h : nt (tables m) = Plan.quotient (fun _ => endAt m 31) ValueIdx.ix0 := count_at m 0
    rw [h]
    exact (Plan.quotient_spec (fun _ => endAt m 31) hr.pos (Plan.ends_dvd _ _)).1
  nt_lt := by
    have h : nt (tables m) = Plan.quotient (fun _ => endAt m 31) ValueIdx.ix0 := count_at m 0
    rw [h]
    exact (Plan.quotient_spec (fun _ => endAt m 31) hr.pos (Plan.ends_dvd _ _)).2

/-- The tables, as the call takes them. -/
def adm (hr : Routed m) : (pcfg0 (F := F)).Adm := ⟨tables m, ok (tables_ok m hr)⟩

theorem tables_eq (c : Dev nD) (k : Fin 2) : Vm m c (pre0.ref k) = tables m k := by
  have hc : c = 0 := Subsingleton.elim (α := Fin 1) _ _
  subst hc
  rfl

theorem run_here (hr : Routed m) (ρ : Dev nD → PrngReg) :
    θ_run defs (onTc (τ := τ) (main (F := F))) ⟨m, fun _ => 0, ρ⟩
      (fun r => Pipeline.FramePost (Pipeline.pin pcfgs fun _ => adm m hr) (dats (adm m hr) (Vm m)) 0 (Vm m) r ∧ r.2.sem = fun _ => 0) :=
  run_main (adm m hr) m ρ (tables_ok m hr) (tables_eq m)

theorem frame (hr : Routed m) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
      ((h.1 c).2 main_arg0 (Pipeline.mem_restRefs_of main_arg0 (by decide) (by decide : ∀ w : Fin 5, (spec0 w).arr.view.ref ≠ main_arg0))).trans (V_main_arg0 m c),
      ((h.1 c).2 main_arg1 (Pipeline.mem_restRefs_of main_arg1 (by decide) (by decide : ∀ w : Fin 5, (spec0 w).arr.view.ref ≠ main_arg1))).trans (V_main_arg1 m c),
      (((h.1 c).1 0).trans (Dat.arrAt_in _ 0 rfl _)).trans (V_main_arg2 m c),
      ((h.1 c).2 main_arg3 (Pipeline.mem_restRefs_of main_arg3 (by decide) (by decide : ∀ w : Fin 5, (spec0 w).arr.view.ref ≠ main_arg3))).trans (V_main_arg3 m c),
      ((h.1 c).2 main_arg4 (Pipeline.mem_restRefs_of main_arg4 (by decide) (by decide : ∀ w : Fin 5, (spec0 w).arr.view.ref ≠ main_arg4))).trans (V_main_arg4 m c),
      ((h.1 c).2 main_arg5 (Pipeline.mem_restRefs_of main_arg5 (by decide) (by decide : ∀ w : Fin 5, (spec0 w).arr.view.ref ≠ main_arg5))).trans (V_main_arg5 m c)⟩, h.2⟩)
    (run_here m hr ρ)

end Cert.ExpertsIdeal.Hand

end
-- ==== Proof.ExpertsEntry.lean ====
module

public import proofs.«01_k».proof.Proof.ExpertsBody
public import Idealize.ShloMosaic.Lib.Pipeline.ValueKit
public import Idealize.ShloMosaic.Lib.Pointwise

/-!
What the expert kernel's body stores in a block of rows, at an entry.
-/

@[expose] public section

set_option maxRecDepth 16384

noncomputable section

open Idealize.ShloMosaic Idealize.ShloMosaic.TcCoe Idealize.SL.Sem

namespace Cert.ExpertsIdeal.Hand

open Cert.ExpertsIdeal Cert.ExpertsIdeal.Gen

/-- The rows of a block side by side: row `s` is the eight rows `8 s … 8 s + 7`. -/
def wide (x : Vec Ideal S2048x128 .f32) : FVec Ideal S256x1024 .f32 :=
  concatenate S256x1024 1 [⟨S256x128, View.ld x st0⟩, ⟨S256x128, View.ld x st1⟩, ⟨S256x128, View.ld x st2⟩, ⟨S256x128, View.ld x st3⟩,
    ⟨S256x128, View.ld x st4⟩, ⟨S256x128, View.ld x st5⟩, ⟨S256x128, View.ld x st6⟩, ⟨S256x128, View.ld x st7⟩]
    concatenates_S256x128_S256x128_S256x128_S256x128_S256x128_S256x128_S256x128_S256x128_S256x1024_d1

/-- Piece `j` of the rows. -/
def piece (x : Vec Ideal S2048x128 .f32) (j : Fin 8) : Vec Ideal S256x128 .f32 :=
  fun y => x (ix2 ⟨8 * (y 0).val + j.val, by have : (y 0).val < 256 := (y 0).isLt; omega⟩ (y 1))

theorem ld_0 (x : Vec Ideal S2048x128 .f32) : View.ld x st0 = piece x 0 := by
  funext y
  unfold piece View.ld
  refine congrArg x (funext fun a => Fin.ext ?_)
  match a with
  | ⟨0, _⟩ => show 0 + 8 * (y 0).val = 8 * (y 0).val + 0; omega
  | ⟨1, _⟩ => show 0 + 1 * (y 1).val = (y 1).val; omega

theorem ld_1 (x : Vec Ideal S2048x128 .f32) : View.ld x st1 = piece x 1 := by
  funext y
  unfold piece View.ld
  refine congrArg x (funext fun a => Fin.ext ?_)
  match a with
  | ⟨0, _⟩ => show 1 + 8 * (y 0).val = 8 * (y 0).val + 1; omega
  | ⟨1, _⟩ => show 0 + 1 * (y 1).val = (y 1).val; omega

theorem ld_2 (x : Vec Ideal S2048x128 .f32) : View.ld x st2 = piece x 2 := by
  funext y
  unfold piece View.ld
  refine congrArg x (funext fun a => Fin.ext ?_)
  match a with
  | ⟨0, _⟩ => show 2 + 8 * (y 0).val = 8 * (y 0).val + 2; omega
  | ⟨1, _⟩ => show 0 + 1 * (y 1).val = (y 1).val; omega

theorem ld_3 (x : Vec Ideal S2048x128 .f32) : View.ld x st3 = piece x 3 := by
  funext y
  unfold piece View.ld
  refine congrArg x (funext fun a => Fin.ext ?_)
  match a with
  | ⟨0, _⟩ => show 3 + 8 * (y 0).val = 8 * (y 0).val + 3; omega
  | ⟨1, _⟩ => show 0 + 1 * (y 1).val = (y 1).val; omega

theorem ld_4 (x : Vec Ideal S2048x128 .f32) : View.ld x st4 = piece x 4 := by
  funext y
  unfold piece View.ld
  refine congrArg x (funext fun a => Fin.ext ?_)
  match a with
  | ⟨0, _⟩ => show 4 + 8 * (y 0).val = 8 * (y 0).val + 4; omega
  | ⟨1, _⟩ => show 0 + 1 * (y 1).val = (y 1).val; omega

theorem ld_5 (x : Vec Ideal S2048x128 .f32) : View.ld x st5 = piece x 5 := by
  funext y
  unfold piece View.ld
  refine congrArg x (funext fun a => Fin.ext ?_)
  match a with
  | ⟨0, _⟩ => show 5 + 8 * (y 0).val = 8 * (y 0).val + 5; omega
  | ⟨1, _⟩ => show 0 + 1 * (y 1).val = (y 1).val; omega

theorem ld_6 (x : Vec Ideal S2048x128 .f32) : View.ld x st6 = piece x 6 := by
  funext y
  unfold piece View.ld
  refine congrArg x (funext fun a => Fin.ext ?_)
  match a with
  | ⟨0, _⟩ => show 6 + 8 * (y 0).val = 8 * (y 0).val + 6; omega
  | ⟨1, _⟩ => show 0 + 1 * (y 1).val = (y 1).val; omega

theorem ld_7 (x : Vec Ideal S2048x128 .f32) : View.ld x st7 = piece x 7 := by
  funext y
  unfold piece View.ld
  refine congrArg x (funext fun a => Fin.ext ?_)
  match a with
  | ⟨0, _⟩ => show 7 + 8 * (y 0).val = 8 * (y 0).val + 7; omega
  | ⟨1, _⟩ => show 0 + 1 * (y 1).val = (y 1).val; omega

theorem wide_eq (x : Vec Ideal S2048x128 .f32) : wide x = concatenate S256x1024 1 (List.ofFn fun n : Fin 8 => (⟨S256x128, piece x n⟩ : (s : Shape) × (s.Idx → EReal)))
    concatenates_S256x128_S256x128_S256x128_S256x128_S256x128_S256x128_S256x128_S256x128_S256x1024_d1 := by
  unfold wide
  rw [ld_0, ld_1, ld_2, ld_3, ld_4, ld_5, ld_6, ld_7]
  rfl

theorem wide_at (x : Vec Ideal S2048x128 .f32) (s : Fin 256) (d : Fin 1024) :
    wide x (ix2 s d) = x (ix2 ⟨8 * s.val + d.val / 128, by omega⟩ ⟨d.val % 128, Nat.mod_lt _ (by omega)⟩) := by
  rw [wide_eq]
  refine (concatenate_ofFn_apply (t := S256x1024) (s₁ := S256x128) 1 (fun n : Fin 8 => piece x n) _ rfl 128 rfl (ix2 s d) ⟨d.val / 128, by omega⟩ rfl
    (ix2 s ⟨d.val % 128, Nat.mod_lt _ (by omega)⟩) rfl ?_).trans rfl
  intro b hb
  match b with
  | ⟨0, _⟩ => rfl
  | ⟨1, _⟩ => exact absurd rfl hb

/-- The products of rows with an expert's three matrices. -/
def products (X : FVec Ideal S256x1024 .f32) (s0 s1 : FVec Ideal S1024x256 .bf16) (s2 : FVec Ideal S256x1024 .bf16) : FVec Ideal S256x1024 .f32 :=
  matmul dot_S256x256_S256x1024_S256x1024_1_0_0_1_n_n none
    (truncf .bf16 (mulf (mulf
        (matmul dot_S256x1024_S1024x256_S256x256_1_0_0_1_n_n none (truncf .bf16 X bitsLt_bf16_f32) s0 (constant S256x256 .f32 0x00000000#32))
        (logistic (matmul dot_S256x1024_S1024x256_S256x256_1_0_0_1_n_n none (truncf .bf16 X bitsLt_bf16_f32) s0 (constant S256x256 .f32 0x00000000#32))))
      (matmul dot_S256x1024_S1024x256_S256x256_1_0_0_1_n_n none (truncf .bf16 X bitsLt_bf16_f32) s1 (constant S256x256 .f32 0x00000000#32))) bitsLt_bf16_f32)
    s2 (constant S256x1024 .f32 0x00000000#32)

theorem prod_eq (x : Vec Ideal S2048x128 .f32) (s0 s1 : Vec Ideal S1024x256 .bf16) (s2 : Vec Ideal S256x1024 .bf16) :
    prod x s0 s1 s2 = products (wide x) s0 s1 s2 := rfl

/-- A gated hidden entry of two sums. -/
def act (a b : EReal) : EReal := a * Ideal.div 1 (1 + Ideal.exp (-a)) * b

theorem products_at (X : FVec Ideal S256x1024 .f32) (s0 s1 : FVec Ideal S1024x256 .bf16) (s2 : FVec Ideal S256x1024 .bf16) (s : Fin 256) (k : Fin 1024) :
    products X s0 s1 s2 (ix2 s k) = ∑ f : Fin 256, act (∑ d : Fin 1024, X (ix2 s d) * s0 (ix2 d f)) (∑ d : Fin 1024, X (ix2 s d) * s1 (ix2 d f)) * s2 (ix2 f k) := by
  pointwise [products, act, Ideal.logistic]

theorem cast_one_at (w : Vec Ideal S1x1024x256 .f32) (d : Fin 1024) (f : Fin 256) : k0_pay1 w (ix2 d f) = w (ix3 0 d f) := by
  pointwise [k0_pay1]

theorem cast_two_at (w : Vec Ideal S1x1024x256 .f32) (d : Fin 1024) (f : Fin 256) : k0_pay2 w (ix2 d f) = w (ix3 0 d f) := by
  pointwise [k0_pay2]

theorem cast_three_at (w : Vec Ideal S1x256x1024 .f32) (f : Fin 256) (k : Fin 1024) : k0_pay3 w (ix2 f k) = w (ix3 0 f k) := by
  pointwise [k0_pay3]

theorem out_at (x : Vec Ideal S2048x128 .f32) (s0 s1 : Vec Ideal S1024x256 .bf16) (s2 : Vec Ideal S256x1024 .bf16) (y : S2048x128.Idx) :
    out x s0 s1 s2 y = prod x s0 s1 s2 (ix2 ⟨(y 0).val / 8, by have : (y 0).val < 2048 := (y 0).isLt; omega⟩
      ⟨128 * ((y 0).val % 8) + (y 1).val, by have : (y 1).val < 128 := (y 1).isLt; omega⟩) := by
  refine View.canon_apply_of_pieces (Val := Elt Ideal) (fun y : S2048x128.Idx => prod x s0 s1 s2 (ix2 ⟨(y 0).val / 8, by have : (y 0).val < 2048 := (y 0).isLt; omega⟩
      ⟨128 * ((y 0).val % 8) + (y 1).val, by have : (y 1).val < 128 := (y 1).isLt; omega⟩)) _ ?_ y (cover _ y)
  generalize prod x s0 s1 s2 = v
  intro p hp
  simp only [pieces, List.mem_cons, List.not_mem_nil, or_false] at hp
  rcases hp with rfl | rfl | rfl | rfl | rfl | rfl | rfl | rfl
  · intro z
    have h0 : (z 0).val < 256 := (z 0).isLt
    have h1 : (z 1).val < 128 := (z 1).isLt
    refine congrArg v (funext fun a => Fin.ext ?_)
    match a with
    | ⟨0, _⟩ => show 0 + (z 0).val = (7 + 8 * (z 0).val) / 8; omega
    | ⟨1, _⟩ => show 896 + (z 1).val = 128 * ((7 + 8 * (z 0).val) % 8) + (0 + 1 * (z 1).val); omega
  · intro z
    have h0 : (z 0).val < 256 := (z 0).isLt
    have h1 : (z 1).val < 128 := (z 1).isLt
    refine congrArg v (funext fun a => Fin.ext ?_)
    match a with
    | ⟨0, _⟩ => show 0 + (z 0).val = (6 + 8 * (z 0).val) / 8; omega
    | ⟨1, _⟩ => show 768 + (z 1).val = 128 * ((6 + 8 * (z 0).val) % 8) + (0 + 1 * (z 1).val); omega
  · intro z
    have h0 : (z 0).val < 256 := (z 0).isLt
    have h1 : (z 1).val < 128 := (z 1).isLt
    refine congrArg v (funext fun a => Fin.ext ?_)
    match a with
    | ⟨0, _⟩ => show 0 + (z 0).val = (5 + 8 * (z 0).val) / 8; omega
    | ⟨1, _⟩ => show 640 + (z 1).val = 128 * ((5 + 8 * (z 0).val) % 8) + (0 + 1 * (z 1).val); omega
  · intro z
    have h0 : (z 0).val < 256 := (z 0).isLt
    have h1 : (z 1).val < 128 := (z 1).isLt
    refine congrArg v (funext fun a => Fin.ext ?_)
    match a with
    | ⟨0, _⟩ => show 0 + (z 0).val = (4 + 8 * (z 0).val) / 8; omega
    | ⟨1, _⟩ => show 512 + (z 1).val = 128 * ((4 + 8 * (z 0).val) % 8) + (0 + 1 * (z 1).val); omega
  · intro z
    have h0 : (z 0).val < 256 := (z 0).isLt
    have h1 : (z 1).val < 128 := (z 1).isLt
    refine congrArg v (funext fun a => Fin.ext ?_)
    match a with
    | ⟨0, _⟩ => show 0 + (z 0).val = (3 + 8 * (z 0).val) / 8; omega
    | ⟨1, _⟩ => show 384 + (z 1).val = 128 * ((3 + 8 * (z 0).val) % 8) + (0 + 1 * (z 1).val); omega
  · intro z
    have h0 : (z 0).val < 256 := (z 0).isLt
    have h1 : (z 1).val < 128 := (z 1).isLt
    refine congrArg v (funext fun a => Fin.ext ?_)
    match a with
    | ⟨0, _⟩ => show 0 + (z 0).val = (2 + 8 * (z 0).val) / 8; omega
    | ⟨1, _⟩ => show 256 + (z 1).val = 128 * ((2 + 8 * (z 0).val) % 8) + (0 + 1 * (z 1).val); omega
  · intro z
    have h0 : (z 0).val < 256 := (z 0).isLt
    have h1 : (z 1).val < 128 := (z 1).isLt
    refine congrArg v (funext fun a => Fin.ext ?_)
    match a with
    | ⟨0, _⟩ => show 0 + (z 0).val = (1 + 8 * (z 0).val) / 8; omega
    | ⟨1, _⟩ => show 128 + (z 1).val = 128 * ((1 + 8 * (z 0).val) % 8) + (0 + 1 * (z 1).val); omega
  · intro z
    have h0 : (z 0).val < 256 := (z 0).isLt
    have h1 : (z 1).val < 128 := (z 1).isLt
    refine congrArg v (funext fun a => Fin.ext ?_)
    match a with
    | ⟨0, _⟩ => show 0 + (z 0).val = (0 + 8 * (z 0).val) / 8; omega
    | ⟨1, _⟩ => show 0 + (z 1).val = 128 * ((0 + 8 * (z 0).val) % 8) + (0 + 1 * (z 1).val); omega

end Cert.ExpertsIdeal.Hand

end
-- ==== Proof.ExpertsFinal.lean ====
module

public import proofs.«01_k».proof.Proof.ExpertsBody
public import proofs.«01_k».proof.Proof.ExpertsTables
public import proofs.«01_k».proof.Proof.ExpertsRun
public import proofs.«01_k».proof.Proof.ExpertsFrame
public import proofs.«01_k».proof.Proof.ExpertsHost
public import proofs.«01_k».proof.Proof.ExpertsEntry
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.TableIdle
public import Idealize.ShloMosaic.Lib.Pipeline.Value
public import Idealize.ShloMosaic.Lib.Pipeline.AliasedRuns
public import Idealize.ShloMosaic.Lib.VecWindow
public import Idealize.ShloMosaic.Lib.Pipeline.ValueKit
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

/-!
What the expert kernel leaves in its result: the tiles in use hold their rows after the experts, and the others what they held.
-/

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)
variable [Cert.Pre_rows_routed.Facts]

theorem N_lt (a : (pcfg0 (F := Ideal)).Adm) : (cfg0 a).N = 164 := N_0

/-- Every tile's rows after the experts, one under the other. -/
def all (a : (pcfg0 (F := Ideal)).Adm) (V : (c : Dev nD) → (b : Ref sig .tc) → Buf (Elt Ideal) ((c.tc : Thread nD τ).loc b)) (c : Dev nD) :
    Vec Ideal S335872x128 .f32 := fun i =>
  outAt a V c ⟨(i 0).val / 2048, by have h : (i 0).val < 335872 := (i 0).isLt; rw [N_lt]; omega⟩
    (ix2 ⟨(i 0).val % 2048, Nat.mod_lt _ (by omega)⟩ (i 1))

theorem emb4 (a : (pcfg0 (F := Ideal)).Adm) (h : Tables a.1) (t : Fin (cfg0 a).N) (y : S2048x128.Idx) :
    (show S335872x128.Idx from (((cfg0 a).win 4).blk t).view.emb y)
      = ix2 ⟨min t.val ((nt a.1).toNat - 1) * 2048 + (y 0).val, by
          have h0 : (y 0).val < 2048 := (y 0).isLt
          have h1 : t.val < 164 := lt_of_lt_of_eq t.isLt (N_lt a)
          omega⟩ (y 1) := by
  have e : cc0_transform_4 inb_S1_S1_0 numel1_S1 a.1 (grid0.coords t) = ![min t.val ((nt a.1).toNat - 1), 0] := index4 a h t
  refine funext fun b => Fin.ext ?_
  match b with
  | ⟨0, _⟩ =>
    show cc0_transform_4 inb_S1_S1_0 numel1_S1 a.1 (grid0.coords t) 0 * 2048 + 1 * (y 0).val = min t.val ((nt a.1).toNat - 1) * 2048 + (y 0).val
    rw [e]
    show min t.val ((nt a.1).toNat - 1) * 2048 + 1 * (y 0).val = _
    omega
  | ⟨1, _⟩ =>
    show cc0_transform_4 inb_S1_S1_0 numel1_S1 a.1 (grid0.coords t) 1 * 128 + 1 * (y 1).val = (y 1).val
    rw [e]
    show 0 * 128 + 1 * (y 1).val = _
    omega

theorem final (a : (pcfg0 (F := Ideal)).Adm) (h : Tables a.1)
    (V : (c : Dev nD) → (b : Ref sig .tc) → Buf (Elt Ideal) ((c.tc : Thread nD τ).loc b)) (c : Dev nD) (i : S335872x128.Idx) :
    (show Vec Ideal S335872x128 .f32 from (dats a V 0 c).arrAt 4 (cfg0 a).N) i
      = if (i 0).val / 2048 < (nt a.1).toNat then all a V c i else (show Vec Ideal S335872x128 .f32 from V c main_v37) i := by
  have hN : (cfg0 a).N = 164 := N_lt a
  have h1 := h.one_le
  have hi0 : (i 0).val < 335872 := (i 0).isLt
  refine ((dats a V 0 c).arrAt_eq_piecewise 4 (all a V c) ?_ i).trans ?_
  · intro t ht
    funext y
    blk_simp
    rw [after0_4]
    have hy0 : ((show S2048x128.Idx from y) 0).val < 2048 := ((show S2048x128.Idx from y) 0).isLt
    refine Eq.trans ?_ (congrArg (all a V c) (emb4 a h t y)).symm
    have hn := h.nt_lt
    have ht' := t.isLt
    unfold all
    refine congrArg₂ (fun u v => outAt a V c u v) (Fin.ext ?_) (funext fun b => Fin.ext ?_)
    · show min t.val ((nt a.1).toNat - 1) = (min t.val ((nt a.1).toNat - 1) * 2048 + ((show S2048x128.Idx from y) 0).val) / 2048
      omega
    · match b with
      | ⟨0, _⟩ => show ((show S2048x128.Idx from y) 0).val = (min t.val ((nt a.1).toNat - 1) * 2048 + ((show S2048x128.Idx from y) 0).val) % 2048; omega
      | ⟨1, _⟩ => rfl
  · have key : (∃ t : Fin (cfg0 a).N, ((cfg0 a).win 4).flush t = true ∧ i ∈ (((cfg0 a).win 4).blk t).view.set) ↔ (i 0).val / 2048 < (nt a.1).toNat := by
      constructor
      · rintro ⟨t, hf, hm⟩
        rw [flush4 a h t, decide_eq_true_eq] at hf
        obtain ⟨y, hy⟩ := View.exists_emb_of_mem_set _ hm
        have e := (emb4 a h t y).symm.trans hy
        have e0 : min t.val ((nt a.1).toNat - 1) * 2048 + ((show S2048x128.Idx from y) 0).val = (i 0).val := congrArg Fin.val (congrFun e 0)
        have hy0 : ((show S2048x128.Idx from y) 0).val < 2048 := ((show S2048x128.Idx from y) 0).isLt
        omega
      · intro hk
        have hf : ∃ t : Fin (cfg0 a).N, (t.val + 1 < (nt a.1).toNat ∨ t.val + 1 = 164) ∧ min t.val ((nt a.1).toNat - 1) = (i 0).val / 2048 := by
          by_cases hl : (i 0).val / 2048 + 1 < (nt a.1).toNat
          · exact ⟨⟨(i 0).val / 2048, by rw [hN]; omega⟩, Or.inl hl, by show min ((i 0).val / 2048) _ = _; omega⟩
          · exact ⟨⟨163, by rw [hN]; omega⟩, Or.inr rfl, by show min 163 _ = _; omega⟩
        obtain ⟨t, ht, hb⟩ := hf
        refine ⟨t, by rw [flush4 a h t, decide_eq_true_eq]; exact ht, ?_⟩
        let y : S2048x128.Idx := ix2 ⟨(i 0).val % 2048, Nat.mod_lt _ (by omega)⟩ (i 1)
        have e := emb4 a h t y
        have e' : (show S335872x128.Idx from (((cfg0 a).win 4).blk t).view.emb y) = i := by
          rw [e]
          refine funext fun b => Fin.ext ?_
          match b with
          | ⟨0, _⟩ => show min t.val ((nt a.1).toNat - 1) * 2048 + (i 0).val % 2048 = (i 0).val; omega
          | ⟨1, _⟩ => rfl
        exact e' ▸ View.emb_mem_set _ y
    by_cases hk : (i 0).val / 2048 < (nt a.1).toNat
    · exact (if_pos (key.mpr hk)).trans (if_pos hk).symm
    · exact (if_neg (fun q => hk (key.mp q))).trans (if_neg hk).symm

end Cert.ExpertsIdeal.Hand

end
-- ==== Proof.ExpertsRef.lean ====
module

public import proofs.«01_k».proof.Proof.Plan
public import proofs.«01_k».proof.Proof.Gen.ExpertsReferenceIdeal
public import Idealize.ShloMosaic.Lib.Pipeline.ValueKit
public import Idealize.ShloMosaic.Lib.Pointwise

/-!
The reference of the expert layers, stage by stage, and each stage at an entry.
-/

@[expose] public section

set_option maxRecDepth 16384

noncomputable section

open Idealize.ShloMosaic Idealize.ShloMosaic.TcCoe Idealize.SL.Sem

namespace Cert.ExpertsReferenceIdeal.Value

open Cert.ExpertsReferenceIdeal Cert.ExpertsReferenceIdeal.Gen Cert.ExpertsReferenceIdeal.Facts

variable [Cert.Pre_rows_routed.Facts]

/-- A layer's expert matrices into the hidden rows. -/
def up (l : IVec S1 32) (w : FVec Ideal S2x32x1024x256 .f32) : FVec Ideal S32x1024x256 .f32 :=
  select (broadcastInDim S32x1024x256 ![] bcast_S_S32x1024x256 (cmpi .eq (shapeCast S_ l shapeCasts_S1_S_) (constantI S_ 32 0#32)))
    (shapeCast S32x1024x256 (extractStridedSlice S1x32x1024x256 ![0, 0, 0, 0] w slices_S2x32x1024x256_S1x32x1024x256_0_0_0_0)
      shapeCasts_S1x32x1024x256_S32x1024x256)
    (shapeCast S32x1024x256 (extractStridedSlice S1x32x1024x256 ![1, 0, 0, 0] w slices_S2x32x1024x256_S1x32x1024x256_1_0_0_0)
      shapeCasts_S1x32x1024x256_S32x1024x256)

/-- A layer's expert matrices out of the hidden rows. -/
def down (l : IVec S1 32) (w : FVec Ideal S2x32x256x1024 .f32) : FVec Ideal S32x256x1024 .f32 :=
  select (broadcastInDim S32x256x1024 ![] bcast_S_S32x256x1024 (cmpi .eq (shapeCast S_ l shapeCasts_S1_S_) (constantI S_ 32 0#32)))
    (shapeCast S32x256x1024 (extractStridedSlice S1x32x256x1024 ![0, 0, 0, 0] w slices_S2x32x256x1024_S1x32x256x1024_0_0_0_0)
      shapeCasts_S1x32x256x1024_S32x256x1024)
    (shapeCast S32x256x1024 (extractStridedSlice S1x32x256x1024 ![1, 0, 0, 0] w slices_S2x32x256x1024_S1x32x256x1024_1_0_0_0)
      shapeCasts_S1x32x256x1024_S32x256x1024)

/-- Where each expert's rows end. -/
def ends (x : FVec Ideal S1x128 .f32) : IVec S32 32 :=
  Host.reduceWindow IntOp.addi ![32] ![1] ![31] ![0] (Plan.padded x) (broadcastInDim S_ ![] bcast_S_S_ (constantI S_ 32 0#32))
    reduceWindows_S32_S32_w32s1p31_0 h_S_

/-- Each row's expert. -/
def expert (e : IVec S32 32) : IVec S41984 32 :=
  minsi (Host.reduce IntOp.addi (extui 32 (cmpi .sge
      (broadcastInDim S41984x32 ![0, 1] bcast_S41984x1_S41984x32_0_1 (broadcastInDim S41984x1 ![0] bcast_S41984_S41984x1_0 (iotaInDim S41984 32 0)))
      (broadcastInDim S41984x32 ![0, 1] bcast_S1x32_S41984x32_0_1 (broadcastInDim S1x32 ![1] bcast_S32_S1x32_1 e))) natLt_1_32)
      (constantI S_ 32 0#32) reducesTo_S41984x32_S41984_d1 h_S_)
    (broadcastInDim S41984 ![] bcast_S_S41984 (constantI S_ 32 31#32))

/-- The gates: one at a row's expert, zero at the others. -/
def gates (k : IVec S41984 32) : FVec Ideal S41984x32 .f32 :=
  uitofp .f32 (cmpi .eq
    (broadcastInDim S41984x32 ![0, 1] bcast_S41984x1_S41984x32_0_1 (broadcastInDim S41984x1 ![0] bcast_S41984_S41984x1_0 k))
    (broadcastInDim S41984x32 ![0, 1] bcast_S1x32_S41984x32_0_1 (iotaInDim S1x32 32 1)))

/-- Every row times every expert's matrix. -/
def prods (x : FVec Ideal S41984x1024 .f32) (w : FVec Ideal S32x1024x256 .f32) : FVec Ideal S41984x32x256 .f32 :=
  Host.dotGeneral dot_S41984x1024_S32x1024x256_S41984x32x256_1_1_0_02_n_n none x w

/-- The gated hidden rows. -/
def hidden (a b : FVec Ideal S41984x32x256 .f32) (g : FVec Ideal S41984x32 .f32) : FVec Ideal S41984x32x256 .f32 :=
  mulf (mulf (mulf a (Host.divf (broadcastInDim S41984x32x256 ![] bcast_S_S41984x32x256 (constant S_ .f32 0x3F800000#32))
      (addf (broadcastInDim S41984x32x256 ![] bcast_S_S41984x32x256 (constant S_ .f32 0x3F800000#32)) (Host.exp (Host.negf a))))) b)
    (broadcastInDim S41984x32x256 ![0, 1, 2] bcast_S41984x32x1_S41984x32x256_0_1_2
      (broadcastInDim S41984x32x1 ![0, 1] bcast_S41984x32_S41984x32x1_0_1 g))

/-- The rows out. -/
def mixed (h : FVec Ideal S41984x32x256 .f32) (w : FVec Ideal S32x256x1024 .f32) : FVec Ideal S41984x1024 .f32 :=
  Host.dotGeneral dot_S41984x32x256_S32x256x1024_S41984x1024_12_01_0_2_n_n none h w

/-- The result: the rows out up to the last expert's end, and the rows as they came past it. -/
def picked (e : IVec S32 32) (o x : FVec Ideal S41984x1024 .f32) : FVec Ideal S335872x128 .f32 :=
  shapeCast S335872x128 (select (broadcastInDim S41984x1024 ![0, 1] bcast_S41984x1_S41984x1024_0_1
      (broadcastInDim S41984x1 ![0] bcast_S41984_S41984x1_0 (cmpi .slt (iotaInDim S41984 32 0)
        (broadcastInDim S41984 ![] bcast_S_S41984 (shapeCast S_ (extractStridedSlice S1 ![31] e slices_S32_S1_31) shapeCasts_S1_S_)))))
    o x) shapeCasts_S41984x1024_S335872x128

/-- The rows as the reference takes them. -/
def rows (x : FVec Ideal S335872x128 .f32) : FVec Ideal S41984x1024 .f32 := shapeCast S41984x1024 x shapeCasts_S335872x128_S41984x1024

/-- The reference's result. -/
def meaning (l : IVec S1 32) (x : FVec Ideal S1x128 .f32) (xs : FVec Ideal S335872x128 .f32) (w1 w3 : FVec Ideal S2x32x1024x256 .f32)
    (w2 : FVec Ideal S2x32x256x1024 .f32) : FVec Ideal S335872x128 .f32 :=
  picked (ends x) (mixed (hidden (prods (rows xs) (up l w1)) (prods (rows xs) (up l w3)) (gates (expert (ends x)))) (down l w2)) (rows xs)

theorem scalar_at (l : IVec S1 32) (h : S1.ShapeCasts S_) (j : S_.Idx) : shapeCast S_ l h j = l (ix1 0) := by
  unfold shapeCast
  refine congrArg l (funext fun a => ?_)
  match a with
  | ⟨0, _⟩ => exact Subsingleton.elim (α := Fin 1) _ _

theorem zero_or_one (a : BitVec 32) (h : a.toNat < 2) : a = 0#32 ∨ a = 1#32 := by
  rcases (by omega : a.toNat = 0 ∨ a.toNat = 1) with h | h
  · exact Or.inl (BitVec.eq_of_toNat_eq h)
  · exact Or.inr (BitVec.eq_of_toNat_eq h)

theorem up_at (l : IVec S1 32) (hl : (l (ix1 0)).toNat < 2) (w : FVec Ideal S2x32x1024x256 .f32) (e : Fin 32) (d : Fin 1024) (f : Fin 256) :
    up l w (ix3 e d f) = w (ix4 ⟨(l (ix1 0)).toNat, hl⟩ e d f) := by
  have hc : (broadcastInDim S32x1024x256 ![] bcast_S_S32x1024x256 (cmpi .eq (shapeCast S_ l shapeCasts_S1_S_) (constantI S_ 32 0#32)) : IVec S32x1024x256 1)
      (ix3 e d f) = IntOp.cmpi .eq (l (ix1 0)) 0#32 := by
    refine (Routing.bc0 _ _ _).trans ?_
    exact congrArg (IntOp.cmpi .eq · 0#32) (scalar_at l _ _)
  have e0 : shapeCast S32x1024x256 (extractStridedSlice S1x32x1024x256 ![0, 0, 0, 0] w slices_S2x32x1024x256_S1x32x1024x256_0_0_0_0)
      shapeCasts_S1x32x1024x256_S32x1024x256 (ix3 e d f) = w (ix4 0 e d f) := by pointwise
  have e1 : shapeCast S32x1024x256 (extractStridedSlice S1x32x1024x256 ![1, 0, 0, 0] w slices_S2x32x1024x256_S1x32x1024x256_1_0_0_0)
      shapeCasts_S1x32x1024x256_S32x1024x256 (ix3 e d f) = w (ix4 1 e d f) := by pointwise
  unfold up select
  rw [hc, e0, e1]
  rcases zero_or_one _ hl with h | h
  · have hv : (⟨(l (ix1 0)).toNat, hl⟩ : Fin 2) = 0 := Fin.ext (show (l (ix1 0)).toNat = 0 from congrArg BitVec.toNat h)
    rw [hv, h]; rfl
  · have hv : (⟨(l (ix1 0)).toNat, hl⟩ : Fin 2) = 1 := Fin.ext (show (l (ix1 0)).toNat = 1 from congrArg BitVec.toNat h)
    rw [hv, h]; rfl

theorem down_at (l : IVec S1 32) (hl : (l (ix1 0)).toNat < 2) (w : FVec Ideal S2x32x256x1024 .f32) (e : Fin 32) (f : Fin 256) (d : Fin 1024) :
    down l w (ix3 e f d) = w (ix4 ⟨(l (ix1 0)).toNat, hl⟩ e f d) := by
  have hc : (broadcastInDim S32x256x1024 ![] bcast_S_S32x256x1024 (cmpi .eq (shapeCast S_ l shapeCasts_S1_S_) (constantI S_ 32 0#32)) : IVec S32x256x1024 1)
      (ix3 e f d) = IntOp.cmpi .eq (l (ix1 0)) 0#32 := by
    refine (Routing.bc0 _ _ _).trans ?_
    exact congrArg (IntOp.cmpi .eq · 0#32) (scalar_at l _ _)
  have e0 : shapeCast S32x256x1024 (extractStridedSlice S1x32x256x1024 ![0, 0, 0, 0] w slices_S2x32x256x1024_S1x32x256x1024_0_0_0_0)
      shapeCasts_S1x32x256x1024_S32x256x1024 (ix3 e f d) = w (ix4 0 e f d) := by pointwise
  have e1 : shapeCast S32x256x1024 (extractStridedSlice S1x32x256x1024 ![1, 0, 0, 0] w slices_S2x32x256x1024_S1x32x256x1024_1_0_0_0)
      shapeCasts_S1x32x256x1024_S32x256x1024 (ix3 e f d) = w (ix4 1 e f d) := by pointwise
  unfold down select
  rw [hc, e0, e1]
  rcases zero_or_one _ hl with h | h
  · have hv : (⟨(l (ix1 0)).toNat, hl⟩ : Fin 2) = 0 := Fin.ext (show (l (ix1 0)).toNat = 0 from congrArg BitVec.toNat h)
    rw [hv, h]; rfl
  · have hv : (⟨(l (ix1 0)).toNat, hl⟩ : Fin 2) = 1 := Fin.ext (show (l (ix1 0)).toNat = 1 from congrArg BitVec.toNat h)
    rw [hv, h]; rfl

theorem ends_at (x : FVec Ideal S1x128 .f32) (j : Fin 32) : ends x (ix1 j) = Plan.ends x j :=
  Plan.running _ _ (Routing.bc0 _ _ _) _ _ j

theorem expert_at (e : IVec S32 32) (r : Fin 41984) :
    expert e (ix1 r) = BitVec.ofNat 32 (Plan.expert (fun j => e (ix1 j)) (BitVec.ofNat 32 r.val)) :=
  Plan.row_expert (iotaInDim S41984 32 0) e bcast_S41984_S41984x1_0 bcast_S41984x1_S41984x32_0_1 bcast_S32_S1x32_1 bcast_S1x32_S41984x32_0_1
    bcast_S_S41984 natLt_1_32 reducesTo_S41984x32_S41984_d1 h_S_ r

theorem gates_at (k : IVec S41984 32) (r : Fin 41984) (n : ℕ) (hn : n < 32) (hk : k (ix1 r) = BitVec.ofNat 32 n) (e : Fin 32) :
    gates k (ix2 r e) = if e.val = n then (1 : EReal) else 0 := by
  have hs : gates k (ix2 r e) = FloatOps.uitofp (F := Ideal) .f32 (IntOp.cmpi .eq (k (ix1 r)) (BitVec.ofNat 32 e.val)) := by
    pointwise [gates]
  rw [hs, hk]
  have hv : (BitVec.ofNat 32 n = BitVec.ofNat 32 e.val) ↔ e.val = n := by
    constructor
    · intro h
      have := congrArg BitVec.toNat h
      simp only [BitVec.toNat_ofNat] at this
      omega
    · intro h; rw [h]
  show (((IntOp.cmpi .eq (BitVec.ofNat 32 n) (BitVec.ofNat 32 e.val) : BitVec 1).toNat : ℝ) : EReal) = _
  by_cases h : e.val = n
  · rw [if_pos h, ← h]
    simp [IntOp.cmpi]
  · have h' : BitVec.ofNat 32 n ≠ BitVec.ofNat 32 e.val := fun q => h (hv.mp q)
    rw [if_neg h]
    simp [IntOp.cmpi, h']

theorem prods_at (x : FVec Ideal S41984x1024 .f32) (w : FVec Ideal S32x1024x256 .f32) (r : Fin 41984) (e : Fin 32) (f : Fin 256) :
    prods x w (ix3 r e f) = ∑ d : Fin 1024, x (ix2 r d) * w (ix3 e d f) := by
  pointwise [prods]

theorem hidden_at (a b : FVec Ideal S41984x32x256 .f32) (g : FVec Ideal S41984x32 .f32) (r : Fin 41984) (e : Fin 32) (f : Fin 256) :
    hidden a b g (ix3 r e f) = a (ix3 r e f) * Ideal.div 1 (1 + Ideal.exp (-(a (ix3 r e f)))) * b (ix3 r e f) * g (ix2 r e) := by
  pointwise [hidden]

theorem mixed_at (h : FVec Ideal S41984x32x256 .f32) (w : FVec Ideal S32x256x1024 .f32) (r : Fin 41984) (d : Fin 1024) :
    mixed h w (ix2 r d) = ∑ e : Fin 32, ∑ f : Fin 256, h (ix3 r e f) * w (ix3 e f d) := by
  pointwise [mixed]

theorem picked_at (e : IVec S32 32) (o x : FVec Ideal S41984x1024 .f32) (r : Fin 41984) (j : Fin 8) (q : Fin 128) :
    picked e o x (ix2 ⟨8 * r.val + j.val, by omega⟩ q)
      = Scalar.select (IntOp.cmpi .slt (BitVec.ofNat 32 r.val) (e (ix1 31))) (o (ix2 r ⟨128 * j.val + q.val, by omega⟩))
          (x (ix2 r ⟨128 * j.val + q.val, by omega⟩)) := by
  pointwise [picked]
  simp only [show (8 * r.val + j.val) % 8 * 128 + q.val = 128 * j.val + q.val by omega]

theorem rows_at (x : FVec Ideal S335872x128 .f32) (r : Fin 41984) (j : Fin 8) (q : Fin 128) :
    rows x (ix2 r ⟨128 * j.val + q.val, by omega⟩) = x (ix2 ⟨8 * r.val + j.val, by omega⟩ q) := by
  pointwise [rows]
  simp only [show r.val * 8 + (128 * j.val + q.val) / 128 = 8 * r.val + j.val by omega]

end Cert.ExpertsReferenceIdeal.Value

end
-- ==== Proof.ExpertsMeaning.lean ====
module

public import proofs.«01_k».proof.Proof.ExpertsEntry
public import proofs.«01_k».proof.Proof.ExpertsRef

/-!
A row after its expert, and the reference's rows as such.
-/

@[expose] public section

set_option maxRecDepth 16384

noncomputable section

open Idealize.ShloMosaic Idealize.ShloMosaic.TcCoe Idealize.SL.Sem

namespace Cert.Meaning.Experts

open Cert.ExpertsIdeal

variable [Cert.Pre_rows_routed.Facts]

/-- Entry `d` of row `r`: the row is eight rows of 128 in the array. -/
def entry (xs : FVec Ideal S335872x128 .f32) (r : Fin 41984) (d : Fin 1024) : EReal :=
  xs (ix2 ⟨8 * r.val + d.val / 128, by omega⟩ ⟨d.val % 128, Nat.mod_lt _ (by omega)⟩)

/-- Entry `k` of row `r` after expert `n` of layer `l`: the gated hidden entries, each `a · (1 / (1 + e⁻ᵃ)) · b` of the row's two products,
    times the expert's matrix out. -/
def value (xs : FVec Ideal S335872x128 .f32) (w1 w3 : FVec Ideal S2x32x1024x256 .f32) (w2 : FVec Ideal S2x32x256x1024 .f32)
    (l : Fin 2) (n : Fin 32) (r : Fin 41984) (k : Fin 1024) : EReal :=
  ∑ f : Fin 256, Hand.act (∑ d : Fin 1024, entry xs r d * w1 (ix4 l n d f)) (∑ d : Fin 1024, entry xs r d * w3 (ix4 l n d f)) * w2 (ix4 l n f k)

open Cert.ExpertsReferenceIdeal.Value

theorem rows_entry (xs : FVec Ideal S335872x128 .f32) (r : Fin 41984) (d : Fin 1024) : rows xs (ix2 r d) = entry xs r d := by
  have e : d = ⟨128 * (d.val / 128) + d.val % 128, by omega⟩ := Fin.ext (by show d.val = 128 * (d.val / 128) + d.val % 128; omega)
  refine (congrArg (fun d => rows xs (ix2 r d)) e).trans ?_
  exact rows_at xs r ⟨d.val / 128, by omega⟩ ⟨d.val % 128, Nat.mod_lt _ (by omega)⟩

theorem hidden_row (l : IVec S1 32) (hl : (l (ix1 0)).toNat < 2) (xs : FVec Ideal S335872x128 .f32) (w1 w3 : FVec Ideal S2x32x1024x256 .f32)
    (g : FVec Ideal Cert.ExpertsReferenceIdeal.S41984x32 .f32) (r : Fin 41984) (e : Fin 32) (f : Fin 256) :
    hidden (prods (rows xs) (up l w1)) (prods (rows xs) (up l w3)) g (ix3 r e f)
      = Hand.act (∑ d : Fin 1024, entry xs r d * w1 (ix4 ⟨(l (ix1 0)).toNat, hl⟩ e d f)) (∑ d : Fin 1024, entry xs r d * w3 (ix4 ⟨(l (ix1 0)).toNat, hl⟩ e d f))
        * g (ix2 r e) := by
  have p : ∀ w : FVec Ideal S2x32x1024x256 .f32, prods (rows xs) (up l w) (ix3 r e f)
      = ∑ d : Fin 1024, entry xs r d * w (ix4 ⟨(l (ix1 0)).toNat, hl⟩ e d f) := fun w => by
    rw [prods_at]
    exact Finset.sum_congr rfl fun d _ => by rw [rows_entry, up_at l hl]
  rw [hidden_at, p, p]
  rfl

/-- Of a sum over the experts, gated by one at a row's expert and zero at the others, the row's expert's term is left. -/
theorem mixed_row (l : IVec S1 32) (hl : (l (ix1 0)).toNat < 2) (xs : FVec Ideal S335872x128 .f32) (w1 w3 : FVec Ideal S2x32x1024x256 .f32)
    (w2 : FVec Ideal S2x32x256x1024 .f32) (q : IVec Cert.ExpertsReferenceIdeal.S41984 32) (r : Fin 41984) (n : Fin 32) (hq : q (ix1 r) = BitVec.ofNat 32 n.val) (k : Fin 1024) :
    mixed (hidden (prods (rows xs) (up l w1)) (prods (rows xs) (up l w3)) (gates q)) (down l w2) (ix2 r k)
      = value xs w1 w3 w2 ⟨(l (ix1 0)).toNat, hl⟩ n r k := by
  rw [mixed_at, Finset.sum_eq_single n]
  · refine Finset.sum_congr rfl fun f _ => ?_
    rw [hidden_row l hl, gates_at q r n.val n.isLt hq, if_pos rfl, mul_one, down_at l hl]
  · intro e _ hne
    refine Finset.sum_eq_zero fun f _ => ?_
    rw [hidden_row l hl, gates_at q r n.val n.isLt hq, if_neg (fun h => hne (Fin.ext h)), mul_zero, zero_mul]
  · exact fun h => absurd (Finset.mem_univ n) h

/-- The reference's result at a row: after its expert up to the last expert's end, as it came past it. -/
theorem reference_at (l : IVec S1 32) (hl : (l (ix1 0)).toNat < 2) (x : FVec Ideal S1x128 .f32) (h0 : 0 < (Plan.ends x 31).toInt)
    (xs : FVec Ideal S335872x128 .f32) (w1 w3 : FVec Ideal S2x32x1024x256 .f32)
    (w2 : FVec Ideal S2x32x256x1024 .f32) (b : Fin 164) (s : Fin 256) (j : Fin 8) (c : Fin 128) :
    meaning l x xs w1 w3 w2 (ix2 ⟨8 * (256 * b.val + s.val) + j.val, by omega⟩ c)
      = if b.val < (Plan.ends x 31).toNat / 256 then
          value xs w1 w3 w2 ⟨(l (ix1 0)).toNat, hl⟩ ⟨Plan.expert (Plan.ends x) (BitVec.ofNat 32 (256 * b.val)), Plan.expert_lt _ _⟩
            ⟨256 * b.val + s.val, by omega⟩ ⟨128 * j.val + c.val, by omega⟩
        else xs (ix2 ⟨8 * (256 * b.val + s.val) + j.val, by omega⟩ c) := by
  have hq : expert (ends x) (ix1 ⟨256 * b.val + s.val, by omega⟩)
      = BitVec.ofNat 32 (Plan.expert (Plan.ends x) (BitVec.ofNat 32 (256 * b.val))) := by
    rw [expert_at]
    have e : (fun j => ends x (ix1 j)) = Plan.ends x := funext fun j => ends_at x j
    rw [e]
    exact congrArg _ (Plan.expert_tile _ (Plan.ends_dvd x) b.val s.val b.isLt s.isLt)
  have hm := mixed_row l hl xs w1 w3 w2 (expert (ends x)) ⟨256 * b.val + s.val, by omega⟩
    ⟨Plan.expert (Plan.ends x) (BitVec.ofNat 32 (256 * b.val)), Plan.expert_lt _ _⟩ hq ⟨128 * j.val + c.val, by omega⟩
  have hx := rows_at xs ⟨256 * b.val + s.val, by omega⟩ j c
  have he := ends_at x 31
  unfold meaning
  generalize mixed (hidden (prods (rows xs) (up l w1)) (prods (rows xs) (up l w3)) (gates (expert (ends x)))) (down l w2) = o at hm ⊢
  generalize rows xs = o' at hx ⊢
  have hp := picked_at (ends x) o o' ⟨256 * b.val + s.val, by omega⟩ j c
  refine hp.trans ?_
  rw [hm, hx, he]
  have hr := Plan.row_lt (Plan.ends x 31) (Plan.ends_dvd x 31) h0 b.val s.val b.isLt s.isLt
  by_cases h : b.val < (Plan.ends x 31).toNat / 256
  · rw [if_pos h]
    have hc : IntOp.cmpi .slt (BitVec.ofNat 32 (256 * b.val + s.val)) (Plan.ends x 31) = 1#1 := by
      simp only [IntOp.cmpi, BitVec.slt_eq_decide, decide_eq_true (hr.mpr h)]
      rfl
    rw [hc]
    rfl
  · rw [if_neg h]
    have hc : IntOp.cmpi .slt (BitVec.ofNat 32 (256 * b.val + s.val)) (Plan.ends x 31) = 0#1 := by
      simp only [IntOp.cmpi, BitVec.slt_eq_decide, decide_eq_false (fun q => h (hr.mp q))]
      rfl
    rw [hc]
    rfl

end Cert.Meaning.Experts

end
-- ==== Proof.ExpertsEquation.lean ====
module

public import proofs.«01_k».proof.Proof.ExpertsBody
public import proofs.«01_k».proof.Proof.ExpertsTables
public import proofs.«01_k».proof.Proof.ExpertsRun
public import proofs.«01_k».proof.Proof.ExpertsFrame
public import proofs.«01_k».proof.Proof.ExpertsFinal
public import proofs.«01_k».proof.Proof.ExpertsMeaning
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.TableIdle
public import Idealize.ShloMosaic.Lib.Pipeline.Value
public import Idealize.ShloMosaic.Lib.Pipeline.AliasedRuns
public import Idealize.ShloMosaic.Lib.VecWindow
public import Idealize.ShloMosaic.Lib.Pipeline.ValueKit
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

/-!
The expert kernel's result is the reference's: a tile in use holds its rows after the expert its table entry names, and the others what they held.
-/

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem iblk_zero (a : (pcfg0 (F := Ideal)).Adm) (h : Tables a.1)
    (V : (c : Dev nD) → (b : Ref sig .tc) → Buf (Elt Ideal) ((c.tc : Thread nD τ).loc b)) (c : Dev nD) (t : Fin (cfg0 a).N)
    (ht : t.val < (nt a.1).toNat) (y : S2048x128.Idx) :
    (show Vec Ideal S2048x128 .f32 from iblk a V c 0 t) y = (show Vec Ideal S335872x128 .f32 from V c main_arg2)
      (ix2 ⟨t.val * 2048 + (y 0).val, by
          have h0 : (y 0).val < 2048 := (y 0).isLt
          have h1 : t.val < 164 := lt_of_lt_of_eq t.isLt (N_lt a)
          omega⟩ (y 1)) := by
  have e : cc0_transform_0 inb_S1_S1_0 numel1_S1 a.1 (grid0.coords t) = ![t.val, 0] := by
    rw [ix_zero h, coords_zero]
    have : min t.val ((nt a.1).toNat - 1) = t.val := by omega
    rw [this]
  refine congrArg (show Vec Ideal S335872x128 .f32 from V c main_arg2) (funext fun b => Fin.ext ?_)
  match b with
  | ⟨0, _⟩ =>
    show cc0_transform_0 inb_S1_S1_0 numel1_S1 a.1 (grid0.coords t) 0 * 2048 + 1 * (y 0).val = t.val * 2048 + (y 0).val
    rw [e]
    show t.val * 2048 + 1 * (y 0).val = _
    omega
  | ⟨1, _⟩ =>
    show cc0_transform_0 inb_S1_S1_0 numel1_S1 a.1 (grid0.coords t) 1 * 128 + 1 * (y 1).val = (y 1).val
    rw [e]
    show 0 * 128 + 1 * (y 1).val = _
    omega

theorem list_up (w : FVec Ideal S2x32x1024x256 .f32) (l : Fin 2) (n : Fin 32) (d : Fin 1024) (f : Fin 256) (e : Fin 64) (he : e.val = n.val + l.val * 32) :
    shapeCast S64x1024x256 w shapeCasts_S2x32x1024x256_S64x1024x256 (ix3 e d f) = w (ix4 l n d f) := by
  have e' : e = ⟨l.val * 32 + n.val, by omega⟩ := Fin.ext (by show e.val = l.val * 32 + n.val; omega)
  refine (congrArg (fun e : Fin 64 => shapeCast S64x1024x256 w shapeCasts_S2x32x1024x256_S64x1024x256 (ix3 e d f)) e').trans ?_
  show shapeCast S64x1024x256 w shapeCasts_S2x32x1024x256_S64x1024x256 (ix3 ⟨l.val * 32 + n.val, by omega⟩ d f) = _
  pointwise

theorem list_down (w : FVec Ideal S2x32x256x1024 .f32) (l : Fin 2) (n : Fin 32) (f : Fin 256) (d : Fin 1024) (e : Fin 64) (he : e.val = n.val + l.val * 32) :
    shapeCast S64x256x1024 w shapeCasts_S2x32x256x1024_S64x256x1024 (ix3 e f d) = w (ix4 l n f d) := by
  have e' : e = ⟨l.val * 32 + n.val, by omega⟩ := Fin.ext (by show e.val = l.val * 32 + n.val; omega)
  refine (congrArg (fun e : Fin 64 => shapeCast S64x256x1024 w shapeCasts_S2x32x256x1024_S64x256x1024 (ix3 e f d)) e').trans ?_
  show shapeCast S64x256x1024 w shapeCasts_S2x32x256x1024_S64x256x1024 (ix3 ⟨l.val * 32 + n.val, by omega⟩ f d) = _
  pointwise

/-- What the body stores of a block of rows, the weights' blocks and the casts between them, at a row. -/
theorem tile_at (X : Vec Ideal S2048x128 .f32) (A B : Vec Ideal S1x1024x256 .f32) (C : Vec Ideal S1x256x1024 .f32)
    (xs : FVec Ideal S335872x128 .f32) (w1 w3 : FVec Ideal S2x32x1024x256 .f32) (w2 : FVec Ideal S2x32x256x1024 .f32)
    (b : Fin 164) (l : Fin 2) (n : Fin 32) (s : Fin 256) (j : Fin 8) (q : Fin 128)
    (hX : ∀ y : S2048x128.Idx, X y = xs (ix2 ⟨b.val * 2048 + (y 0).val, by have h0 : (y 0).val < 2048 := (y 0).isLt; omega⟩ (y 1)))
    (hA : ∀ (d : Fin 1024) (f : Fin 256), A (ix3 0 d f) = w1 (ix4 l n d f))
    (hB : ∀ (d : Fin 1024) (f : Fin 256), B (ix3 0 d f) = w3 (ix4 l n d f))
    (hC : ∀ (f : Fin 256) (k : Fin 1024), C (ix3 0 f k) = w2 (ix4 l n f k)) :
    out X (k0_pay1 A) (k0_pay2 B) (k0_pay3 C) (ix2 ⟨8 * s.val + j.val, by omega⟩ q)
      = Meaning.Experts.value xs w1 w3 w2 l n ⟨256 * b.val + s.val, by omega⟩ ⟨128 * j.val + q.val, by omega⟩ := by
  have ei : (ix2 ⟨((ix2 ⟨8 * s.val + j.val, by omega⟩ q : S2048x128.Idx) 0).val / 8, by show (8 * s.val + j.val) / 8 < 256; omega⟩
      ⟨128 * (((ix2 ⟨8 * s.val + j.val, by omega⟩ q : S2048x128.Idx) 0).val % 8) + ((ix2 ⟨8 * s.val + j.val, by omega⟩ q : S2048x128.Idx) 1).val,
        by show 128 * ((8 * s.val + j.val) % 8) + q.val < 1024; omega⟩ : S256x1024.Idx) = ix2 s ⟨128 * j.val + q.val, by omega⟩ := by
    refine funext fun d => Fin.ext ?_
    match d with
    | ⟨0, _⟩ => show (8 * s.val + j.val) / 8 = s.val; omega
    | ⟨1, _⟩ => show 128 * ((8 * s.val + j.val) % 8) + q.val = 128 * j.val + q.val; omega
  refine (out_at X _ _ _ _).trans ((congrArg (prod X _ _ _) ei).trans ?_)
  rw [prod_eq, products_at]
  have ex : ∀ d : Fin 1024, wide X (ix2 s d) = Meaning.Experts.entry xs ⟨256 * b.val + s.val, by omega⟩ d := fun d => by
    refine (wide_at _ s d).trans ((hX _).trans ?_)
    refine congrArg xs (funext fun i => Fin.ext ?_)
    match i with
    | ⟨0, _⟩ => show b.val * 2048 + (8 * s.val + d.val / 128) = 8 * (256 * b.val + s.val) + d.val / 128; omega
    | ⟨1, _⟩ => rfl
  unfold Meaning.Experts.value
  refine Finset.sum_congr rfl fun f _ => ?_
  rw [cast_three_at, hC]
  refine congrArg (· * w2 (ix4 l n f _)) (congrArg₂ act (Finset.sum_congr rfl fun d _ => ?_) (Finset.sum_congr rfl fun d _ => ?_))
  · rw [ex, cast_one_at, hA]
  · rw [ex, cast_two_at, hB]

/-- A tile in use holds its rows after the expert its table entry names. -/
theorem all_at (a : (pcfg0 (F := Ideal)).Adm) (h : Tables a.1)
    (V : (c : Dev nD) → (b : Ref sig .tc) → Buf (Elt Ideal) ((c.tc : Thread nD τ).loc b)) (c : Dev nD)
    (xs : FVec Ideal S335872x128 .f32) (w1 w3 : FVec Ideal S2x32x1024x256 .f32) (w2 : FVec Ideal S2x32x256x1024 .f32)
    (hx : (show Vec Ideal S335872x128 .f32 from V c main_arg2) = xs)
    (h1 : (show Vec Ideal S64x1024x256 .f32 from V c main_v34) = shapeCast S64x1024x256 w1 shapeCasts_S2x32x1024x256_S64x1024x256)
    (h3 : (show Vec Ideal S64x1024x256 .f32 from V c main_v35) = shapeCast S64x1024x256 w3 shapeCasts_S2x32x1024x256_S64x1024x256)
    (h2 : (show Vec Ideal S64x256x1024 .f32 from V c main_v36) = shapeCast S64x256x1024 w2 shapeCasts_S2x32x256x1024_S64x256x1024)
    (b : Fin 164) (hb : b.val < (nt a.1).toNat) (l : Fin 2) (n : Fin 32) (he : (te a.1 b).toNat = n.val + l.val * 32)
    (s : Fin 256) (j : Fin 8) (q : Fin 128) :
    all a V c (ix2 ⟨8 * (256 * b.val + s.val) + j.val, by omega⟩ q)
      = Meaning.Experts.value xs w1 w3 w2 l n ⟨256 * b.val + s.val, by omega⟩ ⟨128 * j.val + q.val, by omega⟩ := by
  let t : Fin (cfg0 a).N := ⟨b.val, by rw [N_lt]; exact b.isLt⟩
  have e0 : all a V c (ix2 ⟨8 * (256 * b.val + s.val) + j.val, by omega⟩ q) = outAt a V c t (ix2 ⟨8 * s.val + j.val, by omega⟩ q) := by
    unfold all
    refine congrArg₂ (fun u v => outAt a V c u v) (Fin.ext ?_) (funext fun d => Fin.ext ?_)
    · show (8 * (256 * b.val + s.val) + j.val) / 2048 = b.val; omega
    · match d with
      | ⟨0, _⟩ => show (8 * (256 * b.val + s.val) + j.val) % 2048 = 8 * s.val + j.val; omega
      | ⟨1, _⟩ => rfl
  rw [e0]
  have hc : (grid0.coords t) 0 = b := Fin.ext (coords_zero t)
  have et : (⟨(te a.1 ((grid0.coords t) 0)).toNat, h.te_lt _⟩ : Fin 64).val = n.val + l.val * 32 := by
    show (te a.1 ((grid0.coords t) 0)).toNat = _
    rw [hc]; exact he
  unfold outAt
  refine tile_at (iblk a V c 0 t) (iblk a V c 1 t) (iblk a V c 2 t) (iblk a V c 3 t) xs w1 w3 w2 b l n s j q ?_ ?_ ?_ ?_
  · intro y
    exact (iblk_zero a h V c t hb y).trans (congrFun hx _)
  · intro d f
    exact (iblk_one a V h c t _).trans ((congrFun h1 _).trans (list_up w1 l n d f _ et))
  · intro d f
    exact (iblk_two a V h c t _).trans ((congrFun h3 _).trans (list_up w3 l n d f _ et))
  · intro f k
    exact (iblk_three a V h c t _).trans ((congrFun h2 _).trans (list_down w2 l n f k _ et))

variable [Cert.Pre_rows_routed.Facts]

theorem row_split (p : Fin 335872) : ∃ (b : Fin 164) (s : Fin 256) (j : Fin 8), p = ⟨8 * (256 * b.val + s.val) + j.val, by omega⟩ :=
  ⟨⟨p.val / 2048, by omega⟩, ⟨p.val % 2048 / 8, by omega⟩, ⟨p.val % 8, by omega⟩, Fin.ext (by
    show p.val = 8 * (256 * (p.val / 2048) + p.val % 2048 / 8) + p.val % 8; omega)⟩

/-- The call's result, where its tables are those of the arguments, is the reference's. -/
theorem joined (a : (pcfg0 (F := Ideal)).Adm) (h : Tables a.1)
    (V : (c : Dev nD) → (b : Ref sig .tc) → Buf (Elt Ideal) ((c.tc : Thread nD τ).loc b)) (c : Dev nD)
    (l : IVec S1 32) (x : FVec Ideal S1x128 .f32)
    (xs : FVec Ideal S335872x128 .f32) (w1 w3 : FVec Ideal S2x32x1024x256 .f32) (w2 : FVec Ideal S2x32x256x1024 .f32)
    (hx : (show Vec Ideal S335872x128 .f32 from V c main_arg2) = xs)
    (hv : (show Vec Ideal S335872x128 .f32 from V c main_v37) = xs)
    (h1 : (show Vec Ideal S64x1024x256 .f32 from V c main_v34) = shapeCast S64x1024x256 w1 shapeCasts_S2x32x1024x256_S64x1024x256)
    (h3 : (show Vec Ideal S64x1024x256 .f32 from V c main_v35) = shapeCast S64x1024x256 w3 shapeCasts_S2x32x1024x256_S64x1024x256)
    (h2 : (show Vec Ideal S64x256x1024 .f32 from V c main_v36) = shapeCast S64x256x1024 w2 shapeCasts_S2x32x256x1024_S64x256x1024)
    (hl : (l (ix1 0)).toNat < 2) (h0 : 0 < (Plan.ends x 31).toInt)
    (hn : (nt a.1).toNat = (Plan.ends x 31).toNat / 256)
    (hte : ∀ b : Fin 164, (te a.1 b).toNat = Plan.expert (Plan.ends x) (BitVec.ofNat 32 (256 * b.val)) + (l (ix1 0)).toNat * 32) :
    (show Vec Ideal S335872x128 .f32 from (dats a V 0 c).arrAt 4 (cfg0 a).N)
      = Cert.ExpertsReferenceIdeal.Value.meaning l x xs w1 w3 w2 := by
  refine funext fun i => ?_
  obtain ⟨p, q, rfl⟩ : ∃ (p : Fin 335872) (q : Fin 128), i = ix2 p q := ⟨i 0, i 1, funext fun i => match i with
    | ⟨0, _⟩ => rfl
    | ⟨1, _⟩ => rfl⟩
  obtain ⟨b, s, j, rfl⟩ := row_split p
  refine (final a h V c _).trans ?_
  refine Eq.trans ?_ (Meaning.Experts.reference_at l hl x h0 xs w1 w3 w2 b s j q).symm
  have hd : (8 * (256 * b.val + s.val) + j.val) / 2048 = b.val := by omega
  by_cases hb : b.val < (Plan.ends x 31).toNat / 256
  · have hb' : b.val < (nt a.1).toNat := by rw [hn]; exact hb
    have hi : (8 * (256 * b.val + s.val) + j.val) / 2048 < (nt a.1).toNat := by rw [hd]; exact hb'
    have hall := all_at a h V c xs w1 w3 w2 hx h1 h3 h2 b hb' ⟨(l (ix1 0)).toNat, hl⟩
      ⟨Plan.expert (Plan.ends x) (BitVec.ofNat 32 (256 * b.val)), Plan.expert_lt _ _⟩ (hte b) s j q
    exact (if_pos hi).trans (hall.trans (if_pos hb).symm)
  · have hi : ¬ (8 * (256 * b.val + s.val) + j.val) / 2048 < (nt a.1).toNat := by rw [hd, hn]; exact hb
    exact (if_neg hi).trans ((congrFun hv _).trans (if_neg hb).symm)

variable (m : (ℓ : Loc nD τ sig) → Buf (Elt Ideal) ℓ)

set_option maxHeartbeats 4000000 in
/-- The kernel's result is the reference's of its arguments. -/
theorem result (hr : Routed m) :
    (show Vec Ideal S335872x128 .f32 from (dats (adm m hr) (Vm m) 0 0).arrAt 4 (cfg0 (adm m hr)).N)
      = Cert.ExpertsReferenceIdeal.Value.meaning (m (((0 : Dev nD) : Thread nD τ).loc main_arg0)) (m (((0 : Dev nD) : Thread nD τ).loc main_arg1))
          (m (((0 : Dev nD) : Thread nD τ).loc main_arg2)) (m (((0 : Dev nD) : Thread nD τ).loc main_arg3))
          (m (((0 : Dev nD) : Thread nD τ).loc main_arg4)) (m (((0 : Dev nD) : Thread nD τ).loc main_arg5)) :=
  joined (adm m hr) (tables_ok m hr) (Vm m) 0 _ _ _ _ _ _ (V_main_arg2 m 0) (V_result m 0) (V_w1 m 0) (V_w3 m 0) (V_w2 m 0) hr.layer_lt hr.pos
    (nt_tables m hr) (te_tables m hr)

/-- The kernel runs, its result the reference's of its arguments, and its arguments are left. -/
theorem run_value (hr : Routed m) (ρ : Dev nD → PrngReg) :
    θ_run defs (onTc (τ := τ) (main (F := Ideal))) ⟨m, fun _ => 0, ρ⟩ (fun r => ∀ c : Dev nD,
      r.2.mem ((c.tc : Thread nD τ).loc main_v37) = Cert.ExpertsReferenceIdeal.Value.meaning (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨by
      have hc : c = 0 := Subsingleton.elim (α := Fin 1) _ _
      subst hc
      exact ((h.1 0).1 4).trans (result m hr),
      ((h.1 c).2 main_arg0 (Pipeline.mem_restRefs_of main_arg0 (by decide) (by decide : ∀ w : Fin 5, (spec0 w).arr.view.ref ≠ main_arg0))).trans (V_main_arg0 m c),
      ((h.1 c).2 main_arg1 (Pipeline.mem_restRefs_of main_arg1 (by decide) (by decide : ∀ w : Fin 5, (spec0 w).arr.view.ref ≠ main_arg1))).trans (V_main_arg1 m c),
      (((h.1 c).1 0).trans (Dat.arrAt_in _ 0 rfl _)).trans (V_main_arg2 m c),
      ((h.1 c).2 main_arg3 (Pipeline.mem_restRefs_of main_arg3 (by decide) (by decide : ∀ w : Fin 5, (spec0 w).arr.view.ref ≠ main_arg3))).trans (V_main_arg3 m c),
      ((h.1 c).2 main_arg4 (Pipeline.mem_restRefs_of main_arg4 (by decide) (by decide : ∀ w : Fin 5, (spec0 w).arr.view.ref ≠ main_arg4))).trans (V_main_arg4 m c),
      ((h.1 c).2 main_arg5 (Pipeline.mem_restRefs_of main_arg5 (by decide) (by decide : ∀ w : Fin 5, (spec0 w).arr.view.ref ≠ main_arg5))).trans (V_main_arg5 m c)⟩)
    (run_here m hr ρ)

end Cert.ExpertsIdeal.Hand

end
-- ==== Proof.ExpertsRefEq.lean ====
module

public import proofs.«01_k».proof.Proof.ExpertsRef
public import proofs.«01_k».proof.Proof.Gen.ExpertsReferenceIdeal.Run
public import Idealize.ShloMosaic.Lib.Pipeline.ValueKit
public import Idealize.ShloMosaic.Lib.Pointwise

/-!
What the reference of the expert layers leaves is its stages, one after another.
-/

@[expose] public section

set_option maxRecDepth 16384

noncomputable section

open Idealize.ShloMosaic Idealize.ShloMosaic.TcCoe Idealize.SL.Sem

namespace Cert.ExpertsReferenceIdeal.Value

open Cert.ExpertsReferenceIdeal Cert.ExpertsReferenceIdeal.Gen Cert.ExpertsReferenceIdeal.Facts

variable (m : (ℓ : Loc nD τ sig) → Buf (Elt Ideal) ℓ) (c : Dev nD)

set_option maxHeartbeats 4000000 in
theorem res_eq : res_main_v58 m c = meaning (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rfl

end Cert.ExpertsReferenceIdeal.Value

end
-- ==== Proof.ProjectMeaning.lean ====
/- One row's projections, in the language of rows: the row normed by its root mean square, its seven products of 512 columns, the
   heads of the queries and keys normed by theirs, and the gates. -/
module

public import proofs.«01_k».proof.Proof.Meaning

@[expose] public section

set_option maxRecDepth 16384

noncomputable section

open Idealize.ShloMosaic Idealize.ShloMosaic.TcCoe Idealize.SL.Sem

namespace Cert.Projected

open Cert.Softmax Cert.Finiteness Cert.Meaning

/-- The small number under the roots. -/
def eps : EReal := Ideal.ofBits .f32 0x358637BD#32

/-- A row normed by its root mean square, times the gain. -/
def normed (x g : Fin 1024 → EReal) (k : Fin 1024) : EReal :=
  x k * Ideal.rsqrt (Ideal.div (∑ j, x j * x j) (Ideal.ofBits .f32 0x44800000#32) + eps) * g k

/-- The product's 512 columns from `o`. -/
def seg (x g : Fin 1024 → EReal) (w : Fin 1024 → Fin 3584 → EReal) (o : ℕ) (ho : o + 512 ≤ 3584) (b : Fin 512) : EReal :=
  ∑ k, normed x g k * w k ⟨o + b.val, by omega⟩

/-- The heads of 64 columns normed by their root mean square, times the gain. -/
def headed (s : Fin 512 → EReal) (g : Fin 64 → EReal) (b : Fin 512) : EReal :=
  s b * Ideal.rsqrt (Ideal.div (∑ d : Fin 64, s ⟨b.val / 64 * 64 + d.val, by omega⟩ * s ⟨b.val / 64 * 64 + d.val, by omega⟩)
    (Ideal.ofBits .f32 0x42800000#32) + eps) * g ⟨b.val % 64, by omega⟩

/-- The forget gate above its lower bound. -/
def forget (l s : Fin 512 → EReal) (b : Fin 512) : EReal := l b + (1 - l b) * Ideal.logistic (s b)

/-- The heads normed through a product with a matrix `A` of averages, on the squares and on what a cast of the squares leaves. -/
def averaged (s : Fin 512 → EReal) (A : Fin 512 → Fin 512 → EReal) (g : Fin 512 → EReal) (b : Fin 512) : EReal :=
  s b * Ideal.rsqrt (∑ x, s x * s x * A x b + ∑ x, (s x * s x - s x * s x) * A x b + eps) * g b

theorem bits_64 : Ideal.ofBits .f32 0x42800000#32 = ((64 : ℝ) : EReal) := by
  simp [Ideal.ofBits, Ideal.ieee]
  rw [← EReal.coe_mul]
  norm_num

theorem bits_1024 : Ideal.ofBits .f32 0x44800000#32 = ((1024 : ℝ) : EReal) := by
  simp [Ideal.ofBits, Ideal.ieee]
  rw [← EReal.coe_mul]
  norm_num

theorem bits_eps : ∃ e : ℝ, 0 < e ∧ eps = (e : EReal) := by
  simp only [eps, Ideal.ofBits, Ideal.ieee]
  simp
  rw [← EReal.coe_mul]
  exact ⟨_, by positivity, rfl⟩

/-- A sum of 512 columns against one head's columns is the head's sum. -/
theorem sum_head (f : Fin 512 → ℝ) (b : Fin 512) :
    (∑ x : Fin 512, f x * (if x.val / 64 = b.val / 64 then (1 / 64 : ℝ) else 0))
      = (∑ d : Fin 64, f ⟨b.val / 64 * 64 + d.val, by omega⟩) * (1 / 64) := by
  rw [← (finProdFinEquiv (m := 8) (n := 64)).sum_comp (fun x : Fin 512 => f x * (if x.val / 64 = b.val / 64 then (1 / 64 : ℝ) else 0)),
    Fintype.sum_prod_type, Finset.sum_eq_single (⟨b.val / 64, by omega⟩ : Fin 8), Finset.sum_mul]
  · refine Finset.sum_congr rfl fun d _ => ?_
    have e : (finProdFinEquiv ((⟨b.val / 64, by omega⟩ : Fin 8), d) : Fin 512) = ⟨b.val / 64 * 64 + d.val, by omega⟩ :=
      Fin.ext (by simp [finProdFinEquiv]; omega)
    rw [e, if_pos (by dsimp only; omega)]
  · intro h _ hh
    refine Finset.sum_eq_zero fun d _ => ?_
    have hv : h.val ≠ b.val / 64 := fun e => hh (Fin.ext e)
    rw [if_neg, mul_zero]
    simp only [finProdFinEquiv, Equiv.coe_fn_mk]
    omega
  · intro h
    exact absurd (Finset.mem_univ _) h

/-- On finite products the matrix of averages norms the heads. -/
theorem averaged_eq (s : Fin 512 → EReal) (hs : ∀ x, Finite (s x)) (A : Fin 512 → Fin 512 → EReal)
    (hA : ∀ x b, A x b = if x.val / 64 = b.val / 64 then ((1 / 64 : ℝ) : EReal) else 0) (g : Fin 512 → EReal) (g' : Fin 64 → EReal)
    (hg : ∀ b : Fin 512, g b = g' ⟨b.val % 64, by omega⟩) (b : Fin 512) :
    averaged s A g b = headed s g' b := by
  choose r hr using hs
  have h0 : ∀ x, s x * s x - s x * s x = 0 := fun x => by
    rw [hr x, ← EReal.coe_mul, ← EReal.coe_sub, sub_self, EReal.coe_zero]
  have h1 : ∑ x, (s x * s x - s x * s x) * A x b = 0 := Finset.sum_eq_zero fun x _ => by rw [h0, zero_mul]
  have h2 : ∑ x, s x * s x * A x b = ((∑ x : Fin 512, r x * r x * (if x.val / 64 = b.val / 64 then (1 / 64 : ℝ) else 0) : ℝ) : EReal) := by
    rw [← sum_coe]
    refine Finset.sum_congr rfl fun x _ => ?_
    rw [hr x, hA, EReal.coe_mul, EReal.coe_mul]
    split <;> simp
  have h3 : (∑ d : Fin 64, s ⟨b.val / 64 * 64 + d.val, by omega⟩ * s ⟨b.val / 64 * 64 + d.val, by omega⟩)
      = ((∑ d : Fin 64, r ⟨b.val / 64 * 64 + d.val, by omega⟩ * r ⟨b.val / 64 * 64 + d.val, by omega⟩ : ℝ) : EReal) := by
    rw [← sum_coe]
    refine Finset.sum_congr rfl fun d _ => ?_
    rw [hr, EReal.coe_mul]
  unfold averaged headed
  rw [h1, add_zero, h2, h3, hg, sum_head (fun x => r x * r x), bits_64, Ideal.div_coe (by norm_num), EReal.coe_mul]

/-- The normed row is finite where the gain is, whatever the row: an infinite entry makes the mean of the squares infinite, and
    the row zero. -/
theorem normed_finite (x g : Fin 1024 → EReal) (hg : ∀ k, Finite (g k)) (k : Fin 1024) : Finite (normed x g k) := by
  obtain ⟨e, he, hE⟩ := bits_eps
  refine finite_mul ?_ (hg k)
  by_cases h : ∀ j, Finite (x j)
  · refine finite_mul (h k) ?_
    choose r hr using h
    have h1 : ∑ j, x j * x j = ((∑ j, r j * r j : ℝ) : EReal) := by
      rw [← sum_coe]
      exact Finset.sum_congr rfl fun j _ => by rw [hr, EReal.coe_mul]
    have hp : 0 ≤ ∑ j, r j * r j := Finset.sum_nonneg fun j _ => mul_self_nonneg _
    have hq : 0 < (∑ j, r j * r j) * (1 / 1024 : ℝ) + e := by positivity
    rw [h1, bits_1024, Ideal.div_coe (by norm_num), hE, ← EReal.coe_mul, ← EReal.coe_add]
    refine ⟨(Real.sqrt ((∑ j, r j * r j) * (1 / 1024 : ℝ) + e))⁻¹, ?_⟩
    rw [Ideal.rsqrt_coe, if_neg (not_lt.mpr hq.le), if_neg hq.ne']
  · obtain ⟨j, hj⟩ := not_forall.mp h
    have hsq : ∀ j, 0 ≤ x j * x j := fun j => by
      rcases le_total 0 (x j) with h | h
      · exact mul_nonneg h h
      · have := EReal.mul_nonneg_iff.mpr (Or.inr ⟨h, h⟩)
        exact this
    have hj' : x j * x j = ⊤ := by
      induction hx : x j using EReal.rec with
      | bot => simp
      | coe r => exact absurd ⟨r, hx⟩ hj
      | top => simp
    have htop : ∑ j, x j * x j = ⊤ :=
      top_le_iff.mp (hj' ▸ Finset.single_le_sum (f := fun j => x j * x j) (fun i _ => hsq i) (Finset.mem_univ j))
    rw [htop, bits_1024, Ideal.div_coe (by norm_num), hE, EReal.top_mul_coe_of_pos (by norm_num), EReal.top_add_coe]
    refine ⟨0, ?_⟩
    rw [Ideal.rsqrt_top, mul_zero, EReal.coe_zero]

theorem seg_finite (x g : Fin 1024 → EReal) (hg : ∀ k, Finite (g k)) (w : Fin 1024 → Fin 3584 → EReal)
    (o : ℕ) (ho : o + 512 ≤ 3584) (b : Fin 512) (hw : ∀ k, Finite (w k ⟨o + b.val, by omega⟩)) : Finite (seg x g w o ho b) :=
  finite_sum fun k => finite_mul (normed_finite x g hg k) (hw k)

end Cert.Projected

end
-- ==== Proof.ProjectBlock.lean ====
/- What a block of 512 rows leaves in each of the ten output blocks, at a row and a column: the meaning of the block's row. -/
module

public import proofs.«01_k».proof.Proof.Gen.ProjectIdeal.Frame
public import proofs.«01_k».proof.Proof.ProjectMeaning
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ProjectIdeal.Block

open Cert.ProjectIdeal Cert.ProjectIdeal.Gen Cert.Projected

/-- A row of the block: the prompt's on the first 32 blocks, the sample's on the last. -/
def row (i : grid0.Coords) (x y : Vec Ideal S512x1024 .f32) (a : Fin 512) (k : Fin 1024) : EReal :=
  if (i 0).val < 32 then x (ix2 a k) else y (ix2 a k)

theorem slt_32 : ∀ n : Fin 33, Scalar.cmpi .slt (BitVec.ofNat 32 n.val) 32#32 = if n.val < 32 then 1#1 else 0#1 := by decide +kernel

theorem select_row (i : grid0.Coords) (x y : EReal) :
    Scalar.select (Scalar.cmpi .slt (BitVec.ofNat 32 (i 0).val) 32#32) x y = if (i 0).val < 32 then x else y := by
  rw [show Scalar.cmpi .slt (BitVec.ofNat 32 (i 0).val) 32#32 = if (i 0).val < 32 then 1#1 else 0#1 from slt_32 (i 0)]
  by_cases h : (i 0).val < 32
  · rw [if_pos h, if_pos h]; rfl
  · rw [if_neg h, if_neg h]; rfl

theorem normed_at (i : grid0.Coords) (x y : Vec Ideal S512x1024 .f32) (g : Vec Ideal S1x1024 .f32) (a : Fin 512) (b : Fin 1024) :
    k0_pay1 i x y g (ix2 a b) = normed (row i x y a) (fun k => g (ix2 0 k)) b := by
  pointwise [k0_pay1]
  simp only [select_row]
  rfl

theorem prod_at (x : FVec Ideal S512x1024 .bf16) (w : Vec Ideal S1024x512 .bf16) (a b : Fin 512) :
    k0_pay7 x w (ix2 a b) = ∑ k, x (ix2 a k) * w (ix2 k b) := by
  pointwise [k0_pay7]

theorem prod_cast_at (x : FVec Ideal S512x1024 .bf16) (w : Vec Ideal S1024x512 .bf16) (a b : Fin 512) :
    k0_pay8 x w (ix2 a b) = ∑ k, x (ix2 a k) * w (ix2 k b) := by
  pointwise [k0_pay8, k0_pay7]

theorem log_at (x : FVec Ideal S512x1024 .bf16) (l : Vec Ideal S1x512 .f32) (w : Vec Ideal S1024x512 .bf16) (a b : Fin 512) :
    k0_pay10 x l w (ix2 a b) = Ideal.log (forget (fun b => l (ix2 0 b)) (fun b => ∑ k, x (ix2 a k) * w (ix2 k b)) b) := by
  pointwise [k0_pay10, k0_pay9, forget]

theorem rest_at (x : FVec Ideal S512x1024 .bf16) (l : Vec Ideal S1x512 .f32) (w : Vec Ideal S1024x512 .bf16) (a b : Fin 512) :
    k0_pay11 x l w (ix2 a b) = 1 - forget (fun b => l (ix2 0 b)) (fun b => ∑ k, x (ix2 a k) * w (ix2 k b)) b := by
  pointwise [k0_pay11, k0_pay9, forget]

theorem prod12_at (x : FVec Ideal S512x1024 .bf16) (w : Vec Ideal S1024x512 .bf16) (a b : Fin 512) :
    k0_pay12 x w (ix2 a b) = ∑ k, x (ix2 a k) * w (ix2 k b) := by
  pointwise [k0_pay12]

theorem silu_at (x : FVec Ideal S512x1024 .bf16) (w : Vec Ideal S1024x512 .bf16) (a b : Fin 512) :
    k0_pay13 x w (ix2 a b) = (∑ k, x (ix2 a k) * w (ix2 k b)) * Ideal.logistic (∑ k, x (ix2 a k) * w (ix2 k b)) := by
  pointwise [k0_pay13]

theorem prod14_at (x : FVec Ideal S512x1024 .bf16) (w : Vec Ideal S1024x512 .bf16) (a b : Fin 512) :
    k0_pay14 x w (ix2 a b) = ∑ k, x (ix2 a k) * w (ix2 k b) := by
  pointwise [k0_pay14]

theorem head_at (x : FVec Ideal S512x1024 .bf16) (A : Vec Ideal S512x512 .bf16) (w : Vec Ideal S1024x512 .bf16) (l : Vec Ideal S1x512 .f32)
    (a b : Fin 512) : k0_pay5 x (k0_pay2 A) w l (ix2 a b)
      = averaged (fun b => ∑ k, x (ix2 a k) * w (ix2 k b)) (fun x b => A (ix2 x b)) (fun b => l (ix2 0 b)) b := by
  pointwise [k0_pay5, k0_pay2, averaged, eps]

theorem head_cast_at (x : FVec Ideal S512x1024 .bf16) (A : Vec Ideal S512x512 .bf16) (w : Vec Ideal S1024x512 .bf16) (l : Vec Ideal S1x512 .f32)
    (a b : Fin 512) : k0_pay6 x (k0_pay2 A) w l (ix2 a b)
      = averaged (fun b => ∑ k, x (ix2 a k) * w (ix2 k b)) (fun x b => A (ix2 x b)) (fun b => l (ix2 0 b)) b := by
  pointwise [k0_pay6, k0_pay5, k0_pay2, averaged, eps]

theorem query_at (i : grid0.Coords) (x y : Vec Ideal S512x1024 .f32) (g : Vec Ideal S1x1024 .f32) (A : Vec Ideal S512x512 .bf16)
    (w : Vec Ideal S1024x512 .bf16) (l : Vec Ideal S1x512 .f32) (a b : Fin 512) : k0_pay4 (k0_pay3 i x y g A w) l (ix2 a b)
      = averaged (fun b => ∑ k, k0_pay1 i x y g (ix2 a k) * w (ix2 k b)) (fun x b => A (ix2 x b)) (fun b => l (ix2 0 b)) b
        * Ideal.ofBits .f32 0x3E000000#32 := by
  pointwise [k0_pay4, k0_pay3, k0_pay2, averaged, eps]

theorem ld_row (x : Vec Ideal S512x1024 .f32) : View.ld x r0_0 = x := by
  funext j
  exact View.ld_unit_apply_of x _ _ _ _ _ (Fin.forall_fin_two.mpr ⟨(Nat.zero_add _).symm, (Nat.zero_add _).symm⟩)

theorem ld_gain (x : Vec Ideal S1x1024 .f32) : View.ld x r0_1 = x := by
  funext j
  exact View.ld_unit_apply_of x _ _ _ _ _ (Fin.forall_fin_two.mpr ⟨(Nat.zero_add _).symm, (Nat.zero_add _).symm⟩)

theorem ld_avg (x : Vec Ideal S512x512 .bf16) : View.ld x r0_2 = x := by
  funext j
  exact View.ld_unit_apply_of x _ _ _ _ _ (Fin.forall_fin_two.mpr ⟨(Nat.zero_add _).symm, (Nat.zero_add _).symm⟩)

theorem ld_line (x : Vec Ideal S1x512 .f32) : View.ld x r0_4 = x := by
  funext j
  exact View.ld_unit_apply_of x _ _ _ _ _ (Fin.forall_fin_two.mpr ⟨(Nat.zero_add _).symm, (Nat.zero_add _).symm⟩)

theorem ld_cols (x : Vec Ideal S1024x3584 .bf16) (o : ℕ) (inb) (k : Fin 1024) (b : Fin 512) (ho : o + 512 ≤ 3584) :
    View.ld x (Rect.unit (s := S1024x3584) ![0, o] S1024x512.size inb) (ix2 k b) = x (ix2 k ⟨o + b.val, by omega⟩) :=
  View.ld_unit_apply_of x _ _ _ _ _ (Fin.forall_fin_two.mpr ⟨(Nat.zero_add _).symm, rfl⟩)

variable (i : grid0.Coords) (x0 x1 : Vec Ideal S512x1024 .f32) (x2 : Vec Ideal S1x1024 .f32) (x3 : Vec Ideal S1024x3584 .bf16)
  (x4 x5 x6 : Vec Ideal S1x512 .f32) (x7 : Vec Ideal S512x512 .bf16)

/-- The block's products of 512 columns from `o`, at a row. -/
abbrev part (o : ℕ) (ho : o + 512 ≤ 3584) (a : Fin 512) : Fin 512 → EReal :=
  seg (row i x0 x1 a) (fun k => x2 (ix2 0 k)) (fun k c => x3 (ix2 k c)) o ho

theorem part_eq (o : ℕ) (ho : o + 512 ≤ 3584) (inb) (a b : Fin 512) :
    (∑ k, k0_pay1 i x0 x1 x2 (ix2 a k) * View.ld x3 (Rect.unit (s := S1024x3584) ![0, o] S1024x512.size inb) (ix2 k b))
      = part i x0 x1 x2 x3 o ho a b :=
  Finset.sum_congr rfl fun k _ => by rw [normed_at, ld_cols x3 o inb k b ho]

/-- A block stored whole is the stored block. -/
theorem canon_whole {e : EltTy} (p : Vec Ideal S512x512 e) : View.canon (Val := Elt Ideal) [⟨r0_2, p⟩] = p :=
  View.canon_unit_zero (funext fun x => by
    match x with
    | 0 => rfl
    | 1 => rfl) _ _

/-- The matrix of averages, the two gains and the bounds, as functions of rows and columns. -/
abbrev avg (x b : Fin 512) : EReal := x7 (ix2 x b)

abbrev line (x : Vec Ideal S1x512 .f32) (b : Fin 512) : EReal := x (ix2 0 b)

theorem out8_at (a b : Fin 512) : out0_8 i x0 x1 x2 x3 x4 x5 x6 x7 (ix2 a b)
    = averaged (part i x0 x1 x2 x3 0 (by omega) a) (avg x7) (line x4) b * Ideal.ofBits .f32 0x3E000000#32 := by
  unfold out0_8
  rw [canon_whole, query_at, ld_row, ld_row, ld_gain, ld_avg, ld_line]
  simp only [part_eq i x0 x1 x2 x3 0 (by omega)]

theorem out9_at (a b : Fin 512) : out0_9 i x0 x1 x2 x3 x4 x5 x6 x7 (ix2 a b)
    = averaged (part i x0 x1 x2 x3 512 (by omega) a) (avg x7) (line x5) b := by
  unfold out0_9 k0_pay15 k0_pay16
  rw [canon_whole, head_at, ld_row, ld_row, ld_gain, ld_avg, ld_line]
  simp only [part_eq i x0 x1 x2 x3 512 (by omega)]

theorem out10_at (a b : Fin 512) : out0_10 i x0 x1 x2 x3 x4 x5 x6 x7 (ix2 a b) = part i x0 x1 x2 x3 1024 (by omega) a b := by
  unfold out0_10 k0_pay15
  rw [canon_whole, prod_at, ld_row, ld_row, ld_gain, part_eq i x0 x1 x2 x3 1024 (by omega)]

theorem out11_at (a b : Fin 512) : out0_11 i x0 x1 x2 x3 x4 x5 x6 x7 (ix2 a b)
    = averaged (part i x0 x1 x2 x3 512 (by omega) a) (avg x7) (line x5) b := by
  unfold out0_11 k0_pay15 k0_pay16
  rw [canon_whole, head_cast_at, ld_row, ld_row, ld_gain, ld_avg, ld_line]
  simp only [part_eq i x0 x1 x2 x3 512 (by omega)]

theorem out12_at (a b : Fin 512) : out0_12 i x0 x1 x2 x3 x4 x5 x6 x7 (ix2 a b) = part i x0 x1 x2 x3 1024 (by omega) a b := by
  unfold out0_12 k0_pay15
  rw [canon_whole, prod_cast_at, ld_row, ld_row, ld_gain, part_eq i x0 x1 x2 x3 1024 (by omega)]

theorem out13_at (a b : Fin 512) : out0_13 i x0 x1 x2 x3 x4 x5 x6 x7 (ix2 a b)
    = Ideal.log (forget (line x6) (part i x0 x1 x2 x3 1536 (by omega) a) b) := by
  unfold out0_13 k0_pay15
  rw [canon_whole, log_at, ld_row, ld_row, ld_gain, ld_line]
  simp only [part_eq i x0 x1 x2 x3 1536 (by omega)]

theorem out14_at (a b : Fin 512) : out0_14 i x0 x1 x2 x3 x4 x5 x6 x7 (ix2 a b)
    = 1 - forget (line x6) (part i x0 x1 x2 x3 1536 (by omega) a) b := by
  unfold out0_14 k0_pay15
  rw [canon_whole, rest_at, ld_row, ld_row, ld_gain, ld_line]
  simp only [part_eq i x0 x1 x2 x3 1536 (by omega)]

theorem out15_at (a b : Fin 512) : out0_15 i x0 x1 x2 x3 x4 x5 x6 x7 (ix2 a b) = part i x0 x1 x2 x3 2048 (by omega) a b := by
  unfold out0_15 k0_pay15
  rw [canon_whole, prod12_at, ld_row, ld_row, ld_gain, part_eq i x0 x1 x2 x3 2048 (by omega)]

theorem out16_at (a b : Fin 512) : out0_16 i x0 x1 x2 x3 x4 x5 x6 x7 (ix2 a b)
    = part i x0 x1 x2 x3 2560 (by omega) a b * Ideal.logistic (part i x0 x1 x2 x3 2560 (by omega) a b) := by
  unfold out0_16 k0_pay15
  rw [canon_whole, silu_at, ld_row, ld_row, ld_gain, part_eq i x0 x1 x2 x3 2560 (by omega)]

theorem out17_at (a b : Fin 512) : out0_17 i x0 x1 x2 x3 x4 x5 x6 x7 (ix2 a b) = part i x0 x1 x2 x3 3072 (by omega) a b := by
  unfold out0_17 k0_pay15
  rw [canon_whole, prod14_at, ld_row, ld_row, ld_gain, part_eq i x0 x1 x2 x3 3072 (by omega)]

end Cert.ProjectIdeal.Block

end
-- ==== Proof.ProjectArray.lean ====
/- What the kernel's ten output arrays hold after the run: every row's meaning, on all rows of prompt and sample or on the rows
   kept of each sequence's end and of the sample. -/
module

public import proofs.«01_k».proof.Proof.ProjectBlock
public import proofs.«01_k».proof.Proof.Gen.ProjectIdeal.Value

@[expose] public section

set_option maxRecDepth 16384

noncomputable section

open Idealize.ShloMosaic Idealize.ShloMosaic.TcCoe Idealize.SL.Sem

namespace Cert.ProjectIdeal.Array

open Cert.ProjectIdeal Cert.ProjectIdeal.Gen Cert.Projected

/-- Where every window's block sits, at every point. -/
theorem idx : ∀ t : Fin cfg0.N, win0_0.index t = ![min t.val 31, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val / 8, 0] ∧ win0_10.index t = ![t.val / 8, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] :=
  (by decide +kernel : ∀ t : Fin grid0.N, _)

theorem coord : ∀ t : Fin cfg0.N, (grid0.coords t 0).val = t.val := (by decide +kernel : ∀ t : Fin grid0.N, _)

/-- The points that write the kept blocks: each sequence's last, and the sample's. -/
theorem flush9 : ∀ t : Fin cfg0.N, (cfg0.win 9).flush t = true → t.val % 8 = 7 ∨ t.val = 32 := (by decide +kernel : ∀ t : Fin grid0.N, _)

theorem flush10 : ∀ t : Fin cfg0.N, (cfg0.win 10).flush t = true → t.val % 8 = 7 ∨ t.val = 32 := (by decide +kernel : ∀ t : Fin grid0.N, _)

theorem point_lt (t : Fin cfg0.N) : t.val < 33 := lt_of_lt_of_eq t.isLt N_0

/-- A row of prompt and sample together. -/
def rowOf (xp : FVec Ideal S16384x1024 .f32) (xs : FVec Ideal S512x1024 .f32) (r : Fin 16896) (k : Fin 1024) : EReal :=
  if h : r.val < 16384 then xp (ix2 ⟨r.val, h⟩ k) else xs (ix2 ⟨r.val - 16384, by omega⟩ k)

/-- The row of all rows that a kept row is. -/
def keptRow (r : Fin 2560) : Fin 16896 :=
  ⟨if r.val < 2048 then r.val / 512 * 4096 + 3584 + r.val % 512 else 14336 + r.val, by split <;> omega⟩

/-- An array over all rows. -/
def full (f : Fin 16896 → Fin 512 → EReal) : S16896x512.Idx → EReal := fun i => f (i 0) (i 1)

/-- An array over the kept rows. -/
def kept (f : Fin 16896 → Fin 512 → EReal) : S2560x512.Idx → EReal := fun i => f (keptRow (i 0)) (i 1)

theorem full_at (f : Fin 16896 → Fin 512 → EReal) (i : S16896x512.Idx) (r : Fin 16896) (b : Fin 512) (h0 : (i 0).val = r.val)
    (h1 : (i 1).val = b.val) : f r b = full f i := by
  have e0 : r = i 0 := Fin.ext h0.symm
  have e1 : b = i 1 := Fin.ext h1.symm
  rw [e0, e1]
  rfl

theorem kept_at (f : Fin 16896 → Fin 512 → EReal) (i : S2560x512.Idx) (t : ℕ) (ht : t < 33) (a : Fin 512) (b : Fin 512)
    (hf : t % 8 = 7 ∨ t = 32) (h0 : (i 0).val = t / 8 * 512 + a.val) (h1 : (i 1).val = b.val) :
    f ⟨t * 512 + a.val, by omega⟩ b = kept f i := by
  have e0 : (⟨t * 512 + a.val, by omega⟩ : Fin 16896) = keptRow (i 0) := Fin.ext (by
    unfold keptRow
    dsimp only
    have hv : (i 0).val = t / 8 * 512 + a.val := h0
    split <;> omega)
  have e1 : b = i 1 := Fin.ext h1.symm
  rw [e0, e1]
  rfl

section Values

variable (xp : FVec Ideal S16384x1024 .f32) (xs : FVec Ideal S512x1024 .f32) (g : FVec Ideal S1x1024 .f32) (w : FVec Ideal S1024x3584 .bf16)

/-- Every row's products of 512 columns from `o`. -/
def segOf (o : ℕ) (ho : o + 512 ≤ 3584) (r : Fin 16896) : Fin 512 → EReal :=
  seg (rowOf xp xs r) (fun k => g (ix2 0 k)) (fun k c => w (ix2 k c)) o ho

end Values

variable (m : (ℓ : Loc nD τ sig) → Buf (Elt Ideal) ℓ)

theorem block2 (c : Dev nD) (t : Fin cfg0.N) : (iblk m c 2 t : Vec Ideal S1x1024 .f32) = V m c main_v25 := by
  funext i
  unfold iblk
  generalize V m c = X
  blk_ext [idx t]

theorem block3 (c : Dev nD) (t : Fin cfg0.N) : (iblk m c 3 t : Vec Ideal S1024x3584 .bf16) = V m c main_v27 := by
  funext i
  unfold iblk
  generalize V m c = X
  blk_ext [idx t]

theorem block4 (c : Dev nD) (t : Fin cfg0.N) : (iblk m c 4 t : Vec Ideal S1x512 .f32) = V m c main_v32 := by
  funext i
  unfold iblk
  generalize V m c = X
  blk_ext [idx t]

theorem block5 (c : Dev nD) (t : Fin cfg0.N) : (iblk m c 5 t : Vec Ideal S1x512 .f32) = V m c main_v37 := by
  funext i
  unfold iblk
  generalize V m c = X
  blk_ext [idx t]

theorem block6 (c : Dev nD) (t : Fin cfg0.N) : (iblk m c 6 t : Vec Ideal S1x512 .f32) = V m c main_v40 := by
  funext i
  unfold iblk
  generalize V m c = X
  blk_ext [idx t]

theorem block7 (c : Dev nD) (t : Fin cfg0.N) : (iblk m c 7 t : Vec Ideal S512x512 .bf16) = V m c main_v22 := by
  funext i
  unfold iblk
  generalize V m c = X
  blk_ext [idx t]

theorem block0 (c : Dev nD) (t : Fin cfg0.N) (h : t.val < 32) (a : Fin 512) (k : Fin 1024) :
    (iblk m c 0 t : Vec Ideal S512x1024 .f32) (ix2 a k) = V m c main_v0 (ix2 (⟨t.val * 512 + a.val, by omega⟩ : Fin 16384) k) := by
  have e : min t.val 31 = t.val := by omega
  have hi := (idx t).1
  rw [e] at hi
  unfold iblk
  generalize V m c = X
  blk_ext [hi]

theorem block1 (c : Dev nD) (t : Fin cfg0.N) : (iblk m c 1 t : Vec Ideal S512x1024 .f32) = V m c main_v1 := by
  funext i
  unfold iblk
  generalize V m c = X
  blk_ext [idx t]

/-- A block's row is the array's. -/
theorem row_eq (c : Dev nD) (t : Fin cfg0.N) (a : Fin 512) (r : Fin 16896) (hr : r.val = t.val * 512 + a.val) :
    Block.row (grid0.coords t) (iblk m c 0 t) (iblk m c 1 t) a = rowOf (V m c main_v0) (V m c main_v1) r := by
  funext k
  have ht := point_lt t
  unfold Block.row rowOf
  rw [coord]
  by_cases h : t.val < 32
  · rw [if_pos h, dif_pos (by omega)]
    refine (block0 m c t h a k).trans (congrArg (fun z => V m c main_v0 (ix2 z k)) (Fin.ext hr.symm))
  · rw [if_neg h, dif_neg (by omega), block1]
    exact congrArg (fun z => V m c main_v1 (ix2 z k)) (Fin.ext (by dsimp only; omega))

theorem part_of (c : Dev nD) (t : Fin cfg0.N) (a : Fin 512) (r : Fin 16896) (hr : r.val = t.val * 512 + a.val) (o : ℕ) (ho : o + 512 ≤ 3584) :
    Block.part (grid0.coords t) (iblk m c 0 t) (iblk m c 1 t) (V m c main_v25) (V m c main_v27) o ho a
      = segOf (V m c main_v0) (V m c main_v1) (V m c main_v25) (V m c main_v27) o ho r := by
  unfold Block.part segOf
  rw [row_eq m c t a r hr]

/-- Output 0 after the run. -/
theorem final8 (c : Dev nD) : (dats m 0 c).arrAt 8 (cfgs 0).N
    = full fun r b => averaged (segOf (V m c main_v0) (V m c main_v1) (V m c main_v25) (V m c main_v27) 0 (by omega) r) (Block.avg (V m c main_v22)) (Block.line (V m c main_v32)) b * Ideal.ofBits .f32 0x3E000000#32 := by
  refine (dats m 0 c).arrAt_eq_of_covers 8 _ (by decide +kernel) fun t hf y => ?_
  blk_simp
  rw [after0_8]
  obtain ⟨a, b, rfl⟩ : ∃ (a : Fin 512) (b : Fin 512), y = ix2 a b := ⟨y 0, y 1, funext fun i => match i with
    | 0 => rfl
    | 1 => rfl⟩
  refine (Block.out8_at _ _ _ _ _ _ _ _ _ a b).trans ?_
  have ht := point_lt t
  rw [block2, block3, block4, block7, part_of m c t a ⟨t.val * 512 + a.val, by omega⟩ rfl]
  refine Eq.trans ?_ (full_at _ _ ⟨t.val * 512 + a.val, by omega⟩ b ?_ ?_)
  · rfl
  · blk_simp [idx t]
  · blk_simp [idx t]

/-- Output 1 after the run. -/
theorem final9 (c : Dev nD) : (dats m 0 c).arrAt 9 (cfgs 0).N
    = kept fun r b => averaged (segOf (V m c main_v0) (V m c main_v1) (V m c main_v25) (V m c main_v27) 512 (by omega) r) (Block.avg (V m c main_v22)) (Block.line (V m c main_v37)) b := by
  refine (dats m 0 c).arrAt_eq_of_covers 9 _ (by decide +kernel) fun t hf y => ?_
  blk_simp
  rw [after0_9]
  obtain ⟨a, b, rfl⟩ : ∃ (a : Fin 512) (b : Fin 512), y = ix2 a b := ⟨y 0, y 1, funext fun i => match i with
    | 0 => rfl
    | 1 => rfl⟩
  refine (Block.out9_at _ _ _ _ _ _ _ _ _ a b).trans ?_
  have ht := point_lt t
  rw [block2, block3, block5, block7, part_of m c t a ⟨t.val * 512 + a.val, by omega⟩ rfl]
  refine Eq.trans ?_ (kept_at _ _ t.val ht a b (flush9 t hf) ?_ ?_)
  · rfl
  · blk_simp [idx t]
  · blk_simp [idx t]

/-- Output 2 after the run. -/
theorem final10 (c : Dev nD) : (dats m 0 c).arrAt 10 (cfgs 0).N
    = kept fun r b => segOf (V m c main_v0) (V m c main_v1) (V m c main_v25) (V m c main_v27) 1024 (by omega) r b := by
  refine (dats m 0 c).arrAt_eq_of_covers 10 _ (by decide +kernel) fun t hf y => ?_
  blk_simp
  rw [after0_10]
  obtain ⟨a, b, rfl⟩ : ∃ (a : Fin 512) (b : Fin 512), y = ix2 a b := ⟨y 0, y 1, funext fun i => match i with
    | 0 => rfl
    | 1 => rfl⟩
  refine (Block.out10_at _ _ _ _ _ _ _ _ _ a b).trans ?_
  have ht := point_lt t
  rw [block2, block3, part_of m c t a ⟨t.val * 512 + a.val, by omega⟩ rfl]
  refine Eq.trans ?_ (kept_at _ _ t.val ht a b (flush10 t hf) ?_ ?_)
  · rfl
  · blk_simp [idx t]
  · blk_simp [idx t]

/-- Output 3 after the run. -/
theorem final11 (c : Dev nD) : (dats m 0 c).arrAt 11 (cfgs 0).N
    = full fun r b => averaged (segOf (V m c main_v0) (V m c main_v1) (V m c main_v25) (V m c main_v27) 512 (by omega) r) (Block.avg (V m c main_v22)) (Block.line (V m c main_v37)) b := by
  refine (dats m 0 c).arrAt_eq_of_covers 11 _ (by decide +kernel) fun t hf y => ?_
  blk_simp
  rw [after0_11]
  obtain ⟨a, b, rfl⟩ : ∃ (a : Fin 512) (b : Fin 512), y = ix2 a b := ⟨y 0, y 1, funext fun i => match i with
    | 0 => rfl
    | 1 => rfl⟩
  refine (Block.out11_at _ _ _ _ _ _ _ _ _ a b).trans ?_
  have ht := point_lt t
  rw [block2, block3, block5, block7, part_of m c t a ⟨t.val * 512 + a.val, by omega⟩ rfl]
  refine Eq.trans ?_ (full_at _ _ ⟨t.val * 512 + a.val, by omega⟩ b ?_ ?_)
  · rfl
  · blk_simp [idx t]
  · blk_simp [idx t]

/-- Output 4 after the run. -/
theorem final12 (c : Dev nD) : (dats m 0 c).arrAt 12 (cfgs 0).N
    = full fun r b => segOf (V m c main_v0) (V m c main_v1) (V m c main_v25) (V m c main_v27) 1024 (by omega) r b := by
  refine (dats m 0 c).arrAt_eq_of_covers 12 _ (by decide +kernel) fun t hf y => ?_
  blk_simp
  rw [after0_12]
  obtain ⟨a, b, rfl⟩ : ∃ (a : Fin 512) (b : Fin 512), y = ix2 a b := ⟨y 0, y 1, funext fun i => match i with
    | 0 => rfl
    | 1 => rfl⟩
  refine (Block.out12_at _ _ _ _ _ _ _ _ _ a b).trans ?_
  have ht := point_lt t
  rw [block2, block3, part_of m c t a ⟨t.val * 512 + a.val, by omega⟩ rfl]
  refine Eq.trans ?_ (full_at _ _ ⟨t.val * 512 + a.val, by omega⟩ b ?_ ?_)
  · rfl
  · blk_simp [idx t]
  · blk_simp [idx t]

/-- Output 5 after the run. -/
theorem final13 (c : Dev nD) : (dats m 0 c).arrAt 13 (cfgs 0).N
    = full fun r b => Ideal.log (forget (Block.line (V m c main_v40)) (segOf (V m c main_v0) (V m c main_v1) (V m c main_v25) (V m c main_v27) 1536 (by omega) r) b) := by
  refine (dats m 0 c).arrAt_eq_of_covers 13 _ (by decide +kernel) fun t hf y => ?_
  blk_simp
  rw [after0_13]
  obtain ⟨a, b, rfl⟩ : ∃ (a : Fin 512) (b : Fin 512), y = ix2 a b := ⟨y 0, y 1, funext fun i => match i with
    | 0 => rfl
    | 1 => rfl⟩
  refine (Block.out13_at _ _ _ _ _ _ _ _ _ a b).trans ?_
  have ht := point_lt t
  rw [block2, block3, block6, part_of m c t a ⟨t.val * 512 + a.val, by omega⟩ rfl]
  refine Eq.trans ?_ (full_at _ _ ⟨t.val * 512 + a.val, by omega⟩ b ?_ ?_)
  · rfl
  · blk_simp [idx t]
  · blk_simp [idx t]

/-- Output 6 after the run. -/
theorem final14 (c : Dev nD) : (dats m 0 c).arrAt 14 (cfgs 0).N
    = full fun r b => 1 - forget (Block.line (V m c main_v40)) (segOf (V m c main_v0) (V m c main_v1) (V m c main_v25) (V m c main_v27) 1536 (by omega) r) b := by
  refine (dats m 0 c).arrAt_eq_of_covers 14 _ (by decide +kernel) fun t hf y => ?_
  blk_simp
  rw [after0_14]
  obtain ⟨a, b, rfl⟩ : ∃ (a : Fin 512) (b : Fin 512), y = ix2 a b := ⟨y 0, y 1, funext fun i => match i with
    | 0 => rfl
    | 1 => rfl⟩
  refine (Block.out14_at _ _ _ _ _ _ _ _ _ a b).trans ?_
  have ht := point_lt t
  rw [block2, block3, block6, part_of m c t a ⟨t.val * 512 + a.val, by omega⟩ rfl]
  refine Eq.trans ?_ (full_at _ _ ⟨t.val * 512 + a.val, by omega⟩ b ?_ ?_)
  · rfl
  · blk_simp [idx t]
  · blk_simp [idx t]

/-- Output 7 after the run. -/
theorem final15 (c : Dev nD) : (dats m 0 c).arrAt 15 (cfgs 0).N
    = full fun r b => segOf (V m c main_v0) (V m c main_v1) (V m c main_v25) (V m c main_v27) 2048 (by omega) r b := by
  refine (dats m 0 c).arrAt_eq_of_covers 15 _ (by decide +kernel) fun t hf y => ?_
  blk_simp
  rw [after0_15]
  obtain ⟨a, b, rfl⟩ : ∃ (a : Fin 512) (b : Fin 512), y = ix2 a b := ⟨y 0, y 1, funext fun i => match i with
    | 0 => rfl
    | 1 => rfl⟩
  refine (Block.out15_at _ _ _ _ _ _ _ _ _ a b).trans ?_
  have ht := point_lt t
  rw [block2, block3, part_of m c t a ⟨t.val * 512 + a.val, by omega⟩ rfl]
  refine Eq.trans ?_ (full_at _ _ ⟨t.val * 512 + a.val, by omega⟩ b ?_ ?_)
  · rfl
  · blk_simp [idx t]
  · blk_simp [idx t]

/-- Output 8 after the run. -/
theorem final16 (c : Dev nD) : (dats m 0 c).arrAt 16 (cfgs 0).N
    = full fun r b => (segOf (V m c main_v0) (V m c main_v1) (V m c main_v25) (V m c main_v27) 2560 (by omega) r b) * Ideal.logistic (segOf (V m c main_v0) (V m c main_v1) (V m c main_v25) (V m c main_v27) 2560 (by omega) r b) := by
  refine (dats m 0 c).arrAt_eq_of_covers 16 _ (by decide +kernel) fun t hf y => ?_
  blk_simp
  rw [after0_16]
  obtain ⟨a, b, rfl⟩ : ∃ (a : Fin 512) (b : Fin 512), y = ix2 a b := ⟨y 0, y 1, funext fun i => match i with
    | 0 => rfl
    | 1 => rfl⟩
  refine (Block.out16_at _ _ _ _ _ _ _ _ _ a b).trans ?_
  have ht := point_lt t
  rw [block2, block3, part_of m c t a ⟨t.val * 512 + a.val, by omega⟩ rfl]
  refine Eq.trans ?_ (full_at _ _ ⟨t.val * 512 + a.val, by omega⟩ b ?_ ?_)
  · rfl
  · blk_simp [idx t]
  · blk_simp [idx t]

/-- Output 9 after the run. -/
theorem final17 (c : Dev nD) : (dats m 0 c).arrAt 17 (cfgs 0).N
    = full fun r b => segOf (V m c main_v0) (V m c main_v1) (V m c main_v25) (V m c main_v27) 3072 (by omega) r b := by
  refine (dats m 0 c).arrAt_eq_of_covers 17 _ (by decide +kernel) fun t hf y => ?_
  blk_simp
  rw [after0_17]
  obtain ⟨a, b, rfl⟩ : ∃ (a : Fin 512) (b : Fin 512), y = ix2 a b := ⟨y 0, y 1, funext fun i => match i with
    | 0 => rfl
    | 1 => rfl⟩
  refine (Block.out17_at _ _ _ _ _ _ _ _ _ a b).trans ?_
  have ht := point_lt t
  rw [block2, block3, part_of m c t a ⟨t.val * 512 + a.val, by omega⟩ rfl]
  refine Eq.trans ?_ (full_at _ _ ⟨t.val * 512 + a.val, by omega⟩ b ?_ ?_)
  · rfl
  · blk_simp [idx t]
  · blk_simp [idx t]

end Cert.ProjectIdeal.Array

end
-- ==== Proof.ProjectTable.lean ====
/- The arrays the projection's host code prepares: the rows, the norm's gain, the weights, the two head gains laid over the eight
   heads, the forget gate's lower bounds, and the matrix of averages, each as a term of the arguments and at an entry. -/
module

public import proofs.«01_k».proof.Proof.Gen.ProjectIdeal.Frame
public import proofs.«01_k».proof.Proof.Gen.ProjectReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ProjectIdeal.Table

open Cert.ProjectIdeal Cert.ProjectIdeal.Gen

/-- The prompt's rows. -/
def prompt (x : FVec Ideal S4x4096x1024 .f32) : FVec Ideal S16384x1024 .f32 := shapeCast S16384x1024 x shapeCasts_S4x4096x1024_S16384x1024

/-- The sample's rows. -/
def sample (x : FVec Ideal S16x32x1024 .f32) : FVec Ideal S512x1024 .f32 := shapeCast S512x1024 x shapeCasts_S16x32x1024_S512x1024

/-- The norm's gain. -/
def gain (x : FVec Ideal S2x1024 .f32) : FVec Ideal S1x1024 .f32 :=
  shapeCast S1x1024 (shapeCast S1024 (extractStridedSlice S1x1024 ![0, 0] x slices_S2x1024_S1x1024_0_0) shapeCasts_S1x1024_S1024)
    shapeCasts_S1024_S1x1024

/-- The weights. -/
def weights (x : FVec Ideal S1x1024x3584 .f32) : FVec Ideal S1024x3584 .bf16 :=
  truncf .bf16 (shapeCast S1024x3584 x shapeCasts_S1x1024x3584_S1024x3584 : FVec Ideal S1024x3584 .f32) bitsLt_bf16_f32

/-- A head's gain, over the eight heads. -/
def tiled (x : FVec Ideal S1x64 .f32) : FVec Ideal S1x512 .f32 :=
  shapeCast S1x512 (shapeCast S512 (broadcastInDim S8x64 ![0, 1] bcast_S1x64_S8x64_0_1
    (shapeCast S1x64 (shapeCast S64 x shapeCasts_S1x64_S64) shapeCasts_S64_S1x64)) shapeCasts_S8x64_S512) shapeCasts_S512_S1x512

/-- The running sums of the bounds' softmax. -/
def sums (x : FVec Ideal S2x512 .f32) : FVec Ideal S2x512 .f32 :=
  let e : FVec Ideal S2x512 .f32 := Host.exp (subf x (broadcastInDim S2x512 ![0, 1] bcast_S1x512_S2x512_0_1
    (broadcastInDim S1x512 ![1] bcast_S512_S1x512_1 (maximumf (broadcastInDim S512 ![] bcast_S_S512 (constant S_ .f32 0xFF800000#32))
      (Host.reduce FloatOps.maximumf x (constant S_ .f32 0xFF800000#32) reducesTo_S2x512_S512_d0 h_S_)))))
  Host.reduceWindowAdd ![2, 1] ![1, 1] ![1, 0] ![0, 0]
    (Host.divf e (broadcastInDim S2x512 ![0, 1] bcast_S1x512_S2x512_0_1 (broadcastInDim S1x512 ![1] bcast_S512_S1x512_1
      (Host.reduceAdd e (constant S_ .f32 0x00000000#32) reducesTo_S2x512_S512_d0 h_S_))))
    (broadcastInDim S_ ![] bcast_S_S_ (constant S_ .f32 0x00000000#32)) reduceWindows_S2x512_S2x512_w2s1p1_0_w1s1p0_0 h_S_

/-- The first layer's bounds. -/
def bounds (x : FVec Ideal S2x512 .f32) : FVec Ideal S1x512 .f32 :=
  shapeCast S1x512 (shapeCast S512 (extractStridedSlice S1x512 ![0, 0] x slices_S2x512_S1x512_0_0) shapeCasts_S1x512_S512)
    shapeCasts_S512_S1x512

/-- One where a head meets itself. -/
def eye : FVec Ideal S8x8 .f32 :=
  uitofp .f32 (cmpi .eq (addi (iotaInDim S8x8 32 0) (broadcastInDim S8x8 ![] bcast_S_S8x8 (constantI S_ 32 0#32))) (iotaInDim S8x8 32 1))

/-- The matrix of averages. -/
def average : FVec Ideal S512x512 .bf16 :=
  truncf .bf16 (shapeCast S512x512 (mulf
    (broadcastInDim S8x64x8x64 ![0, 1, 2, 3] bcast_S8x1x8x1_S8x64x8x64_0_1_2_3 (broadcastInDim S8x1x8x1 ![0, 2] bcast_S8x8_S8x1x8x1_0_2 eye))
    (broadcastInDim S8x64x8x64 ![0, 1, 2, 3] bcast_S1x64x1x64_S8x64x8x64_0_1_2_3 (broadcastInDim S1x64x1x64 ![1, 3] bcast_S64x64_S1x64x1x64_1_3
      (broadcastInDim S64x64 ![] bcast_S_S64x64 (constant S_ .f32 0x3C800000#32) : FVec Ideal S64x64 .f32))))
    shapeCasts_S8x64x8x64_S512x512 : FVec Ideal S512x512 .f32) bitsLt_bf16_f32

theorem gain_at (x : FVec Ideal S2x1024 .f32) (k : Fin 1024) : gain x (ix2 0 k) = x (ix2 0 k) := by pointwise [gain]

theorem weights_at (x : FVec Ideal S1x1024x3584 .f32) (k : Fin 1024) (c : Fin 3584) : weights x (ix2 k c) = x (ix3 0 k c) := by
  pointwise [weights]

theorem tiled_at (x : FVec Ideal S1x64 .f32) (b : Fin 512) : tiled x (ix2 0 b) = x (ix2 0 ⟨b.val % 64, by omega⟩) := by
  pointwise [tiled]

theorem bounds_at (x : FVec Ideal S2x512 .f32) (b : Fin 512) : bounds x (ix2 0 b) = x (ix2 0 b) := by pointwise [bounds]

theorem same_head : ∀ h k : Fin 8,
    IntOp.cmpi .eq (IntOp.addi (BitVec.ofNat 32 h.val) 0#32) (BitVec.ofNat 32 k.val) = if h.val = k.val then 1#1 else 0#1 := by
  decide +kernel

theorem eye_at (h k : Fin 8) : eye (ix2 h k) = if h.val = k.val then (1 : EReal) else 0 := by
  have hs : eye (ix2 h k) = FloatOps.uitofp (F := Ideal) .f32
      (IntOp.cmpi .eq (IntOp.addi (BitVec.ofNat 32 h.val) 0#32) (BitVec.ofNat 32 k.val)) := by
    pointwise [eye]
  rw [hs, same_head]
  show (((if h.val = k.val then 1#1 else 0#1 : BitVec 1).toNat : ℝ) : EReal) = _
  split <;> simp

theorem bits_average : Ideal.ofBits .f32 0x3C800000#32 = ((1 / 64 : ℝ) : EReal) := by
  simp [Ideal.ofBits, Ideal.ieee]
  rw [← EReal.coe_mul]
  norm_num

theorem average_at (x b : Fin 512) : average (ix2 x b) = if x.val / 64 = b.val / 64 then ((1 / 64 : ℝ) : EReal) else 0 := by
  pointwise [average]
  rw [eye_at, bits_average]
  dsimp only
  split
  · rw [one_mul]
  · rw [zero_mul]

variable (m : (ℓ : Loc nD τ sig) → Buf (Elt Ideal) ℓ) (c : Dev nD)

theorem V_prompt : V m c main_v0 = prompt (m ((c : Thread nD τ).loc main_arg0)) := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.ternary, StableHlo.TRef.unary,
    StableHlo.TRef.reshape, StableHlo.TRef.toBuf, StableHlo.TRef.ofBuf, cast_eq]
  after_results_simp <;> rfl

theorem V_sample : V m c main_v1 = sample (m ((c : Thread nD τ).loc main_arg1)) := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.ternary, StableHlo.TRef.unary,
    StableHlo.TRef.reshape, StableHlo.TRef.toBuf, StableHlo.TRef.ofBuf, cast_eq]
  after_results_simp <;> rfl

theorem V_gain : V m c main_v25 = gain (m ((c : Thread nD τ).loc main_arg2)) := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.ternary, StableHlo.TRef.unary,
    StableHlo.TRef.reshape, StableHlo.TRef.toBuf, StableHlo.TRef.ofBuf, cast_eq]
  after_results_simp <;> rfl

theorem V_weights : V m c main_v27 = weights (m ((c : Thread nD τ).loc main_arg3)) := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.ternary, StableHlo.TRef.unary,
    StableHlo.TRef.reshape, StableHlo.TRef.toBuf, StableHlo.TRef.ofBuf, cast_eq]
  after_results_simp <;> rfl

theorem V_query : V m c main_v32 = tiled (m ((c : Thread nD τ).loc main_arg4)) := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.ternary, StableHlo.TRef.unary,
    StableHlo.TRef.reshape, StableHlo.TRef.toBuf, StableHlo.TRef.ofBuf, cast_eq]
  after_results_simp <;> rfl

theorem V_key : V m c main_v37 = tiled (m ((c : Thread nD τ).loc main_arg5)) := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.ternary, StableHlo.TRef.unary,
    StableHlo.TRef.reshape, StableHlo.TRef.toBuf, StableHlo.TRef.ofBuf, cast_eq]
  after_results_simp <;> rfl

theorem V_bounds : V m c main_v40 = bounds (sums (m ((c : Thread nD τ).loc main_arg6))) := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.ternary, StableHlo.TRef.unary,
    StableHlo.TRef.reshape, StableHlo.TRef.toBuf, StableHlo.TRef.ofBuf, cast_eq]
  after_results_simp <;> rfl

theorem V_average : V m c main_v22 = average := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.ternary, StableHlo.TRef.unary,
    StableHlo.TRef.reshape, StableHlo.TRef.toBuf, StableHlo.TRef.ofBuf, cast_eq]
  after_results_simp <;> rfl

end Cert.ProjectIdeal.Table

end
-- ==== Proof.ProjectRef.lean ====
/- The reference of the input projection, stage by stage, and each stage at an entry. -/
module

public import proofs.«01_k».proof.Proof.ProjectMeaning
public import proofs.«01_k».proof.Proof.Gen.ProjectReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ProjectReferenceIdeal.Value

open Cert.ProjectReferenceIdeal Cert.ProjectReferenceIdeal.Gen Cert.Projected

/-- The rows of prompt and sample together. -/
def rows (p : FVec Ideal S16384x1024 .f32) (s : FVec Ideal S512x1024 .f32) : FVec Ideal S16896x1024 .f32 :=
  concatenate S16896x1024 0 [⟨S16384x1024, p⟩, ⟨S512x1024, s⟩] concatenates_S16384x1024_S512x1024_S16896x1024_d0

/-- The prompt's rows. -/
def prompt (x : FVec Ideal S4x4096x1024 .f32) : FVec Ideal S16384x1024 .f32 := shapeCast S16384x1024 x shapeCasts_S4x4096x1024_S16384x1024

/-- The sample's rows. -/
def sample (x : FVec Ideal S16x32x1024 .f32) : FVec Ideal S512x1024 .f32 := shapeCast S512x1024 x shapeCasts_S16x32x1024_S512x1024

/-- The rows normed by their root mean square, times the first layer's gain. -/
def normedRows (x : FVec Ideal S16896x1024 .f32) (g : FVec Ideal S2x1024 .f32) : FVec Ideal S16896x1024 .f32 :=
  mulf (mulf x (broadcastInDim S16896x1024 ![0, 1] bcast_S16896x1_S16896x1024_0_1 (Host.rsqrt (addf
      (Host.divf (broadcastInDim S16896x1 ![0] bcast_S16896_S16896x1_0
        (Host.reduceAdd (mulf x x) (constant S_ .f32 0x00000000#32) reducesTo_S16896x1024_S16896_d1 h_S_))
        (broadcastInDim S16896x1 ![] bcast_S_S16896x1 (constant S_ .f32 0x44800000#32)))
      (broadcastInDim S16896x1 ![] bcast_S_S16896x1 (constant S_ .f32 0x358637BD#32))))))
    (broadcastInDim S16896x1024 ![0, 1] bcast_S1x1024_S16896x1024_0_1 (broadcastInDim S1x1024 ![1] bcast_S1024_S1x1024_1
      (shapeCast S1024 (extractStridedSlice S1x1024 ![0, 0] g slices_S2x1024_S1x1024_0_0) shapeCasts_S1x1024_S1024)))

/-- Every product of the normed rows. -/
def prods (x : FVec Ideal S16896x1024 .f32) (w : FVec Ideal S1x1024x3584 .f32) : FVec Ideal S16896x3584 .f32 :=
  Host.dotGeneral dot_S16896x1024_S1024x3584_S16896x3584_1_0_0_1_n_n none x (shapeCast S1024x3584 w shapeCasts_S1x1024x3584_S1024x3584 : FVec Ideal S1024x3584 .f32)

/-- The heads normed by their root mean square, times the gain. -/
def heads (s : FVec Ideal S16896x512 .f32) (g : FVec Ideal S1x64 .f32) : FVec Ideal S16896x512 .f32 :=
  let y : FVec Ideal S16896x8x64 .f32 := shapeCast S16896x8x64 s shapeCasts_S16896x512_S16896x8x64
  shapeCast S16896x512 (mulf (mulf y (broadcastInDim S16896x8x64 ![0, 1, 2] bcast_S16896x8x1_S16896x8x64_0_1_2 (Host.rsqrt (addf
      (Host.divf (broadcastInDim S16896x8x1 ![0, 1] bcast_S16896x8_S16896x8x1_0_1
        (Host.reduceAdd (mulf y y) (constant S_ .f32 0x00000000#32) reducesTo_S16896x8x64_S16896x8_d2 h_S_))
        (broadcastInDim S16896x8x1 ![] bcast_S_S16896x8x1 (constant S_ .f32 0x42800000#32)))
      (broadcastInDim S16896x8x1 ![] bcast_S_S16896x8x1 (constant S_ .f32 0x358637BD#32))))))
    (broadcastInDim S16896x8x64 ![0, 1, 2] bcast_S1x1x64_S16896x8x64_0_1_2 (broadcastInDim S1x1x64 ![2] bcast_S64_S1x1x64_2
      (shapeCast S64 g shapeCasts_S1x64_S64))) : FVec Ideal S16896x8x64 .f32) shapeCasts_S16896x8x64_S16896x512

/-- The running sums of the bounds' softmax. -/
def sums (x : FVec Ideal S2x512 .f32) : FVec Ideal S2x512 .f32 :=
  let e : FVec Ideal S2x512 .f32 := Host.exp (subf x (broadcastInDim S2x512 ![0, 1] bcast_S1x512_S2x512_0_1
    (broadcastInDim S1x512 ![1] bcast_S512_S1x512_1 (maximumf (broadcastInDim S512 ![] bcast_S_S512 (constant S_ .f32 0xFF800000#32))
      (Host.reduce FloatOps.maximumf x (constant S_ .f32 0xFF800000#32) reducesTo_S2x512_S512_d0 h_S_)))))
  Host.reduceWindowAdd ![2, 1] ![1, 1] ![1, 0] ![0, 0]
    (Host.divf e (broadcastInDim S2x512 ![0, 1] bcast_S1x512_S2x512_0_1 (broadcastInDim S1x512 ![1] bcast_S512_S1x512_1
      (Host.reduceAdd e (constant S_ .f32 0x00000000#32) reducesTo_S2x512_S512_d0 h_S_))))
    (broadcastInDim S_ ![] bcast_S_S_ (constant S_ .f32 0x00000000#32)) reduceWindows_S2x512_S2x512_w2s1p1_0_w1s1p0_0 h_S_

/-- The forget gate above its lower bound. -/
def gate (s : FVec Ideal S16896x512 .f32) (l : FVec Ideal S2x512 .f32) : FVec Ideal S16896x512 .f32 :=
  let b : FVec Ideal S512 .f32 := shapeCast S512 (extractStridedSlice S1x512 ![0, 0] l slices_S2x512_S1x512_0_0) shapeCasts_S1x512_S512
  addf (broadcastInDim S16896x512 ![0, 1] bcast_S1x512_S16896x512_0_1 (broadcastInDim S1x512 ![1] bcast_S512_S1x512_1 b))
    (mulf (broadcastInDim S16896x512 ![0, 1] bcast_S1x512_S16896x512_0_1 (broadcastInDim S1x512 ![1] bcast_S512_S1x512_1
        (subf (broadcastInDim S512 ![] bcast_S_S512 (constant S_ .f32 0x3F800000#32)) b)))
      (Host.divf (broadcastInDim S16896x512 ![] bcast_S_S16896x512 (constant S_ .f32 0x3F800000#32))
        (addf (broadcastInDim S16896x512 ![] bcast_S_S16896x512 (constant S_ .f32 0x3F800000#32)) (Host.exp (Host.negf s)))))

/-- The rows kept: the last 512 of each sequence, and the sample's. -/
def keep (x : FVec Ideal S16896x512 .f32) : FVec Ideal S2560x512 .f32 :=
  concatenate S2560x512 0 [⟨S2048x512, shapeCast S2048x512 (extractStridedSlice S4x512x512 ![0, 3584, 0]
      (shapeCast S4x4096x512 (extractStridedSlice S16384x512 ![0, 0] x slices_S16896x512_S16384x512_0_0 : FVec Ideal S16384x512 .f32)
        shapeCasts_S16384x512_S4x4096x512) slices_S4x4096x512_S4x512x512_0_3584_0) shapeCasts_S4x512x512_S2048x512⟩,
    ⟨S512x512, extractStridedSlice S512x512 ![16384, 0] x slices_S16896x512_S512x512_16384_0⟩]
    concatenates_S2048x512_S512x512_S2560x512_d0

/-- The queries, scaled. -/
def scaled (x : FVec Ideal S16896x512 .f32) : FVec Ideal S16896x512 .bf16 :=
  truncf .bf16 (mulf x (broadcastInDim S16896x512 ![] bcast_S_S16896x512 (constant S_ .f32 0x3E000000#32))) bitsLt_bf16_f32

/-- A number through the sigmoid's product with it. -/
def swished (s : FVec Ideal S16896x512 .f32) : FVec Ideal S16896x512 .f32 :=
  mulf s (Host.divf (broadcastInDim S16896x512 ![] bcast_S_S16896x512 (constant S_ .f32 0x3F800000#32))
    (addf (broadcastInDim S16896x512 ![] bcast_S_S16896x512 (constant S_ .f32 0x3F800000#32)) (Host.exp (Host.negf s))))

/-- The columns from 0. -/
def cols0 (x : FVec Ideal S16896x3584 .f32) : FVec Ideal S16896x512 .f32 :=
  extractStridedSlice S16896x512 ![0, 0] x slices_S16896x3584_S16896x512_0_0

theorem cols0_at (x : FVec Ideal S16896x3584 .f32) (r : Fin 16896) (b : Fin 512) :
    cols0 x (ix2 r b) = x (ix2 r ⟨0 + b.val, by omega⟩) := by pointwise [cols0]

/-- The columns from 512. -/
def cols512 (x : FVec Ideal S16896x3584 .f32) : FVec Ideal S16896x512 .f32 :=
  extractStridedSlice S16896x512 ![0, 512] x slices_S16896x3584_S16896x512_0_512

theorem cols512_at (x : FVec Ideal S16896x3584 .f32) (r : Fin 16896) (b : Fin 512) :
    cols512 x (ix2 r b) = x (ix2 r ⟨512 + b.val, by omega⟩) := by pointwise [cols512]

/-- The columns from 1024. -/
def cols1024 (x : FVec Ideal S16896x3584 .f32) : FVec Ideal S16896x512 .f32 :=
  extractStridedSlice S16896x512 ![0, 1024] x slices_S16896x3584_S16896x512_0_1024

theorem cols1024_at (x : FVec Ideal S16896x3584 .f32) (r : Fin 16896) (b : Fin 512) :
    cols1024 x (ix2 r b) = x (ix2 r ⟨1024 + b.val, by omega⟩) := by pointwise [cols1024]

/-- The columns from 1536. -/
def cols1536 (x : FVec Ideal S16896x3584 .f32) : FVec Ideal S16896x512 .f32 :=
  extractStridedSlice S16896x512 ![0, 1536] x slices_S16896x3584_S16896x512_0_1536

theorem cols1536_at (x : FVec Ideal S16896x3584 .f32) (r : Fin 16896) (b : Fin 512) :
    cols1536 x (ix2 r b) = x (ix2 r ⟨1536 + b.val, by omega⟩) := by pointwise [cols1536]

/-- The columns from 2048. -/
def cols2048 (x : FVec Ideal S16896x3584 .f32) : FVec Ideal S16896x512 .f32 :=
  extractStridedSlice S16896x512 ![0, 2048] x slices_S16896x3584_S16896x512_0_2048

theorem cols2048_at (x : FVec Ideal S16896x3584 .f32) (r : Fin 16896) (b : Fin 512) :
    cols2048 x (ix2 r b) = x (ix2 r ⟨2048 + b.val, by omega⟩) := by pointwise [cols2048]

/-- The columns from 2560. -/
def cols2560 (x : FVec Ideal S16896x3584 .f32) : FVec Ideal S16896x512 .f32 :=
  extractStridedSlice S16896x512 ![0, 2560] x slices_S16896x3584_S16896x512_0_2560

theorem cols2560_at (x : FVec Ideal S16896x3584 .f32) (r : Fin 16896) (b : Fin 512) :
    cols2560 x (ix2 r b) = x (ix2 r ⟨2560 + b.val, by omega⟩) := by pointwise [cols2560]

/-- The columns from 3072. -/
def cols3072 (x : FVec Ideal S16896x3584 .f32) : FVec Ideal S16896x512 .f32 :=
  extractStridedSlice S16896x512 ![0, 3072] x slices_S16896x3584_S16896x512_0_3072

theorem cols3072_at (x : FVec Ideal S16896x3584 .f32) (r : Fin 16896) (b : Fin 512) :
    cols3072 x (ix2 r b) = x (ix2 r ⟨3072 + b.val, by omega⟩) := by pointwise [cols3072]

theorem rows_at (p : FVec Ideal S16384x1024 .f32) (s : FVec Ideal S512x1024 .f32) (r : Fin 16896) (k : Fin 1024) :
    rows p s (ix2 r k) = if h : r.val < 16384 then p (ix2 ⟨r.val, h⟩ k) else s (ix2 ⟨r.val - 16384, by omega⟩ k) := by
  pointwise [rows]

theorem normedRows_at (x : FVec Ideal S16896x1024 .f32) (g : FVec Ideal S2x1024 .f32) (r : Fin 16896) (k : Fin 1024) :
    normedRows x g (ix2 r k) = normed (fun k => x (ix2 r k)) (fun k => g (ix2 0 k)) k := by
  pointwise [normedRows, normed, eps]

theorem prods_at (x : FVec Ideal S16896x1024 .f32) (w : FVec Ideal S1x1024x3584 .f32) (r : Fin 16896) (j : Fin 3584) :
    prods x w (ix2 r j) = ∑ k, x (ix2 r k) * w (ix3 0 k j) := by
  pointwise [prods]

theorem heads_at (s : FVec Ideal S16896x512 .f32) (g : FVec Ideal S1x64 .f32) (r : Fin 16896) (b : Fin 512) :
    heads s g (ix2 r b) = headed (fun b => s (ix2 r b)) (fun d => g (ix2 0 d)) b := by
  pointwise [heads, headed, eps]

theorem gate_at (s : FVec Ideal S16896x512 .f32) (l : FVec Ideal S2x512 .f32) (r : Fin 16896) (b : Fin 512) :
    gate s l (ix2 r b) = forget (fun b => l (ix2 0 b)) (fun b => s (ix2 r b)) b := by
  pointwise [gate, forget, Ideal.logistic]

theorem keep_at (x : FVec Ideal S16896x512 .f32) (r : Fin 2560) (b : Fin 512) :
    keep x (ix2 r b) = x (ix2 ⟨if r.val < 2048 then r.val / 512 * 4096 + 3584 + r.val % 512 else 14336 + r.val, by split <;> omega⟩ b) := by
  pointwise [keep]
  by_cases h : r.val < 2048
  · rw [dif_pos h]
    refine congrArg (fun q => x (ix2 q b)) (Fin.ext ?_)
    show r.val / 512 * 4096 + (3584 + r.val % 512) = if r.val < 2048 then r.val / 512 * 4096 + 3584 + r.val % 512 else 14336 + r.val
    rw [if_pos h]
    omega
  · rw [dif_neg h]
    refine congrArg (fun q => x (ix2 q b)) (Fin.ext ?_)
    show 16384 + (r.val - 2048) = if r.val < 2048 then r.val / 512 * 4096 + 3584 + r.val % 512 else 14336 + r.val
    rw [if_neg h]
    omega

theorem scaled_at (x : FVec Ideal S16896x512 .f32) (r : Fin 16896) (b : Fin 512) :
    scaled x (ix2 r b) = x (ix2 r b) * Ideal.ofBits .f32 0x3E000000#32 := by
  pointwise [scaled]

theorem swished_at (x : FVec Ideal S16896x512 .f32) (r : Fin 16896) (b : Fin 512) :
    swished x (ix2 r b) = x (ix2 r b) * Ideal.logistic (x (ix2 r b)) := by
  pointwise [swished, Ideal.logistic]

/-- The products of the arguments. -/
def product (x0 : FVec Ideal S4x4096x1024 .f32) (x1 : FVec Ideal S16x32x1024 .f32) (x2 : FVec Ideal S2x1024 .f32)
    (x3 : FVec Ideal S1x1024x3584 .f32) : FVec Ideal S16896x3584 .f32 := prods (normedRows (rows (prompt x0) (sample x1)) x2) x3

/-- One less the gate. -/
def complement (s : FVec Ideal S16896x512 .f32) : FVec Ideal S16896x512 .f32 :=
  subf (broadcastInDim S16896x512 ![] bcast_S_S16896x512 (constant S_ .f32 0x3F800000#32)) s

theorem complement_at (s : FVec Ideal S16896x512 .f32) (r : Fin 16896) (b : Fin 512) : complement s (ix2 r b) = 1 - s (ix2 r b) := by
  pointwise [complement]

variable (m : (ℓ : Loc nD τ sig) → Buf (Elt Ideal) ℓ) (c : Dev nD)

theorem res0_eq : res_main_v91 m c = scaled (heads (cols0 (product (m ((c.tc : Thread nD τ).loc main_arg0)) (m ((c.tc : Thread nD τ).loc main_arg1))
    (m ((c.tc : Thread nD τ).loc main_arg2)) (m ((c.tc : Thread nD τ).loc main_arg3)))) (m ((c.tc : Thread nD τ).loc main_arg4))) := rfl

theorem res1_eq : res_main_v97 m c = keep (heads (cols512 (product (m ((c.tc : Thread nD τ).loc main_arg0)) (m ((c.tc : Thread nD τ).loc main_arg1))
    (m ((c.tc : Thread nD τ).loc main_arg2)) (m ((c.tc : Thread nD τ).loc main_arg3)))) (m ((c.tc : Thread nD τ).loc main_arg5))) := rfl

theorem res2_eq : res_main_v103 m c = keep (cols1024 (product (m ((c.tc : Thread nD τ).loc main_arg0)) (m ((c.tc : Thread nD τ).loc main_arg1))
    (m ((c.tc : Thread nD τ).loc main_arg2)) (m ((c.tc : Thread nD τ).loc main_arg3)))) := rfl

theorem res3_eq : res_main_v104 m c = truncf .bf16 (heads (cols512 (product (m ((c.tc : Thread nD τ).loc main_arg0)) (m ((c.tc : Thread nD τ).loc main_arg1))
    (m ((c.tc : Thread nD τ).loc main_arg2)) (m ((c.tc : Thread nD τ).loc main_arg3)))) (m ((c.tc : Thread nD τ).loc main_arg5))) bitsLt_bf16_f32 := rfl

theorem res5_eq : res_main_v106 m c = Host.log (gate (cols1536 (product (m ((c.tc : Thread nD τ).loc main_arg0)) (m ((c.tc : Thread nD τ).loc main_arg1))
    (m ((c.tc : Thread nD τ).loc main_arg2)) (m ((c.tc : Thread nD τ).loc main_arg3)))) (sums (m ((c.tc : Thread nD τ).loc main_arg6)))) := rfl

theorem res6_eq : res_main_v108 m c = complement (gate (cols1536 (product (m ((c.tc : Thread nD τ).loc main_arg0)) (m ((c.tc : Thread nD τ).loc main_arg1))
    (m ((c.tc : Thread nD τ).loc main_arg2)) (m ((c.tc : Thread nD τ).loc main_arg3)))) (sums (m ((c.tc : Thread nD τ).loc main_arg6)))) := rfl

end Cert.ProjectReferenceIdeal.Value

end
-- ==== Proof.ProjectEquation.lean ====
/- At the ideal instance the projection's ten arrays are the reference's, where the norm's gain and the weights of the queries and keys
   are real numbers. -/
module

public import proofs.«01_k».proof.Proof.ProjectArray
public import proofs.«01_k».proof.Proof.ProjectTable
public import proofs.«01_k».proof.Proof.ProjectRef
public import proofs.«01_k».proof.Proof.Finite
public import proofs.«01_k».proof.Proof.Gen.Pre_finite_weights
public import proofs.«01_k».proof.Pre_finite_weights

@[expose] public section

set_option maxRecDepth 16384

noncomputable section

open Idealize.ShloMosaic Idealize.ShloMosaic.TcCoe Idealize.SL.Sem

namespace Cert.ProjectIdeal.Equation

open Cert.ProjectIdeal Cert.ProjectIdeal.Gen Cert.Projected Cert.Finiteness Cert.ProjectIdeal.Array

/-- The first layer's gain, at an entry. -/
theorem first_at (x : FVec Ideal S2x1024 .f32) (k : Fin 1024) :
    shapeCast S1024 (extractStridedSlice S1x1024 ![0, 0] x slices_S2x1024_S1x1024_0_0) shapeCasts_S1x1024_S1024 (ix1 k) = x (ix2 0 k) := by
  pointwise []

/-- The queries' and keys' weights, at an entry. -/
theorem first_weights_at [Cert.Pre_finite_weights.Facts] (x : FVec Ideal S1x1024x3584 .f32) (k : Fin 1024) (j : Fin 1024) :
    shapeCast Cert.Pre_finite_weights.S1024x1024 (extractStridedSlice Cert.Pre_finite_weights.S1x1024x1024 ![0, 0, 0] x
      Cert.Pre_finite_weights.Facts.slices_S1x1024x3584_S1x1024x1024_0_0_0)
      Cert.Pre_finite_weights.Facts.shapeCasts_S1x1024x1024_S1024x1024 (ix2 k j) = x (ix3 0 k ⟨j.val, by omega⟩) := by
  pointwise []

/-- The queries' and keys' weights are real numbers. -/
def WeightsFinite (x : FVec Ideal S1x1024x3584 .f32) : Prop := ∀ (k : Fin 1024) (j : Fin 3584), j.val < 1024 → Finite (x (ix3 0 k j))

/-- Under the precondition the gain and the queries' and keys' weights hold real numbers. -/
theorem real_of_pre [Cert.Pre_finite_weights.Facts] (x0 : FVec Ideal S4x4096x1024 .f32) (x1 : FVec Ideal S16x32x1024 .f32) (x2 : FVec Ideal S2x1024 .f32)
    (x3 : FVec Ideal S1x1024x3584 .f32) (x4 x5 : FVec Ideal S1x64 .f32) (x6 : FVec Ideal S2x512 .f32)
    (h : Cert.Pre_finite_weights.fn (F := Ideal) x0 x1 x2 x3 x4 x5 x6 = fun _ => 1#1) : (∀ k, Finite (x2 (ix2 0 k))) ∧ WeightsFinite x3 := by
  obtain ⟨h1, h2⟩ := and_one (congrFun h ix0)
  refine ⟨fun k => ?_, fun k j hj => ?_⟩
  · have e := real_of_all _ _ _ _ _ h1 (ix1 k)
    rwa [first_at] at e
  · have e := real_of_all _ _ _ _ _ h2 (ix2 k ⟨j.val, hj⟩)
    rwa [first_weights_at] at e

section Values

variable (x0 : FVec Ideal S4x4096x1024 .f32) (x1 : FVec Ideal S16x32x1024 .f32) (x2 : FVec Ideal S2x1024 .f32)
  (x3 : FVec Ideal S1x1024x3584 .f32) (x4 x5 : FVec Ideal S1x64 .f32) (x6 : FVec Ideal S2x512 .f32)

/-- Every row's products of 512 columns, of the arguments. -/
def piece (o : ℕ) (ho : o + 512 ≤ 3584) (r : Fin 16896) : Fin 512 → EReal :=
  segOf (Table.prompt x0) (Table.sample x1) (Table.gain x2) (Table.weights x3) o ho r

/-- The reference's products are the kernel's. -/
theorem product_at (o : ℕ) (ho : o + 512 ≤ 3584) (r : Fin 16896) (b : Fin 512) :
    Cert.ProjectReferenceIdeal.Value.product x0 x1 x2 x3 (ix2 r ⟨o + b.val, by omega⟩) = piece x0 x1 x2 x3 o ho r b := by
  unfold Cert.ProjectReferenceIdeal.Value.product piece segOf seg
  rw [Cert.ProjectReferenceIdeal.Value.prods_at]
  refine Finset.sum_congr rfl fun k _ => ?_
  rw [Cert.ProjectReferenceIdeal.Value.normedRows_at]
  dsimp only
  rw [Table.weights_at]
  have e0 : (fun k => Cert.ProjectReferenceIdeal.Value.rows (Cert.ProjectReferenceIdeal.Value.prompt x0)
      (Cert.ProjectReferenceIdeal.Value.sample x1) (ix2 r k)) = rowOf (Table.prompt x0) (Table.sample x1) r := by
    funext k
    rw [Cert.ProjectReferenceIdeal.Value.rows_at]
    rfl
  have e1 : (fun k => x2 (ix2 0 k)) = fun k => Table.gain x2 (ix2 0 k) := funext fun k => (Table.gain_at x2 k).symm
  rw [e0, e1]

/-- The kernel's heads are the reference's where the products are real numbers. -/
theorem heads_eq (h2 : ∀ k, Finite (x2 (ix2 0 k))) (h3 : WeightsFinite x3) (g : FVec Ideal S1x64 .f32) (o : ℕ) (ho : o + 512 ≤ 3584) (ho' : o + 512 ≤ 1024)
    (s : FVec Ideal S16896x512 .f32) (hs : ∀ r b, s (ix2 r b) = piece x0 x1 x2 x3 o ho r b) (r : Fin 16896) (b : Fin 512) :
    averaged (piece x0 x1 x2 x3 o ho r) (Block.avg Table.average) (Block.line (Table.tiled g)) b
      = Cert.ProjectReferenceIdeal.Value.heads s g (ix2 r b) := by
  have e : (fun b => s (ix2 r b)) = piece x0 x1 x2 x3 o ho r := funext fun b => hs r b
  rw [Cert.ProjectReferenceIdeal.Value.heads_at, e]
  refine averaged_eq _ (fun x => ?_) _ (fun x b => Table.average_at x b) _ _ (fun b => Table.tiled_at g b) b
  unfold piece segOf
  refine seg_finite _ _ (fun k => ?_) _ _ _ _ (fun k => ?_)
  · rw [Table.gain_at]
    exact h2 _
  · rw [Table.weights_at]
    exact h3 _ _ (by dsimp only; omega)

/-- The kernel's gate is the reference's. -/
theorem gate_eq (o : ℕ) (ho : o + 512 ≤ 3584) (s : FVec Ideal S16896x512 .f32) (hs : ∀ r b, s (ix2 r b) = piece x0 x1 x2 x3 o ho r b)
    (r : Fin 16896) (b : Fin 512) :
    forget (Block.line (Table.bounds (Table.sums x6))) (piece x0 x1 x2 x3 o ho r) b
      = Cert.ProjectReferenceIdeal.Value.gate s (Cert.ProjectReferenceIdeal.Value.sums x6) (ix2 r b) := by
  have e : (fun b => s (ix2 r b)) = piece x0 x1 x2 x3 o ho r := funext fun b => hs r b
  have e1 : Block.line (Table.bounds (Table.sums x6)) = fun b => Cert.ProjectReferenceIdeal.Value.sums x6 (ix2 0 b) :=
    funext fun b => Table.bounds_at (Table.sums x6) b
  rw [Cert.ProjectReferenceIdeal.Value.gate_at, e, e1]

end Values

/-- An array over all rows is known by its entries. -/
theorem full_ext (f : Fin 16896 → Fin 512 → EReal) (y : S16896x512.Idx → EReal) (h : ∀ r b, f r b = y (ix2 r b)) : full f = y := by
  funext i
  obtain ⟨r, b, rfl⟩ : ∃ (r : Fin 16896) (b : Fin 512), i = ix2 r b := ⟨i 0, i 1, funext fun i => match i with
    | 0 => rfl
    | 1 => rfl⟩
  exact h r b

/-- An array over the kept rows is the reference's selection of one over all. -/
theorem kept_ext (f : Fin 16896 → Fin 512 → EReal) (y : FVec Ideal S16896x512 .f32) (h : ∀ r b, f r b = y (ix2 r b)) :
    kept f = Cert.ProjectReferenceIdeal.Value.keep y := by
  funext i
  obtain ⟨r, b, rfl⟩ : ∃ (r : Fin 2560) (b : Fin 512), i = ix2 r b := ⟨i 0, i 1, funext fun i => match i with
    | 0 => rfl
    | 1 => rfl⟩
  rw [Cert.ProjectReferenceIdeal.Value.keep_at]
  exact h (keptRow r) b

section Results

variable (m : (ℓ : Loc nD τ sig) → Buf (Elt Ideal) ℓ) (c : Dev nD)

theorem result8 (h2 : ∀ k : Fin 1024, Finite ((m ((c : Thread nD τ).loc main_arg2) : FVec Ideal S2x1024 .f32) (ix2 0 k))) (h3 : WeightsFinite (m ((c : Thread nD τ).loc main_arg3))) :
    (dats m 0 c).arrAt 8 (cfgs 0).N = Cert.ProjectReferenceIdeal.Value.scaled (Cert.ProjectReferenceIdeal.Value.heads (Cert.ProjectReferenceIdeal.Value.cols0 (Cert.ProjectReferenceIdeal.Value.product (m ((c : Thread nD τ).loc main_arg0)) (m ((c : Thread nD τ).loc main_arg1)) (m ((c : Thread nD τ).loc main_arg2)) (m ((c : Thread nD τ).loc main_arg3)))) (m ((c : Thread nD τ).loc main_arg4))) := by
  refine (final8 m c).trans ?_
  rw [Table.V_prompt, Table.V_sample, Table.V_gain, Table.V_weights, Table.V_query, Table.V_average]
  refine full_ext _ _ fun r b => ?_
  rw [Cert.ProjectReferenceIdeal.Value.scaled_at]
  exact congrArg (· * Ideal.ofBits .f32 0x3E000000#32) (heads_eq _ _ _ _ h2 h3 _ 0 (by omega) (by omega) _ (fun r b => (Cert.ProjectReferenceIdeal.Value.cols0_at _ r b).trans (product_at _ _ _ _ 0 (by omega) r b)) r b)

theorem result9 (h2 : ∀ k : Fin 1024, Finite ((m ((c : Thread nD τ).loc main_arg2) : FVec Ideal S2x1024 .f32) (ix2 0 k))) (h3 : WeightsFinite (m ((c : Thread nD τ).loc main_arg3))) :
    (dats m 0 c).arrAt 9 (cfgs 0).N = Cert.ProjectReferenceIdeal.Value.keep (Cert.ProjectReferenceIdeal.Value.heads (Cert.ProjectReferenceIdeal.Value.cols512 (Cert.ProjectReferenceIdeal.Value.product (m ((c : Thread nD τ).loc main_arg0)) (m ((c : Thread nD τ).loc main_arg1)) (m ((c : Thread nD τ).loc main_arg2)) (m ((c : Thread nD τ).loc main_arg3)))) (m ((c : Thread nD τ).loc main_arg5))) := by
  refine (final9 m c).trans ?_
  rw [Table.V_prompt, Table.V_sample, Table.V_gain, Table.V_weights, Table.V_key, Table.V_average]
  refine kept_ext _ _ fun r b => ?_
  exact heads_eq _ _ _ _ h2 h3 _ 512 (by omega) (by omega) _ (fun r b => (Cert.ProjectReferenceIdeal.Value.cols512_at _ r b).trans (product_at _ _ _ _ 512 (by omega) r b)) r b

theorem result10 :
    (dats m 0 c).arrAt 10 (cfgs 0).N = Cert.ProjectReferenceIdeal.Value.keep (Cert.ProjectReferenceIdeal.Value.cols1024 (Cert.ProjectReferenceIdeal.Value.product (m ((c : Thread nD τ).loc main_arg0)) (m ((c : Thread nD τ).loc main_arg1)) (m ((c : Thread nD τ).loc main_arg2)) (m ((c : Thread nD τ).loc main_arg3)))) := by
  refine (final10 m c).trans ?_
  rw [Table.V_prompt, Table.V_sample, Table.V_gain, Table.V_weights]
  refine kept_ext _ _ fun r b => ?_
  exact ((Cert.ProjectReferenceIdeal.Value.cols1024_at _ r b).trans (product_at _ _ _ _ 1024 (by omega) r b)).symm

theorem result11 (h2 : ∀ k : Fin 1024, Finite ((m ((c : Thread nD τ).loc main_arg2) : FVec Ideal S2x1024 .f32) (ix2 0 k))) (h3 : WeightsFinite (m ((c : Thread nD τ).loc main_arg3))) :
    (dats m 0 c).arrAt 11 (cfgs 0).N = truncf .bf16 (Cert.ProjectReferenceIdeal.Value.heads (Cert.ProjectReferenceIdeal.Value.cols512 (Cert.ProjectReferenceIdeal.Value.product (m ((c : Thread nD τ).loc main_arg0)) (m ((c : Thread nD τ).loc main_arg1)) (m ((c : Thread nD τ).loc main_arg2)) (m ((c : Thread nD τ).loc main_arg3)))) (m ((c : Thread nD τ).loc main_arg5)) : FVec Ideal S16896x512 .f32) bitsLt_bf16_f32 := by
  refine (final11 m c).trans ?_
  rw [Table.V_prompt, Table.V_sample, Table.V_gain, Table.V_weights, Table.V_key, Table.V_average]
  refine full_ext _ _ fun r b => ?_
  exact heads_eq _ _ _ _ h2 h3 _ 512 (by omega) (by omega) _ (fun r b => (Cert.ProjectReferenceIdeal.Value.cols512_at _ r b).trans (product_at _ _ _ _ 512 (by omega) r b)) r b

theorem result12 :
    (dats m 0 c).arrAt 12 (cfgs 0).N = truncf .bf16 ((Cert.ProjectReferenceIdeal.Value.cols1024 (Cert.ProjectReferenceIdeal.Value.product (m ((c : Thread nD τ).loc main_arg0)) (m ((c : Thread nD τ).loc main_arg1)) (m ((c : Thread nD τ).loc main_arg2)) (m ((c : Thread nD τ).loc main_arg3)))) : FVec Ideal S16896x512 .f32) bitsLt_bf16_f32 := by
  refine (final12 m c).trans ?_
  rw [Table.V_prompt, Table.V_sample, Table.V_gain, Table.V_weights]
  refine full_ext _ _ fun r b => ?_
  exact ((Cert.ProjectReferenceIdeal.Value.cols1024_at _ r b).trans (product_at _ _ _ _ 1024 (by omega) r b)).symm

theorem result13 :
    (dats m 0 c).arrAt 13 (cfgs 0).N = Host.log (Cert.ProjectReferenceIdeal.Value.gate (Cert.ProjectReferenceIdeal.Value.cols1536 (Cert.ProjectReferenceIdeal.Value.product (m ((c : Thread nD τ).loc main_arg0)) (m ((c : Thread nD τ).loc main_arg1)) (m ((c : Thread nD τ).loc main_arg2)) (m ((c : Thread nD τ).loc main_arg3)))) (Cert.ProjectReferenceIdeal.Value.sums (m ((c : Thread nD τ).loc main_arg6)))) := by
  refine (final13 m c).trans ?_
  rw [Table.V_prompt, Table.V_sample, Table.V_gain, Table.V_weights, Table.V_bounds]
  refine full_ext _ _ fun r b => ?_
  exact congrArg Ideal.log (gate_eq _ _ _ _ _ 1536 (by omega) _ (fun r b => (Cert.ProjectReferenceIdeal.Value.cols1536_at _ r b).trans (product_at _ _ _ _ 1536 (by omega) r b)) r b)

theorem result14 :
    (dats m 0 c).arrAt 14 (cfgs 0).N = Cert.ProjectReferenceIdeal.Value.complement (Cert.ProjectReferenceIdeal.Value.gate (Cert.ProjectReferenceIdeal.Value.cols1536 (Cert.ProjectReferenceIdeal.Value.product (m ((c : Thread nD τ).loc main_arg0)) (m ((c : Thread nD τ).loc main_arg1)) (m ((c : Thread nD τ).loc main_arg2)) (m ((c : Thread nD τ).loc main_arg3)))) (Cert.ProjectReferenceIdeal.Value.sums (m ((c : Thread nD τ).loc main_arg6)))) := by
  refine (final14 m c).trans ?_
  rw [Table.V_prompt, Table.V_sample, Table.V_gain, Table.V_weights, Table.V_bounds]
  refine full_ext _ _ fun r b => ?_
  rw [Cert.ProjectReferenceIdeal.Value.complement_at]
  exact congrArg (1 - ·) (gate_eq _ _ _ _ _ 1536 (by omega) _ (fun r b => (Cert.ProjectReferenceIdeal.Value.cols1536_at _ r b).trans (product_at _ _ _ _ 1536 (by omega) r b)) r b)

theorem result15 :
    (dats m 0 c).arrAt 15 (cfgs 0).N = (Cert.ProjectReferenceIdeal.Value.cols2048 (Cert.ProjectReferenceIdeal.Value.product (m ((c : Thread nD τ).loc main_arg0)) (m ((c : Thread nD τ).loc main_arg1)) (m ((c : Thread nD τ).loc main_arg2)) (m ((c : Thread nD τ).loc main_arg3)))) := by
  refine (final15 m c).trans ?_
  rw [Table.V_prompt, Table.V_sample, Table.V_gain, Table.V_weights]
  refine full_ext _ _ fun r b => ?_
  exact ((Cert.ProjectReferenceIdeal.Value.cols2048_at _ r b).trans (product_at _ _ _ _ 2048 (by omega) r b)).symm

theorem result16 :
    (dats m 0 c).arrAt 16 (cfgs 0).N = Cert.ProjectReferenceIdeal.Value.swished (Cert.ProjectReferenceIdeal.Value.cols2560 (Cert.ProjectReferenceIdeal.Value.product (m ((c : Thread nD τ).loc main_arg0)) (m ((c : Thread nD τ).loc main_arg1)) (m ((c : Thread nD τ).loc main_arg2)) (m ((c : Thread nD τ).loc main_arg3)))) := by
  refine (final16 m c).trans ?_
  rw [Table.V_prompt, Table.V_sample, Table.V_gain, Table.V_weights]
  refine full_ext _ _ fun r b => ?_
  rw [Cert.ProjectReferenceIdeal.Value.swished_at]
  exact congrArg (fun x => x * Ideal.logistic x) ((Cert.ProjectReferenceIdeal.Value.cols2560_at _ r b).trans (product_at _ _ _ _ 2560 (by omega) r b)).symm

theorem result17 :
    (dats m 0 c).arrAt 17 (cfgs 0).N = (Cert.ProjectReferenceIdeal.Value.cols3072 (Cert.ProjectReferenceIdeal.Value.product (m ((c : Thread nD τ).loc main_arg0)) (m ((c : Thread nD τ).loc main_arg1)) (m ((c : Thread nD τ).loc main_arg2)) (m ((c : Thread nD τ).loc main_arg3)))) := by
  refine (final17 m c).trans ?_
  rw [Table.V_prompt, Table.V_sample, Table.V_gain, Table.V_weights]
  refine full_ext _ _ fun r b => ?_
  exact ((Cert.ProjectReferenceIdeal.Value.cols3072_at _ r b).trans (product_at _ _ _ _ 3072 (by omega) r b)).symm

end Results

end Cert.ProjectIdeal.Equation

end
-- ==== Proof.lean ====
/- The certificate, of the attention, of the expert layers and of the input projection: the kernel and its ideal form and the
   reference run and leave their arguments. The attention's ideal form differs from its kernel in the masked scores alone, and the
   experts' and the projection's in nothing. At the ideal instance the kernel and the reference return equal results: the attention's
   where the prompt's queries and keys and the biases that a band reads are finite, the experts' where the layer is one of the two and
   some expert has a row, the projection's where the norm's gain and the weights of the queries and keys are finite. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Pre_rows_routed
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.Pre_finite_weights
public import proofs.«01_k».proof.Proof.Equation
public import proofs.«01_k».proof.Proof.Table
public import proofs.«01_k».proof.Proof.ExpertsBitsHost
public import proofs.«01_k».proof.Proof.ExpertsEquation
public import proofs.«01_k».proof.Proof.ExpertsRefEq
public import proofs.«01_k».proof.Proof.ProjectEquation
public import Idealize.ShloMosaic.Adequacy
public import Idealize.ShloMosaic.Init

@[expose] public section

noncomputable section

namespace Cert.Proof

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite := fun m ρ _ => frame_reference m ρ trivial

/-- The masked scores are named and denote −∞ at the ideal instance. -/
theorem preserves : Cert.preserves_Kernel_KernelIdeal :=
  IdealRules.named_const.statement Cert.KernelIdeal.κ "mask" .f32 0xF149F2CA#32 ⊥ rfl

section Terms
open Cert.KernelIdeal Cert.KernelIdeal.Gen

/-- The kernel's output array as a function of its arguments. -/
theorem result (m : (ℓ : Loc nD τ sig) → Buf (Elt Ideal) ℓ) (c : Dev nD) :
    (dats m 0 c).arrAt 8 cfg0.N = Array.result (Equation.scaled (m ((c : Thread nD τ).loc main_arg0)))
      (m ((c : Thread nD τ).loc main_arg1)) (m ((c : Thread nD τ).loc main_arg2)) (Table.bias (m ((c : Thread nD τ).loc main_arg3))) := by
  refine (Array.final m c).trans ?_
  rw [Table.V_query, Table.V_key, Table.V_value, Table.V_bias]
  rfl

end Terms

/-- At the ideal instance the kernel's result is the reference's. -/
theorem algebraic : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hQ, hK, hB⟩ := Cert.Finiteness.real_of_pre _ _ _ _ (hpre c)
  obtain ⟨e0, e1, e2, e3⟩ := hagree c
  refine (Cert.ReferenceIdeal.Value.res_eq m' c).trans ?_
  rw [e0, e1, e2, e3]
  exact (Equation.result_eq _ _ _ _ hQ hK hB).symm.trans (result m c).symm

/-- The experts' precondition, as the kernel's proof takes it. -/
theorem routed (m : (ℓ : Loc Cert.Experts.nD Cert.Experts.τ Cert.Experts.sig) → Buf (Elt Bits) ℓ) (h : Cert.Pre_Experts m) :
    Cert.Experts.Hand.Routed m :=
  ⟨(Plan.routed _ _ _ _ _ _ (h 0)).1, (Plan.routed _ _ _ _ _ _ (h 0)).2⟩

theorem routed_ideal (m : (ℓ : Loc Cert.ExpertsIdeal.nD Cert.ExpertsIdeal.τ Cert.ExpertsIdeal.sig) → Buf (Elt Ideal) ℓ) (h : Cert.Pre_ExpertsIdeal m) :
    Cert.ExpertsIdeal.Hand.Routed m :=
  ⟨(Plan.routed _ _ _ _ _ _ (h 0)).1, (Plan.routed _ _ _ _ _ _ (h 0)).2⟩

theorem frame_experts : Cert.quiescent_Experts := fun m ρ h => Cert.Experts.Hand.frame m (routed m h) ρ

theorem frame_experts_ideal : Cert.quiescent_ExpertsIdeal := fun m ρ h => Cert.ExpertsIdeal.Hand.frame m (routed_ideal m h) ρ

theorem frame_experts_reference : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

theorem frame_experts_reference_routed : Cert.quiescent_ExpertsReferenceIdeal_pre_rows_routed := fun m ρ _ => frame_experts_reference m ρ trivial

/-- The experts' ideal form is the program's own text. -/
theorem preserves_experts : Cert.preserves_Experts_ExpertsIdeal := trivial

/-- At the ideal instance the expert kernel's result is the reference's. -/
theorem algebraic_experts : Cert.algebraic_ExpertsIdeal_ExpertsReferenceIdeal := by
  intro m ρ m' ρ' hpre hagree
  refine ⟨_, Cert.ExpertsIdeal.Hand.run_value m (routed_ideal m hpre) ρ, ?_⟩
  refine (θ_run Cert.ExpertsReferenceIdeal.defs _ _).mono (fun _ h c => ⟨(h c).1.trans ?_, (h c).2⟩)
    (Cert.ExpertsReferenceIdeal.Value.run (F := Ideal) m' ρ')
  obtain ⟨e0, e1, e2, e3, e4, e5⟩ := hagree c
  refine (Cert.ExpertsReferenceIdeal.Value.res_eq m' c).trans ?_
  rw [e0, e1, e2, e3, e4, e5]

theorem frame_project : Cert.quiescent_Project := fun m ρ _ => Cert.Project.Gen.frame m ρ

theorem frame_project_ideal : Cert.quiescent_ProjectIdeal := fun m ρ _ => Cert.ProjectIdeal.Gen.frame m ρ

theorem frame_project_ideal_finite : Cert.quiescent_ProjectIdeal_pre_finite_weights := fun m ρ _ => Cert.ProjectIdeal.Gen.frame m ρ

theorem frame_project_reference : Cert.quiescent_ProjectReferenceIdeal := fun m ρ _ =>
  (θ_run Cert.ProjectReferenceIdeal.defs _ _).mono
    (fun r h => ⟨fun c => (h c).2.2.2.2.2.2.2.2.2.2, sem_eq_zero_of_no_sems (by decide) r.2⟩)
    (Cert.ProjectReferenceIdeal.Value.run (F := Ideal) m ρ)

theorem frame_project_reference_finite : Cert.quiescent_ProjectReferenceIdeal_pre_finite_weights := fun m ρ _ =>
  frame_project_reference m ρ trivial

/-- The projection's ideal form is the program's own text. -/
theorem preserves_project : Cert.preserves_Project_ProjectIdeal := trivial

set_option maxHeartbeats 4000000 in
/-- At the ideal instance the projection's ten results are the reference's. -/
theorem algebraic_project : Cert.algebraic_ProjectIdeal_ProjectReferenceIdeal_pre_finite_weights := by
  intro m ρ m' ρ' hpre hagree
  refine ⟨_, _, _, _, _, _, _, _, _, _, Cert.ProjectIdeal.Value.run_blocks (F := Ideal) m ρ, ?_⟩
  refine (θ_run Cert.ProjectReferenceIdeal.defs _ _).mono (fun _ h c => ?_) (Cert.ProjectReferenceIdeal.Value.run (F := Ideal) m' ρ')
  obtain ⟨h2, h3⟩ := Cert.ProjectIdeal.Equation.real_of_pre _ _ _ _ _ _ _ (hpre c)
  obtain ⟨e0, e1, e2, e3, e4, e5, e6⟩ := hagree c
  obtain ⟨q0, q1, q2, q3, q4, q5, q6, q7, q8, q9, hargs⟩ := h c
  refine ⟨q0.trans ?_, q1.trans ?_, q2.trans ?_, q3.trans ?_, q4.trans ?_, q5.trans ?_, q6.trans ?_, q7.trans ?_, q8.trans ?_, q9.trans ?_, hargs⟩
  · refine (Cert.ProjectReferenceIdeal.Value.res0_eq m' c).trans ?_
    rewrite [e0, e1, e2, e3, e4]
    exact (Cert.ProjectIdeal.Equation.result8 m c h2 h3).symm
  · refine (Cert.ProjectReferenceIdeal.Value.res1_eq m' c).trans ?_
    rewrite [e0, e1, e2, e3, e5]
    exact (Cert.ProjectIdeal.Equation.result9 m c h2 h3).symm
  · refine (Cert.ProjectReferenceIdeal.Value.res2_eq m' c).trans ?_
    rewrite [e0, e1, e2, e3]
    exact (Cert.ProjectIdeal.Equation.result10 m c).symm
  · refine (Cert.ProjectReferenceIdeal.Value.res3_eq m' c).trans ?_
    rewrite [e0, e1, e2, e3, e5]
    exact (Cert.ProjectIdeal.Equation.result11 m c h2 h3).symm
  · rewrite [e0, e1, e2, e3]
    exact (Cert.ProjectIdeal.Equation.result12 m c).symm
  · refine (Cert.ProjectReferenceIdeal.Value.res5_eq m' c).trans ?_
    rewrite [e0, e1, e2, e3, e6]
    exact (Cert.ProjectIdeal.Equation.result13 m c).symm
  · refine (Cert.ProjectReferenceIdeal.Value.res6_eq m' c).trans ?_
    rewrite [e0, e1, e2, e3, e6]
    exact (Cert.ProjectIdeal.Equation.result14 m c).symm
  · rewrite [e0, e1, e2, e3]
    exact (Cert.ProjectIdeal.Equation.result15 m c).symm
  · rewrite [e0, e1, e2, e3]
    exact (Cert.ProjectIdeal.Equation.result16 m c).symm
  · rewrite [e0, e1, e2, e3]
    exact (Cert.ProjectIdeal.Equation.result17 m c).symm

theorem claim : Cert.Claim :=
  ⟨Cert.Kernel.Gen.facts, Cert.KernelIdeal.Gen.facts, Cert.ReferenceIdeal.Gen.facts, Cert.Experts.Gen.facts, Cert.ExpertsIdeal.Gen.facts,
    Cert.ExpertsReferenceIdeal.Gen.facts, Cert.Project.Gen.facts, Cert.ProjectIdeal.Gen.facts, Cert.ProjectReferenceIdeal.Gen.facts,
    Cert.Pre_finite.Gen.facts, Cert.Pre_rows_routed.Gen.facts, Cert.Pre_finite_weights.Gen.facts,
    frame_kernel, frame_ideal, frame_ideal_finite, frame_reference, frame_reference_finite,
    frame_experts, frame_experts_ideal, frame_experts_reference, frame_experts_reference_routed,
    frame_project, frame_project_ideal, frame_project_ideal_finite, frame_project_reference, frame_project_reference_finite,
    preserves, algebraic, preserves_experts, algebraic_experts, preserves_project, algebraic_project⟩

end Cert.Proof

end
